-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_qk [hPre_finite_qk : Cert.Pre_finite_qk.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_qk.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_qk [hPre_finite_qk : Cert.Pre_finite_qk.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_qk.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_swa [hPre_finite_swa : Cert.Pre_finite_swa.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_swa.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_swa [hPre_finite_swa : Cert.Pre_finite_swa.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_swa.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_qk [hKernel8Ideal : Cert.Kernel8Ideal.Facts] [hPre_finite_qk : Cert.Pre_finite_qk.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_qk m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_qk [hReference8Ideal : Cert.Reference8Ideal.Facts] [hPre_finite_qk : Cert.Pre_finite_qk.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_qk m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Kernel9Ideal_pre_finite_swa [hKernel9Ideal : Cert.Kernel9Ideal.Facts] [hPre_finite_swa : Cert.Pre_finite_swa.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_swa m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Reference9Ideal_pre_finite_swa [hReference9Ideal : Cert.Reference9Ideal.Facts] [hPre_finite_swa : Cert.Pre_finite_swa.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_swa m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v18)) (v1 : (c : Dev Cert.Kernel5Ideal.nD) → Buf (Elt Ideal) ((c.tc : Thread Cert.Kernel5Ideal.nD Cert.Kernel5Ideal.τ).loc Cert.Kernel5Ideal.main_v23)) (v2 : (c : Dev Cert.Kernel5Ideal.nD) → Buf (Elt Ideal) ((c.tc : Thread Cert.Kernel5Ideal.nD Cert.Kernel5Ideal.τ).loc Cert.Kernel5Ideal.main_v24)) (v3 : (c : Dev Cert.Kernel5Ideal.nD) → Buf (Elt Ideal) ((c.tc : Thread Cert.Kernel5Ideal.nD Cert.Kernel5Ideal.τ).loc Cert.Kernel5Ideal.main_v19)) (v4 : (c : Dev Cert.Kernel5Ideal.nD) → Buf (Elt Ideal) ((c.tc : Thread Cert.Kernel5Ideal.nD Cert.Kernel5Ideal.τ).loc Cert.Kernel5Ideal.main_v21)) (v5 : (c : Dev Cert.Kernel5Ideal.nD) → Buf (Elt Ideal) ((c.tc : Thread Cert.Kernel5Ideal.nD Cert.Kernel5Ideal.τ).loc Cert.Kernel5Ideal.main_v20)) (v6 : (c : Dev Cert.Kernel5Ideal.nD) → Buf (Elt Ideal) ((c.tc : Thread Cert.Kernel5Ideal.nD Cert.Kernel5Ideal.τ).loc Cert.Kernel5Ideal.main_v22)) (v7 : (c : Dev Cert.Kernel5Ideal.nD) → Buf (Elt Ideal) ((c.tc : Thread Cert.Kernel5Ideal.nD Cert.Kernel5Ideal.τ).loc Cert.Kernel5Ideal.main_v25)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_v23) = v1 c
          ∧ r.2.mem ((c.tc : Thread Cert.Kernel5Ideal.nD Cert.Kernel5Ideal.τ).loc Cert.Kernel5Ideal.main_v24) = v2 c
          ∧ r.2.mem ((c.tc : Thread Cert.Kernel5Ideal.nD Cert.Kernel5Ideal.τ).loc Cert.Kernel5Ideal.main_v19) = v3 c
          ∧ r.2.mem ((c.tc : Thread Cert.Kernel5Ideal.nD Cert.Kernel5Ideal.τ).loc Cert.Kernel5Ideal.main_v21) = v4 c
          ∧ r.2.mem ((c.tc : Thread Cert.Kernel5Ideal.nD Cert.Kernel5Ideal.τ).loc Cert.Kernel5Ideal.main_v20) = v5 c
          ∧ r.2.mem ((c.tc : Thread Cert.Kernel5Ideal.nD Cert.Kernel5Ideal.τ).loc Cert.Kernel5Ideal.main_v22) = v6 c
          ∧ r.2.mem ((c.tc : Thread Cert.Kernel5Ideal.nD Cert.Kernel5Ideal.τ).loc Cert.Kernel5Ideal.main_v25) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v34) = v2 c
          ∧ r.2.mem ((c.tc : Thread Cert.Reference5Ideal.nD Cert.Reference5Ideal.τ).loc Cert.Reference5Ideal.main_v35) = v3 c
          ∧ r.2.mem ((c.tc : Thread Cert.Reference5Ideal.nD Cert.Reference5Ideal.τ).loc Cert.Reference5Ideal.main_v36) = v4 c
          ∧ r.2.mem ((c.tc : Thread Cert.Reference5Ideal.nD Cert.Reference5Ideal.τ).loc Cert.Reference5Ideal.main_v37) = v5 c
          ∧ r.2.mem ((c.tc : Thread Cert.Reference5Ideal.nD Cert.Reference5Ideal.τ).loc Cert.Reference5Ideal.main_v38) = v6 c
          ∧ r.2.mem ((c.tc : Thread Cert.Reference5Ideal.nD Cert.Reference5Ideal.τ).loc Cert.Reference5Ideal.main_v39) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v38)) (v1 : (c : Dev Cert.Kernel6Ideal.nD) → Buf (Elt Ideal) ((c.tc : Thread Cert.Kernel6Ideal.nD Cert.Kernel6Ideal.τ).loc Cert.Kernel6Ideal.main_v40)) (v2 : (c : Dev Cert.Kernel6Ideal.nD) → Buf (Elt Ideal) ((c.tc : Thread Cert.Kernel6Ideal.nD Cert.Kernel6Ideal.τ).loc Cert.Kernel6Ideal.main_v35)) (v3 : (c : Dev Cert.Kernel6Ideal.nD) → Buf (Elt Ideal) ((c.tc : Thread Cert.Kernel6Ideal.nD Cert.Kernel6Ideal.τ).loc Cert.Kernel6Ideal.main_v33)) (v4 : (c : Dev Cert.Kernel6Ideal.nD) → Buf (Elt Ideal) ((c.tc : Thread Cert.Kernel6Ideal.nD Cert.Kernel6Ideal.τ).loc Cert.Kernel6Ideal.main_v43)) (v5 : (c : Dev Cert.Kernel6Ideal.nD) → Buf (Elt Ideal) ((c.tc : Thread Cert.Kernel6Ideal.nD Cert.Kernel6Ideal.τ).loc Cert.Kernel6Ideal.main_v46)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v38) = v0 c
          ∧ r.2.mem ((c.tc : Thread Cert.Kernel6Ideal.nD Cert.Kernel6Ideal.τ).loc Cert.Kernel6Ideal.main_v40) = v1 c
          ∧ r.2.mem ((c.tc : Thread Cert.Kernel6Ideal.nD Cert.Kernel6Ideal.τ).loc Cert.Kernel6Ideal.main_v35) = v2 c
          ∧ r.2.mem ((c.tc : Thread Cert.Kernel6Ideal.nD Cert.Kernel6Ideal.τ).loc Cert.Kernel6Ideal.main_v33) = v3 c
          ∧ r.2.mem ((c.tc : Thread Cert.Kernel6Ideal.nD Cert.Kernel6Ideal.τ).loc Cert.Kernel6Ideal.main_v43) = v4 c
          ∧ r.2.mem ((c.tc : Thread Cert.Kernel6Ideal.nD Cert.Kernel6Ideal.τ).loc Cert.Kernel6Ideal.main_v46) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_v34) = v2 c
          ∧ r.2.mem ((c.tc : Thread Cert.Reference6Ideal.nD Cert.Reference6Ideal.τ).loc Cert.Reference6Ideal.main_v37) = v3 c
          ∧ r.2.mem ((c.tc : Thread Cert.Reference6Ideal.nD Cert.Reference6Ideal.τ).loc Cert.Reference6Ideal.main_v38) = v4 c
          ∧ r.2.mem ((c.tc : Thread Cert.Reference6Ideal.nD Cert.Reference6Ideal.τ).loc Cert.Reference6Ideal.main_v39) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "c" .f32 0x3E0293EE#32 (((11863283 / 134217728) * (Real.log 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  IdealRules.named_const.Statement Cert.Kernel8Ideal.κ "c" .f32 0x3E0293EE#32 (((11863283 / 134217728) * (Real.log 2)⁻¹ : ℝ) : EReal)

def algebraic_Kernel8Ideal_Reference8Ideal_pre_finite_qk [hKernel8Ideal : Cert.Kernel8Ideal.Facts] [hReference8Ideal : Cert.Reference8Ideal.Facts] [hPre_finite_qk : Cert.Pre_finite_qk.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_qk m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite_swa [hKernel9Ideal : Cert.Kernel9Ideal.Facts] [hReference9Ideal : Cert.Reference9Ideal.Facts] [hPre_finite_swa : Cert.Pre_finite_swa.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_swa m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v26)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v26) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v44) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite_qk : Cert.Pre_finite_qk.Facts) (hPre_finite_swa : Cert.Pre_finite_swa.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_qk (hKernel8Ideal := hKernel8Ideal) (hPre_finite_qk := hPre_finite_qk)
    ∧ quiescent_Reference8Ideal (hReference8Ideal := hReference8Ideal)
    ∧ quiescent_Reference8Ideal_pre_finite_qk (hReference8Ideal := hReference8Ideal) (hPre_finite_qk := hPre_finite_qk)
    ∧ quiescent_Kernel9 (hKernel9 := hKernel9)
    ∧ quiescent_Kernel9Ideal (hKernel9Ideal := hKernel9Ideal)
    ∧ quiescent_Kernel9Ideal_pre_finite_swa (hKernel9Ideal := hKernel9Ideal) (hPre_finite_swa := hPre_finite_swa)
    ∧ quiescent_Reference9Ideal (hReference9Ideal := hReference9Ideal)
    ∧ quiescent_Reference9Ideal_pre_finite_swa (hReference9Ideal := hReference9Ideal) (hPre_finite_swa := hPre_finite_swa)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_qk (hKernel8Ideal := hKernel8Ideal) (hReference8Ideal := hReference8Ideal) (hPre_finite_qk := hPre_finite_qk)
    ∧ preserves_Kernel9_Kernel9Ideal
    ∧ algebraic_Kernel9Ideal_Reference9Ideal_pre_finite_swa (hKernel9Ideal := hKernel9Ideal) (hReference9Ideal := hReference9Ideal) (hPre_finite_swa := hPre_finite_swa)
-- ==== Pre_finite.lean ====
abbrev S16384x4608 : Shape := ⟨2, ![16384, 4608]⟩
abbrev S4x64 : Shape := ⟨2, ![4, 64]⟩
abbrev S128 : Shape := ⟨1, ![128]⟩
abbrev S_ : Shape := ⟨0, ![]⟩

class Facts : Prop where
  bcast_S_S16384x4608 : S_.BroadcastsInDim S16384x4608 (![] : Fin 0 → Fin S16384x4608.rank)
  reducesTo_S16384x4608_S_d0_1 : S16384x4608.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16384x4608 .f32) (main_arg1 : FVec F S4x64 .f32) (main_arg2 : FVec F S128 .f32) : IVec S_ 1 :=
  let main_v0 : FVec F S16384x4608 .f32 := Host.absf main_arg0
  let main_cst : FVec F S_ .f32 := constant S_ .f32 0x7F800000#32
  let main_v1 : FVec F S16384x4608 .f32 := broadcastInDim S16384x4608 ![] bcast_S_S16384x4608 main_cst
  let main_v2 : IVec S16384x4608 1 := cmpf .olt main_v0 main_v1
  let main_c : IVec S_ 1 := constantI S_ 1 1#1
  let main_v3 : IVec S_ 1 := (fun x v => Host.reduce IntOp.andi x v reducesTo_S16384x4608_S_d0_1 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Pre_finite_qk.lean ====
abbrev S16384x2048 : Shape := ⟨2, ![16384, 2048]⟩
abbrev S16384x256 : Shape := ⟨2, ![16384, 256]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S16384x2048 .f32) (main_arg1 : FVec F S16384x256 .f32) (main_arg2 : FVec F S16384x256 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Pre_finite_swa.lean ====
abbrev S16384x4608 : Shape := ⟨2, ![16384, 4608]⟩
abbrev S16 : Shape := ⟨1, ![16]⟩
abbrev S16384x1280 : Shape := ⟨2, ![16384, 1280]⟩
abbrev S_ : Shape := ⟨0, ![]⟩

class Facts : Prop where
  slices_S16384x4608_S16384x1280_0_3072 : S16384x4608.Slices ![0, 3072] S16384x1280
  bcast_S_S16384x1280 : S_.BroadcastsInDim S16384x1280 (![] : Fin 0 → Fin S16384x1280.rank)
  reducesTo_S16384x1280_S_d0_1 : S16384x1280.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16384x4608 .f32) (main_arg1 : FVec F S16 .f32) : IVec S_ 1 :=
  let main_v0 : FVec F S16384x1280 .f32 := (extractStridedSlice S16384x1280 ![0, 3072] · slices_S16384x4608_S16384x1280_0_3072) main_arg0
  let main_v1 : FVec F S16384x1280 .f32 := Host.absf main_v0
  let main_cst : FVec F S_ .f32 := constant S_ .f32 0x7F800000#32
  let main_v2 : FVec F S16384x1280 .f32 := broadcastInDim S16384x1280 ![] bcast_S_S16384x1280 main_cst
  let main_v3 : IVec S16384x1280 1 := cmpf .olt main_v1 main_v2
  let main_c : IVec S_ 1 := constantI S_ 1 1#1
  let main_v4 : IVec S_ 1 := (fun x v => Host.reduce IntOp.andi x v reducesTo_S16384x1280_S_d0_1 h_S_) main_v3 main_c
  let main_cst_0 : FVec F S_ .f32 := constant S_ .f32 0x7F800000#32
  let main_v5 : FVec F S16 .f32 := broadcastInDim S16 ![] bcast_S_S16 main_cst_0
  let main_v6 : IVec S16 1 := cmpf .olt main_arg1 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v4 main_v7
  main_v8
-- ==== Kernel.lean ====
abbrev S16384x4608 : Shape := ⟨2, ![16384, 4608]⟩
abbrev S4x64 : Shape := ⟨2, ![4, 64]⟩
abbrev S128 : Shape := ⟨1, ![128]⟩
abbrev S16384x1024 : Shape := ⟨2, ![16384, 1024]⟩
abbrev S16384x2x8x64 : Shape := ⟨4, ![16384, 2, 8, 64]⟩
abbrev S16384x256 : Shape := ⟨2, ![16384, 256]⟩
abbrev S16384x4x1x64 : Shape := ⟨4, ![16384, 4, 1, 64]⟩
abbrev S_ : Shape := ⟨0, ![]⟩
abbrev S16384x8x2x64 : Shape := ⟨4, ![16384, 8, 2, 64]⟩
abbrev S16384x4x2x64 : Shape := ⟨4, ![16384, 4, 2, 64]⟩
abbrev S16384x512 : Shape := ⟨2, ![16384, 512]⟩
abbrev S16384x5120 : Shape := ⟨2, ![16384, 5120]⟩
abbrev S16384x3584 : Shape := ⟨2, ![16384, 3584]⟩
abbrev S16384x1536 : Shape := ⟨2, ![16384, 1536]⟩
abbrev S1x128 : Shape := ⟨2, ![1, 128]⟩
abbrev S512x128 : Shape := ⟨2, ![512, 128]⟩
abbrev S8192x128 : Shape := ⟨2, ![8192, 128]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩
abbrev S1x64 : Shape := ⟨2, ![1, 64]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 33
  | .vmem => 10
  | .smem => 0
  | _ => 0

abbrev bufTy : (tb : Table) → Fin (tcTables nBuf tb) → BufTy
  | .hbm, ⟨0, _⟩ => ⟨S16384x4608, .f32⟩
  | .hbm, ⟨1, _⟩ => ⟨S4x64, .f32⟩
  | .hbm, ⟨2, _⟩ => ⟨S128, .f32⟩
  | .hbm, ⟨3, _⟩ => ⟨S16384x1024, .f32⟩
  | .hbm, ⟨4, _⟩ => ⟨S16384x2x8x64, .f32⟩
  | .hbm, ⟨5, _⟩ => ⟨S16384x1024, .f32⟩
  | .hbm, ⟨6, _⟩ => ⟨S16384x2x8x64, .f32⟩
  | .hbm, ⟨7, _⟩ => ⟨S16384x1024, .f32⟩
  | .hbm, ⟨8, _⟩ => ⟨S16384x1024, .f32⟩
  | .hbm, ⟨9, _⟩ => ⟨S16384x256, .f32⟩
  | .hbm, ⟨10, _⟩ => ⟨S16384x4x1x64, .f32⟩
  | .hbm, ⟨11, _⟩ => ⟨S16384x256, .f32⟩
  | .hbm, ⟨12, _⟩ => ⟨S16384x4x1x64, .f32⟩
  | .hbm, ⟨13, _⟩ => ⟨S_, .f32⟩
  | .hbm, ⟨14, _⟩ => ⟨S16384x2x8x64, .f32⟩
  | .hbm, ⟨15, _⟩ => ⟨S16384x2x8x64, .f32⟩
  | .hbm, ⟨16, _⟩ => ⟨S16384x8x2x64, .f32⟩
  | .hbm, ⟨17, _⟩ => ⟨S16384x1024, .f32⟩
  | .hbm, ⟨18, _⟩ => ⟨S16384x8x2x64, .f32⟩
  | .hbm, ⟨19, _⟩ => ⟨S16384x1024, .f32⟩
  | .hbm, ⟨20, _⟩ => ⟨S16384x4x2x64, .f32⟩
  | .hbm, ⟨21, _⟩ => ⟨S16384x512, .f32⟩
  | .hbm, ⟨22, _⟩ => ⟨S16384x4x2x64, .f32⟩
  | .hbm, ⟨23, _⟩ => ⟨S16384x512, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x5120, .f32⟩
  | .hbm, ⟨28, _⟩ => ⟨S16384x5120, .bf16⟩
  | .hbm, ⟨29, _⟩ => ⟨S16384x3584, .bf16⟩
  | .hbm, ⟨30, _⟩ => ⟨S16384x1536, .bf16⟩
  | .hbm, ⟨31, _⟩ => ⟨S1x128, .f32⟩
  | .hbm, ⟨32, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S4x64, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32_9 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v16 : BitVec 1 := Scalar.cmpi .sgt v0 c0_i32
  let v17 : BitVec 32 := Scalar.extui v16
  let c0_i32_5 : BitVec 32 := 0#32
  let v18 : BitVec 1 := Scalar.cmpi .slt v0 c0_i32_5
  let v19 : BitVec 32 := Scalar.extui v18
  let v20 : BitVec 32 := Scalar.subi v17 v19
  let c1024_i32 : BitVec 32 := 1024#32
  let c0_i32_6 : BitVec 32 := 0#32
  let v21 : BitVec 1 := Scalar.cmpi .sgt c1024_i32 c0_i32_6
  let v22 : BitVec 32 := Scalar.extui v21
  let c0_i32_7 : BitVec 32 := 0#32
  let v23 : BitVec 1 := Scalar.cmpi .slt c1024_i32 c0_i32_7
  let v24 : BitVec 32 := Scalar.extui v23
  let v25 : BitVec 32 := Scalar.subi v22 v24
  let v26 : BitVec 1 := Scalar.cmpi .ne v20 v25
  let v27 : BitVec 32 := Scalar.remsi v0 c1024_i32
  let c0_i32_8 : BitVec 32 := 0#32
  let v28 : BitVec 1 := Scalar.cmpi .ne v27 c0_i32_8
  let v29 : BitVec 1 := Scalar.andi v26 v28
  let v15 : BitVec 32 := Scalar.divsi v0 c1024_i32
  let c1_i32 : BitVec 32 := 1#32
  let v30 : BitVec 32 := Scalar.subi v15 c1_i32
  let v31 : BitVec 32 := Scalar.select v29 v30 v15
  let v32 : BitVec 32 := Scalar.subi v31 c0_i32_9
  let c1_i32_10 : BitVec 32 := 1#32
  let v34 : BitVec 32 := Scalar.divsi v32 c1_i32_10
  let v35 : BitVec 32 := Scalar.muli v34 c1_i32_10
  let v36 : BitVec 32 := Scalar.addi c0_i32_9 v35
  let c1_i32_11 : BitVec 32 := 1#32
  ⟨c0_i32_9, v36, c1_i32_11⟩
def k0_mult1 (i : grid0.Coords) (k0_t1 : Fin (k0_t1_loop i).trips) : BitVec 32 :=
  let c0_i32_9 : BitVec 32 := 0#32
  let c1_i32_11 : BitVec 32 := 1#32
  let arg9 : BitVec 32 := Scf.iv c0_i32_9 c1_i32_11 k0_t1
  let c1024_i32_40 : BitVec 32 := 1024#32
  let v130 : BitVec 32 := Scalar.muli arg9 c1024_i32_40
  v130
def k0_off1 (i : grid0.Coords) (k0_t1 : Fin (k0_t1_loop i).trips) : Fin 2 → Nat :=
  let c0_i32_9 : BitVec 32 := 0#32
  let c1_i32_11 : BitVec 32 := 1#32
  let arg9 : BitVec 32 := Scf.iv c0_i32_9 c1_i32_11 k0_t1
  let c1024_i32_40 : BitVec 32 := 1024#32
  let v130 : BitVec 32 := Scalar.muli arg9 c1024_i32_40
  let v131 : BitVec 32 := v130
  let v132 : Index := Scalar.indexCast v131
  let c0_41 : Index := 0#32
  ![v132.toNat, 0]
@[reducible] def k0_t2_loop (i : grid0.Coords) : Scf.Loop 32 :=
  let c0_i32_9 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v16 : BitVec 1 := Scalar.cmpi .sgt v0 c0_i32
  let v17 : BitVec 32 := Scalar.extui v16
  let c0_i32_5 : BitVec 32 := 0#32
  let v18 : BitVec 1 := Scalar.cmpi .slt v0 c0_i32_5
  let v19 : BitVec 32 := Scalar.extui v18
  let v20 : BitVec 32 := Scalar.subi v17 v19
  let c1024_i32 : BitVec 32 := 1024#32
  let c0_i32_6 : BitVec 32 := 0#32
  let v21 : BitVec 1 := Scalar.cmpi .sgt c1024_i32 c0_i32_6
  let v22 : BitVec 32 := Scalar.extui v21
  let c0_i32_7 : BitVec 32 := 0#32
  let v23 : BitVec 1 := Scalar.cmpi .slt c1024_i32 c0_i32_7
  let v24 : BitVec 32 := Scalar.extui v23
  let v25 : BitVec 32 := Scalar.subi v22 v24
  let v26 : BitVec 1 := Scalar.cmpi .ne v20 v25
  let v27 : BitVec 32 := Scalar.remsi v0 c1024_i32
  let c0_i32_8 : BitVec 32 := 0#32
  let v28 : BitVec 1 := Scalar.cmpi .ne v27 c0_i32_8
  let v29 : BitVec 1 := Scalar.andi v26 v28
  let v15 : BitVec 32 := Scalar.divsi v0 c1024_i32
  let c1_i32 : BitVec 32 := 1#32
  let v30 : BitVec 32 := Scalar.subi v15 c1_i32
  let v31 : BitVec 32 := Scalar.select v29 v30 v15
  let v32 : BitVec 32 := Scalar.subi v31 c0_i32_9
  let c1_i32_10 : BitVec 32 := 1#32
  let v34 : BitVec 32 := Scalar.divsi v32 c1_i32_10
  let v35 : BitVec 32 := Scalar.muli v34 c1_i32_10
  let v36 : BitVec 32 := Scalar.addi c0_i32_9 v35
  let v33 : BitVec 32 := Scalar.addi c0_i32_9 v32
  let c1_i32_12 : BitVec 32 := 1#32
  ⟨v36, v33, c1_i32_12⟩
def k0_mult2 (i : grid0.Coords) (k0_t2 : Fin (k0_t2_loop i).trips) : BitVec 32 :=
  let c0_i32_9 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v16 : BitVec 1 := Scalar.cmpi .sgt v0 c0_i32
  let v17 : BitVec 32 := Scalar.extui v16
  let c0_i32_5 : BitVec 32 := 0#32
  let v18 : BitVec 1 := Scalar.cmpi .slt v0 c0_i32_5
  let v19 : BitVec 32 := Scalar.extui v18
  let v20 : BitVec 32 := Scalar.subi v17 v19
  let c1024_i32 : BitVec 32 := 1024#32
  let c0_i32_6 : BitVec 32 := 0#32
  let v21 : BitVec 1 := Scalar.cmpi .sgt c1024_i32 c0_i32_6
  let v22 : BitVec 32 := Scalar.extui v21
  let c0_i32_7 : BitVec 32 := 0#32
  let v23 : BitVec 1 := Scalar.cmpi .slt c1024_i32 c0_i32_7
  let v24 : BitVec 32 := Scalar.extui v23
  let v25 : BitVec 32 := Scalar.subi v22 v24
  let v26 : BitVec 1 := Scalar.cmpi .ne v20 v25
  let v27 : BitVec 32 := Scalar.remsi v0 c1024_i32
  let c0_i32_8 : BitVec 32 := 0#32
  let v28 : BitVec 1 := Scalar.cmpi .ne v27 c0_i32_8
  let v29 : BitVec 1 := Scalar.andi v26 v28
  let v15 : BitVec 32 := Scalar.divsi v0 c1024_i32
  let c1_i32 : BitVec 32 := 1#32
  let v30 : BitVec 32 := Scalar.subi v15 c1_i32
  let v31 : BitVec 32 := Scalar.select v29 v30 v15
  let v32 : BitVec 32 := Scalar.subi v31 c0_i32_9
  let c1_i32_10 : BitVec 32 := 1#32
  let v34 : BitVec 32 := Scalar.divsi v32 c1_i32_10
  let v35 : BitVec 32 := Scalar.muli v34 c1_i32_10
  let v36 : BitVec 32 := Scalar.addi c0_i32_9 v35
  let c1_i32_12 : BitVec 32 := 1#32
  let arg9 : BitVec 32 := Scf.iv v36 c1_i32_12 k0_t2
  let c1024_i32_40 : BitVec 32 := 1024#32
  let v130 : BitVec 32 := Scalar.muli arg9 c1024_i32_40
  v130
def k0_off2 (i : grid0.Coords) (k0_t2 : Fin (k0_t2_loop i).trips) : Fin 2 → Nat :=
  let c0_i32_9 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v16 : BitVec 1 := Scalar.cmpi .sgt v0 c0_i32
  let v17 : BitVec 32 := Scalar.extui v16
  let c0_i32_5 : BitVec 32 := 0#32
  let v18 : BitVec 1 := Scalar.cmpi .slt v0 c0_i32_5
  let v19 : BitVec 32 := Scalar.extui v18
  let v20 : BitVec 32 := Scalar.subi v17 v19
  let c1024_i32 : BitVec 32 := 1024#32
  let c0_i32_6 : BitVec 32 := 0#32
  let v21 : BitVec 1 := Scalar.cmpi .sgt c1024_i32 c0_i32_6
  let v22 : BitVec 32 := Scalar.extui v21
  let c0_i32_7 : BitVec 32 := 0#32
  let v23 : BitVec 1 := Scalar.cmpi .slt c1024_i32 c0_i32_7
  let v24 : BitVec 32 := Scalar.extui v23
  let v25 : BitVec 32 := Scalar.subi v22 v24
  let v26 : BitVec 1 := Scalar.cmpi .ne v20 v25
  let v27 : BitVec 32 := Scalar.remsi v0 c1024_i32
  let c0_i32_8 : BitVec 32 := 0#32
  let v28 : BitVec 1 := Scalar.cmpi .ne v27 c0_i32_8
  let v29 : BitVec 1 := Scalar.andi v26 v28
  let v15 : BitVec 32 := Scalar.divsi v0 c1024_i32
  let c1_i32 : BitVec 32 := 1#32
  let v30 : BitVec 32 := Scalar.subi v15 c1_i32
  let v31 : BitVec 32 := Scalar.select v29 v30 v15
  let v32 : BitVec 32 := Scalar.subi v31 c0_i32_9
  let c1_i32_10 : BitVec 32 := 1#32
  let v34 : BitVec 32 := Scalar.divsi v32 c1_i32_10
  let v35 : BitVec 32 := Scalar.muli v34 c1_i32_10
  let v36 : BitVec 32 := Scalar.addi c0_i32_9 v35
  let c1_i32_12 : BitVec 32 := 1#32
  let arg9 : BitVec 32 := Scf.iv v36 c1_i32_12 k0_t2
  let c1024_i32_40 : BitVec 32 := 1024#32
  let v130 : BitVec 32 := Scalar.muli arg9 c1024_i32_40
  let v131 : BitVec 32 := v130
  let v132 : Index := Scalar.indexCast v131
  let c0_41 : Index := 0#32
  ![v132.toNat, 0]
def k0_mult3 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v16 : BitVec 1 := Scalar.cmpi .sgt v0 c0_i32
  let v17 : BitVec 32 := Scalar.extui v16
  let c0_i32_5 : BitVec 32 := 0#32
  let v18 : BitVec 1 := Scalar.cmpi .slt v0 c0_i32_5
  let v19 : BitVec 32 := Scalar.extui v18
  let v20 : BitVec 32 := Scalar.subi v17 v19
  let c1024_i32 : BitVec 32 := 1024#32
  let c0_i32_6 : BitVec 32 := 0#32
  let v21 : BitVec 1 := Scalar.cmpi .sgt c1024_i32 c0_i32_6
  let v22 : BitVec 32 := Scalar.extui v21
  let c0_i32_7 : BitVec 32 := 0#32
  let v23 : BitVec 1 := Scalar.cmpi .slt c1024_i32 c0_i32_7
  let v24 : BitVec 32 := Scalar.extui v23
  let v25 : BitVec 32 := Scalar.subi v22 v24
  let v26 : BitVec 1 := Scalar.cmpi .ne v20 v25
  let v27 : BitVec 32 := Scalar.remsi v0 c1024_i32
  let c0_i32_8 : BitVec 32 := 0#32
  let v28 : BitVec 1 := Scalar.cmpi .ne v27 c0_i32_8
  let v29 : BitVec 1 := Scalar.andi v26 v28
  let v15 : BitVec 32 := Scalar.divsi v0 c1024_i32
  let c1_i32 : BitVec 32 := 1#32
  let v30 : BitVec 32 := Scalar.subi v15 c1_i32
  let v31 : BitVec 32 := Scalar.select v29 v30 v15
  let c1024_i32_13 : BitVec 32 := 1024#32
  let v39 : BitVec 32 := Scalar.muli v31 c1024_i32_13
  v39
def k0_off3 (i : grid0.Coords) : Fin 2 → Nat :=
  let arg2 : BitVec 32 := BitVec.ofNat 32 (i 2).val
  let c512_i32 : BitVec 32 := 512#32
  let v0 : BitVec 32 := Scalar.muli arg2 c512_i32
  let c0_i32 : BitVec 32 := 0#32
  let v16 : BitVec 1 := Scalar.cmpi .sgt v0 c0_i32
  let v17 : BitVec 32 := Scalar.extui v16
  let c0_i32_5 : BitVec 32 := 0#32
  let v18 : BitVec 1 := Scalar.cmpi .slt v0 c0_i32_5
  let v19 : BitVec 32 := Scalar.extui v18
  let v20 : BitVec 32 := Scalar.subi v17 v19
  let c1024_i32 : BitVec 32 := 1024#32
  let c0_i32_6 : BitVec 32 := 0#32
  let v21 : BitVec 1 := Scalar.cmpi .sgt c1024_i32 c0_i32_6
  let v22 : BitVec 32 := Scalar.extui v21
  let c0_i32_7 : BitVec 32 := 0#32
  let v23 : BitVec 1 := Scalar.cmpi .slt c1024_i32 c0_i32_7
  let v24 : BitVec 32 := Scalar.extui v23
  let v25 : BitVec 32 := Scalar.subi v22 v24
  let v26 : BitVec 1 := Scalar.cmpi .ne v20 v25
  let v27 : BitVec 32 := Scalar.remsi v0 c1024_i32
  let c0_i32_8 : BitVec 32 := 0#32
  let v28 : BitVec 1 := Scalar.cmpi .ne v27 c0_i32_8
  let v29 : BitVec 1 := Scalar.andi v26 v28
  let v15 : BitVec 32 := Scalar.divsi v0 c1024_i32
  let c1_i32 : BitVec 32 := 1#32
  let v30 : BitVec 32 := Scalar.subi v15 c1_i32
  let v31 : BitVec 32 := Scalar.select v29 v30 v15
  let c1024_i32_13 : BitVec 32 := 1024#32
  let v39 : BitVec 32 := Scalar.muli v31 c1024_i32_13
  let v40 : BitVec 32 := v39
  let v41 : Index := Scalar.indexCast v40
  let c0_14 : Index := 0#32
  ![v41.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x4608 : Shape := ⟨2, ![16384, 4608]⟩
abbrev S4x64 : Shape := ⟨2, ![4, 64]⟩
abbrev S128 : Shape := ⟨1, ![128]⟩
abbrev S16384x1024 : Shape := ⟨2, ![16384, 1024]⟩
abbrev S2x8192x2x8x64 : Shape := ⟨5, ![2, 8192, 2, 8, 64]⟩
abbrev S2x8192x8x128 : Shape := ⟨4, ![2, 8192, 8, 128]⟩
abbrev S1x64 : Shape := ⟨2, ![1, 64]⟩
abbrev S64 : Shape := ⟨1, ![64]⟩
abbrev S_ : Shape := ⟨0, ![]⟩
abbrev S2x2x8x8192x8192 : Shape := ⟨5, ![2, 2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x1x8192x8192 : Shape := ⟨5, ![1, 1, 1, 8192, 8192]⟩
abbrev S2x2x8x8192 : Shape := ⟨4, ![2, 2, 8, 8192]⟩
abbrev S2x2x8x8192x1 : Shape := ⟨5, ![2, 2, 8, 8192, 1]⟩
abbrev S2x1x8x8192x8192 : Shape := ⟨5, ![2, 1, 8, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 96
  | .vmem => 0
  | .smem => 0
  | _ => 0

abbrev bufTy : (tb : Table) → Fin (tcTables nBuf tb) → BufTy
  | .hbm, ⟨0, _⟩ => ⟨S16384x4608, .f32⟩
  | .hbm, ⟨1, _⟩ => ⟨S4x64, .f32⟩
  | .hbm, ⟨2, _⟩ => ⟨S128, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S2x8192x2x8x64, .f32⟩
  | .hbm, ⟨7, _⟩ => ⟨S2x8192x2x8x64, .f32⟩
  | .hbm, ⟨8, _⟩ => ⟨S2x8192x8x128, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x2x8x8192x8192, .f32⟩
  | .hbm, ⟨29, _⟩ => ⟨S_, .f32⟩
  | .hbm, ⟨30, _⟩ => ⟨S2x2x8x8192x8192, .f32⟩
  | .hbm, ⟨31, _⟩ => ⟨S2x2x8x8192x8192, .f32⟩
  | .hbm, ⟨32, _⟩ => ⟨S8192, .i32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S1x1x1x8192x8192, .i1⟩
  | .hbm, ⟨39, _⟩ => ⟨S_, .f32⟩
  | .hbm, ⟨40, _⟩ => ⟨S_, .f32⟩
  | .hbm, ⟨41, _⟩ => ⟨S2x2x8x8192x8192, .i1⟩
  | .hbm, ⟨42, _⟩ => ⟨S2x2x8x8192x8192, .f32⟩
  | .hbm, ⟨43, _⟩ => ⟨S2x2x8x8192x8192, .f32⟩
  | .hbm, ⟨44, _⟩ => ⟨S_, .f32⟩
  | .hbm, ⟨45, _⟩ => ⟨S2x2x8x8192, .f32⟩
  | .hbm, ⟨46, _⟩ => ⟨S2x2x8x8192x1, .f32⟩
  | .hbm, ⟨47, _⟩ => ⟨S2x2x8x8192x1, .f32⟩
  | .hbm, ⟨48, _⟩ => ⟨S_, .f32⟩
  | .hbm, ⟨49, _⟩ => ⟨S2x2x8x8192x1, .f32⟩
  | .hbm, ⟨50, _⟩ => ⟨S2x2x8x8192x1, .i1⟩
  | .hbm, ⟨51, _⟩ => ⟨S_, .f32⟩
  | .hbm, ⟨52, _⟩ => ⟨S_, .f32⟩
  | .hbm, ⟨53, _⟩ => ⟨S2x2x8x8192x1, .f32⟩
  | .hbm, ⟨54, _⟩ => ⟨S2x2x8x8192x1, .f32⟩
  | .hbm, ⟨55, _⟩ => ⟨S2x2x8x8192x8192, .f32⟩
  | .hbm, ⟨56, _⟩ => ⟨S2x2x8x8192x8192, .f32⟩
  | .hbm, ⟨57, _⟩ => ⟨S2x2x8x8192x8192, .f32⟩
  | .hbm, ⟨58, _⟩ => ⟨S_, .f32⟩
  | .hbm, ⟨59, _⟩ => ⟨S2x2x8x8192, .f32⟩
  | .hbm, ⟨60, _⟩ => ⟨S2x2x8x8192x1, .f32⟩
  | .hbm, ⟨61, _⟩ => ⟨S_, .f32⟩
  | .hbm, ⟨62, _⟩ => ⟨S2x2x8x8192x1, .f32⟩
  | .hbm, ⟨63, _⟩ => ⟨S2x2x8x8192x1, .f32⟩
  | .hbm, ⟨64, _⟩ => ⟨S2x2x8x8192x8192, .f32⟩
  | .hbm, ⟨65, _⟩ => ⟨S2x2x8x8192x8192, .f32⟩
  | .hbm, ⟨66, _⟩ => ⟨S2x1x8x8192x8192, .f32⟩
  | .hbm, ⟨67, _⟩ => ⟨S2x8x8192x8192, .f32⟩
  | .hbm, ⟨68, _⟩ => ⟨S2x1x8x8192x8192, .f32⟩
  | .hbm, ⟨69, _⟩ => ⟨S2x8x8192x8192, .f32⟩
  | .hbm, ⟨70, _⟩ => ⟨S2x8x8192x8192, .f32⟩
  | .hbm, ⟨71, _⟩ => ⟨S2x8x8192x8192, .f32⟩
  | .hbm, ⟨72, _⟩ => ⟨S2x8x8192x8192, .f32⟩
  | .hbm, ⟨73, _⟩ => ⟨S2x8x128x8192, .f32⟩
  | .hbm, ⟨74, _⟩ => ⟨S2x8192x8x128, .f32⟩
  | .hbm, ⟨75, _⟩ => ⟨S2x8192x8x128, .f32⟩
  | .hbm, ⟨76, _⟩ => ⟨S_, .f32⟩
  | .hbm, ⟨77, _⟩ => ⟨S2x8192x8, .f32⟩
  | .hbm, ⟨78, _⟩ => ⟨S2x8192x8x1, .f32⟩
  | .hbm, ⟨79, _⟩ => ⟨S_, .f32⟩
  | .hbm, ⟨80, _⟩ => ⟨S2x8192x8x1, .f32⟩
  | .hbm, ⟨81, _⟩ => ⟨S2x8192x8x1, .f32⟩
  | .hbm, ⟨82, _⟩ => ⟨S_, .f32⟩
  | .hbm, ⟨83, _⟩ => ⟨S2x8192x8x1, .f32⟩
  | .hbm, ⟨84, _⟩ => ⟨S2x8192x8x1, .f32⟩
  | .hbm, ⟨85, _⟩ => ⟨S2x8192x8x1, .f32⟩
  | .hbm, ⟨86, _⟩ => ⟨S2x8192x8x128, .f32⟩
  | .hbm, ⟨87, _⟩ => ⟨S2x8192x8x128, .f32⟩
  | .hbm, ⟨88, _⟩ => ⟨S1x1x1x128, .f32⟩
  | .hbm, ⟨89, _⟩ => ⟨S2x8192x8x128, .f32⟩
  | .hbm, ⟨90, _⟩ => ⟨S2x8192x8x128, .f32⟩
  | .hbm, ⟨91, _⟩ => ⟨S_, .f32⟩
  | .hbm, ⟨92, _⟩ => ⟨S2x8192x8x128, .f32⟩
  | .hbm, ⟨93, _⟩ => ⟨S2x8192x8x128, .f32⟩
  | .hbm, ⟨94, _⟩ => ⟨S16384x1024, .f32⟩
  | .hbm, ⟨95, _⟩ => ⟨S16384x1024, .bf16⟩
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== Kernel2.lean ====
abbrev S2x8192x2048 : Shape := ⟨3, ![2, 8192, 2048]⟩
abbrev S2048x2048 : Shape := ⟨2, ![2048, 2048]⟩
abbrev S2x6144 : Shape := ⟨2, ![2, 6144]⟩
abbrev S16384x2048 : Shape := ⟨2, ![16384, 2048]⟩
abbrev S2x2048 : Shape := ⟨2, ![2, 2048]⟩
abbrev S2x1x2048 : Shape := ⟨3, ![2, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S2x6144, .f32⟩
  | .hbm, ⟨4, _⟩ => ⟨S16384x2048, .f32⟩
  | .hbm, ⟨5, _⟩ => ⟨S2x2048, .f32⟩
  | .hbm, ⟨6, _⟩ => ⟨S16384x2048, .f32⟩
  | .hbm, ⟨7, _⟩ => ⟨S16384x2048, .bf16⟩
  | .hbm, ⟨8, _⟩ => ⟨S2048x2048, .bf16⟩
  | .hbm, ⟨9, _⟩ => ⟨S2x1x2048, .f32⟩
  | .hbm, ⟨10, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x8192x2048 : Shape := ⟨3, ![2, 8192, 2048]⟩
abbrev S2048x2048 : Shape := ⟨2, ![2048, 2048]⟩
abbrev S2x6144 : Shape := ⟨2, ![2, 6144]⟩
abbrev S2x1x6144 : Shape := ⟨3, ![2, 1, 6144]⟩
abbrev S2x1x2048 : Shape := ⟨3, ![2, 1, 2048]⟩
abbrev S16384x2048 : Shape := ⟨2, ![16384, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S2x6144, .f32⟩
  | .hbm, ⟨4, _⟩ => ⟨S2x1x6144, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel3.lean ====
abbrev S2x8192x2048 : Shape := ⟨3, ![2, 8192, 2048]⟩
abbrev S2x6144 : Shape := ⟨2, ![2, 6144]⟩
abbrev S2048 : Shape := ⟨1, ![2048]⟩
abbrev S2048x2048 : Shape := ⟨2, ![2048, 2048]⟩
abbrev S16384x2048 : Shape := ⟨2, ![16384, 2048]⟩
abbrev S2x2048 : Shape := ⟨2, ![2, 2048]⟩
abbrev S1x2048 : Shape := ⟨2, ![1, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S2x8192x2048, .f32⟩
  | .hbm, ⟨1, _⟩ => ⟨S2x6144, .f32⟩
  | .hbm, ⟨2, _⟩ => ⟨S2048, .f32⟩
  | .hbm, ⟨3, _⟩ => ⟨S2048x2048, .f32⟩
  | .hbm, ⟨4, _⟩ => ⟨S16384x2048, .f32⟩
  | .hbm, ⟨5, _⟩ => ⟨S2x2048, .f32⟩
  | .hbm, ⟨6, _⟩ => ⟨S2x2048, .f32⟩
  | .hbm, ⟨7, _⟩ => ⟨S2048x2048, .bf16⟩
  | .hbm, ⟨8, _⟩ => ⟨S1x2048, .f32⟩
  | .hbm, ⟨9, _⟩ => ⟨S2x1x2048, .f32⟩
  | .hbm, ⟨10, _⟩ => ⟨S2x1x2048, .f32⟩
  | .hbm, ⟨11, _⟩ => ⟨S16384x2048, .bf16⟩
  | .hbm, ⟨12, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S2x8192x2048 : Shape := ⟨3, ![2, 8192, 2048]⟩
abbrev S2x6144 : Shape := ⟨2, ![2, 6144]⟩
abbrev S2048 : Shape := ⟨1, ![2048]⟩
abbrev S2048x2048 : Shape := ⟨2, ![2048, 2048]⟩
abbrev S2x1x6144 : Shape := ⟨3, ![2, 1, 6144]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x6144, .f32⟩
  | .hbm, ⟨2, _⟩ => ⟨S2048, .f32⟩
  | .hbm, ⟨3, _⟩ => ⟨S2048x2048, .f32⟩
  | .hbm, ⟨4, _⟩ => ⟨S2x1x6144, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x8192x2048, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S1x1x2048, .f32⟩
  | .hbm, ⟨22, _⟩ => ⟨S2x8192x2048, .f32⟩
  | .hbm, ⟨23, _⟩ => ⟨S2x8192x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2x8192x2048, .f32⟩
  | .hbm, ⟨32, _⟩ => ⟨S16384x2048, .f32⟩
  | .hbm, ⟨33, _⟩ => ⟨S16384x2048, .bf16⟩
  | .hbm, ⟨34, _⟩ => ⟨S16384x2048, .f32⟩
  | .hbm, ⟨35, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S2x8192x2048 : Shape := ⟨3, ![2, 8192, 2048]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2x8192x2048 : Shape := ⟨3, ![2, 8192, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x8192x2048, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x2048, .f32⟩
  | .hbm, ⟨14, _⟩ => ⟨S2x8192x2048, .f32⟩
  | .hbm, ⟨15, _⟩ => ⟨S1x1x2048, .f32⟩
  | .hbm, ⟨16, _⟩ => ⟨S2x8192x2048, .f32⟩
  | .hbm, ⟨17, _⟩ => ⟨S2x8192x2048, .f32⟩
  | .hbm, ⟨18, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S2x8192x2048 : Shape := ⟨3, ![2, 8192, 2048]⟩
abbrev S2x6144 : Shape := ⟨2, ![2, 6144]⟩
abbrev S2048 : Shape := ⟨1, ![2048]⟩
abbrev S2048x3632 : Shape := ⟨2, ![2048, 3632]⟩
abbrev S16384x2048 : Shape := ⟨2, ![16384, 2048]⟩
abbrev S2x2048 : Shape := ⟨2, ![2, 2048]⟩
abbrev S2048x2048 : Shape := ⟨2, ![2048, 2048]⟩
abbrev S2048x256 : Shape := ⟨2, ![2048, 256]⟩
abbrev S2048x48 : Shape := ⟨2, ![2048, 48]⟩
abbrev S_ : Shape := ⟨0, ![]⟩
abbrev S2048x208 : Shape := ⟨2, ![2048, 208]⟩
abbrev S2048x3840 : Shape := ⟨2, ![2048, 3840]⟩
abbrev S1x2048 : Shape := ⟨2, ![1, 2048]⟩
abbrev S2x1x2048 : Shape := ⟨3, ![2, 1, 2048]⟩
abbrev S16384x3840 : Shape := ⟨2, ![16384, 3840]⟩
abbrev S1024x2048 : Shape := ⟨2, ![1024, 2048]⟩
abbrev S1x1x2048 : Shape := ⟨3, ![1, 1, 2048]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩
abbrev S16384x256 : Shape := ⟨2, ![16384, 256]⟩
abbrev S16384x48 : Shape := ⟨2, ![16384, 48]⟩

abbrev nBuf : Space → Nat
  | .hbm => 31
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2x6144, .f32⟩
  | .hbm, ⟨2, _⟩ => ⟨S2048, .f32⟩
  | .hbm, ⟨3, _⟩ => ⟨S2048x3632, .f32⟩
  | .hbm, ⟨4, _⟩ => ⟨S16384x2048, .f32⟩
  | .hbm, ⟨5, _⟩ => ⟨S2x2048, .f32⟩
  | .hbm, ⟨6, _⟩ => ⟨S2x2048, .f32⟩
  | .hbm, ⟨7, _⟩ => ⟨S2048x2048, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S2048x48, .f32⟩
  | .hbm, ⟨15, _⟩ => ⟨S_, .f32⟩
  | .hbm, ⟨16, _⟩ => ⟨S2048x208, .f32⟩
  | .hbm, ⟨17, _⟩ => ⟨S2048x3840, .f32⟩
  | .hbm, ⟨18, _⟩ => ⟨S2048x3840, .bf16⟩
  | .hbm, ⟨19, _⟩ => ⟨S1x2048, .f32⟩
  | .hbm, ⟨20, _⟩ => ⟨S2x1x2048, .f32⟩
  | .hbm, ⟨21, _⟩ => ⟨S2x1x2048, .f32⟩
  | .hbm, ⟨22, _⟩ => ⟨S16384x3840, .f32⟩
  | .hbm, ⟨23, _⟩ => ⟨S16384x2048, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x48, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1280, .bf16⟩
  | .local _ .vmem, ⟨8, _⟩ => ⟨S2048x1280, .bf16⟩
  | .local _ .vmem, ⟨9, _⟩ => ⟨S1024x1280, .f32⟩
  | .local _ .vmem, ⟨10, _⟩ => ⟨S1024x1280, .f32⟩
  | .local _ .vmem, ⟨11, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S2x8192x2048 : Shape := ⟨3, ![2, 8192, 2048]⟩
abbrev S2x6144 : Shape := ⟨2, ![2, 6144]⟩
abbrev S2048 : Shape := ⟨1, ![2048]⟩
abbrev S2048x3632 : Shape := ⟨2, ![2048, 3632]⟩
abbrev S2x1x6144 : Shape := ⟨3, ![2, 1, 6144]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x3632 : Shape := ⟨3, ![2, 8192, 3632]⟩
abbrev S2x8192x256 : Shape := ⟨3, ![2, 8192, 256]⟩
abbrev S2x8192x48 : Shape := ⟨3, ![2, 8192, 48]⟩
abbrev S16384x2048 : Shape := ⟨2, ![16384, 2048]⟩
abbrev S16384x256 : Shape := ⟨2, ![16384, 256]⟩
abbrev S16384x48 : Shape := ⟨2, ![16384, 48]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x6144, .f32⟩
  | .hbm, ⟨2, _⟩ => ⟨S2048, .f32⟩
  | .hbm, ⟨3, _⟩ => ⟨S2048x3632, .f32⟩
  | .hbm, ⟨4, _⟩ => ⟨S2x1x6144, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x8192x2048, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S1x1x2048, .f32⟩
  | .hbm, ⟨22, _⟩ => ⟨S2x8192x2048, .f32⟩
  | .hbm, ⟨23, _⟩ => ⟨S2x8192x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2x8192x3632, .f32⟩
  | .hbm, ⟨32, _⟩ => ⟨S2x8192x2048, .f32⟩
  | .hbm, ⟨33, _⟩ => ⟨S2x8192x256, .f32⟩
  | .hbm, ⟨34, _⟩ => ⟨S2x8192x256, .f32⟩
  | .hbm, ⟨35, _⟩ => ⟨S2x8192x256, .f32⟩
  | .hbm, ⟨36, _⟩ => ⟨S2x8192x256, .f32⟩
  | .hbm, ⟨37, _⟩ => ⟨S2x8192x256, .f32⟩
  | .hbm, ⟨38, _⟩ => ⟨S2x8192x256, .f32⟩
  | .hbm, ⟨39, _⟩ => ⟨S2x8192x48, .f32⟩
  | .hbm, ⟨40, _⟩ => ⟨S16384x2048, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x48, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel6.lean ====
abbrev S2x8192x2048 : Shape := ⟨3, ![2, 8192, 2048]⟩
abbrev S2x6144 : Shape := ⟨2, ![2, 6144]⟩
abbrev S2048 : Shape := ⟨1, ![2048]⟩
abbrev S2048x4608 : Shape := ⟨2, ![2048, 4608]⟩
abbrev S16384x2048 : Shape := ⟨2, ![16384, 2048]⟩
abbrev S2x2048 : Shape := ⟨2, ![2, 2048]⟩
abbrev S2048x1024 : Shape := ⟨2, ![2048, 1024]⟩
abbrev S2048x2x8x64 : Shape := ⟨4, ![2048, 2, 8, 64]⟩
abbrev S2048x256 : Shape := ⟨2, ![2048, 256]⟩
abbrev S2048x4x1x64 : Shape := ⟨4, ![2048, 4, 1, 64]⟩
abbrev S_ : Shape := ⟨0, ![]⟩
abbrev S2048x8x2x64 : Shape := ⟨4, ![2048, 8, 2, 64]⟩
abbrev S2048x4x2x64 : Shape := ⟨4, ![2048, 4, 2, 64]⟩
abbrev S2048x512 : Shape := ⟨2, ![2048, 512]⟩
abbrev S2048x5120 : Shape := ⟨2, ![2048, 5120]⟩
abbrev S1x2048 : Shape := ⟨2, ![1, 2048]⟩
abbrev S2x1x2048 : Shape := ⟨3, ![2, 1, 2048]⟩
abbrev S16384x5120 : Shape := ⟨2, ![16384, 5120]⟩
abbrev S1024x2048 : Shape := ⟨2, ![1024, 2048]⟩
abbrev S1x1x2048 : Shape := ⟨3, ![1, 1, 2048]⟩
abbrev S1024x1024 : Shape := ⟨2, ![1024, 1024]⟩
abbrev S1024 : Shape := ⟨1, ![1024]⟩
abbrev S1024x1 : Shape := ⟨2, ![1024, 1]⟩
abbrev S16384x1024 : Shape := ⟨2, ![16384, 1024]⟩
abbrev S16384x512 : Shape := ⟨2, ![16384, 512]⟩
abbrev S16384x8x2x64 : Shape := ⟨4, ![16384, 8, 2, 64]⟩
abbrev S16384x2x8x64 : Shape := ⟨4, ![16384, 2, 8, 64]⟩
abbrev S16384x4x2x64 : Shape := ⟨4, ![16384, 4, 2, 64]⟩
abbrev S16384x4x1x64 : Shape := ⟨4, ![16384, 4, 1, 64]⟩
abbrev S16384x4x64 : Shape := ⟨3, ![16384, 4, 64]⟩

abbrev nBuf : Space → Nat
  | .hbm => 53
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S2x6144, .f32⟩
  | .hbm, ⟨2, _⟩ => ⟨S2048, .f32⟩
  | .hbm, ⟨3, _⟩ => ⟨S2048x4608, .f32⟩
  | .hbm, ⟨4, _⟩ => ⟨S16384x2048, .f32⟩
  | .hbm, ⟨5, _⟩ => ⟨S2x2048, .f32⟩
  | .hbm, ⟨6, _⟩ => ⟨S2x2048, .f32⟩
  | .hbm, ⟨7, _⟩ => ⟨S2048x1024, .f32⟩
  | .hbm, ⟨8, _⟩ => ⟨S2048x2x8x64, .f32⟩
  | .hbm, ⟨9, _⟩ => ⟨S2048x1024, .f32⟩
  | .hbm, ⟨10, _⟩ => ⟨S2048x2x8x64, .f32⟩
  | .hbm, ⟨11, _⟩ => ⟨S2048x1024, .f32⟩
  | .hbm, ⟨12, _⟩ => ⟨S2048x1024, .f32⟩
  | .hbm, ⟨13, _⟩ => ⟨S2048x256, .f32⟩
  | .hbm, ⟨14, _⟩ => ⟨S2048x4x1x64, .f32⟩
  | .hbm, ⟨15, _⟩ => ⟨S2048x256, .f32⟩
  | .hbm, ⟨16, _⟩ => ⟨S2048x4x1x64, .f32⟩
  | .hbm, ⟨17, _⟩ => ⟨S_, .f32⟩
  | .hbm, ⟨18, _⟩ => ⟨S2048x2x8x64, .f32⟩
  | .hbm, ⟨19, _⟩ => ⟨S2048x2x8x64, .f32⟩
  | .hbm, ⟨20, _⟩ => ⟨S2048x8x2x64, .f32⟩
  | .hbm, ⟨21, _⟩ => ⟨S2048x1024, .f32⟩
  | .hbm, ⟨22, _⟩ => ⟨S2048x8x2x64, .f32⟩
  | .hbm, ⟨23, _⟩ => ⟨S2048x1024, .f32⟩
  | .hbm, ⟨24, _⟩ => ⟨S2048x4x2x64, .f32⟩
  | .hbm, ⟨25, _⟩ => ⟨S2048x512, .f32⟩
  | .hbm, ⟨26, _⟩ => ⟨S2048x4x2x64, .f32⟩
  | .hbm, ⟨27, _⟩ => ⟨S2048x512, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x5120, .f32⟩
  | .hbm, ⟨32, _⟩ => ⟨S2048x5120, .bf16⟩
  | .hbm, ⟨33, _⟩ => ⟨S1x2048, .f32⟩
  | .hbm, ⟨34, _⟩ => ⟨S2x1x2048, .f32⟩
  | .hbm, ⟨35, _⟩ => ⟨S2x1x2048, .f32⟩
  | .hbm, ⟨36, _⟩ => ⟨S16384x5120, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x512, .f32⟩
  | .hbm, ⟨41, _⟩ => ⟨S16384x1024, .f32⟩
  | .hbm, ⟨42, _⟩ => ⟨S16384x512, .f32⟩
  | .hbm, ⟨43, _⟩ => ⟨S16384x8x2x64, .f32⟩
  | .hbm, ⟨44, _⟩ => ⟨S16384x2x8x64, .f32⟩
  | .hbm, ⟨45, _⟩ => ⟨S16384x8x2x64, .f32⟩
  | .hbm, ⟨46, _⟩ => ⟨S16384x2x8x64, .f32⟩
  | .hbm, ⟨47, _⟩ => ⟨S16384x4x2x64, .f32⟩
  | .hbm, ⟨48, _⟩ => ⟨S16384x4x1x64, .f32⟩
  | .hbm, ⟨49, _⟩ => ⟨S16384x4x64, .f32⟩
  | .hbm, ⟨50, _⟩ => ⟨S16384x4x2x64, .f32⟩
  | .hbm, ⟨51, _⟩ => ⟨S16384x4x1x64, .f32⟩
  | .hbm, ⟨52, _⟩ => ⟨S16384x4x64, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2x8192x2048 : Shape := ⟨3, ![2, 8192, 2048]⟩
abbrev S2x6144 : Shape := ⟨2, ![2, 6144]⟩
abbrev S2048 : Shape := ⟨1, ![2048]⟩
abbrev S2048x4608 : Shape := ⟨2, ![2048, 4608]⟩
abbrev S2x1x6144 : Shape := ⟨3, ![2, 1, 6144]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x4608 : Shape := ⟨3, ![2, 8192, 4608]⟩
abbrev S2x8192x1024 : Shape := ⟨3, ![2, 8192, 1024]⟩
abbrev S2x8192x256 : Shape := ⟨3, ![2, 8192, 256]⟩
abbrev S16384x2x8x64 : Shape := ⟨4, ![16384, 2, 8, 64]⟩
abbrev S16384x1024 : Shape := ⟨2, ![16384, 1024]⟩
abbrev S16384x4x64 : Shape := ⟨3, ![16384, 4, 64]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x6144, .f32⟩
  | .hbm, ⟨2, _⟩ => ⟨S2048, .f32⟩
  | .hbm, ⟨3, _⟩ => ⟨S2048x4608, .f32⟩
  | .hbm, ⟨4, _⟩ => ⟨S2x1x6144, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x8192x2048, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S1x1x2048, .f32⟩
  | .hbm, ⟨22, _⟩ => ⟨S2x8192x2048, .f32⟩
  | .hbm, ⟨23, _⟩ => ⟨S2x8192x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2x8192x4608, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x256, .f32⟩
  | .hbm, ⟨37, _⟩ => ⟨S2x8192x256, .f32⟩
  | .hbm, ⟨38, _⟩ => ⟨S16384x2x8x64, .f32⟩
  | .hbm, ⟨39, _⟩ => ⟨S_, .f32⟩
  | .hbm, ⟨40, _⟩ => ⟨S16384x2x8x64, .f32⟩
  | .hbm, ⟨41, _⟩ => ⟨S16384x2x8x64, .f32⟩
  | .hbm, ⟨42, _⟩ => ⟨S16384x2x8x64, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x4x64, .f32⟩
  | .hbm, ⟨49, _⟩ => ⟨S16384x4x64, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel7.lean ====
abbrev S16384x2048 : Shape := ⟨2, ![16384, 2048]⟩
abbrev S16384x256 : Shape := ⟨2, ![16384, 256]⟩
abbrev S2x2x8192x128 : Shape := ⟨4, ![2, 2, 8192, 128]⟩
abbrev S128x1024 : Shape := ⟨2, ![128, 1024]⟩
abbrev S8192x128 : Shape := ⟨2, ![8192, 128]⟩
abbrev S1x1x128x128 : Shape := ⟨4, ![1, 1, 128, 128]⟩
abbrev S128x128 : Shape := ⟨2, ![128, 128]⟩
abbrev S1024x128 : Shape := ⟨2, ![1024, 128]⟩
abbrev S1024x1 : Shape := ⟨2, ![1024, 1]⟩
abbrev S1024x1024 : Shape := ⟨2, ![1024, 1024]⟩
abbrev S1x128x1024 : Shape := ⟨3, ![1, 128, 1024]⟩
abbrev S8x128x1024 : Shape := ⟨3, ![8, 128, 1024]⟩
abbrev S1024 : Shape := ⟨1, ![1024]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S16384x256, .f32⟩
  | .hbm, ⟨3, _⟩ => ⟨S2x2x8192x128, .f32⟩
  | .hbm, ⟨4, _⟩ => ⟨S16384x2048, .bf16⟩
  | .hbm, ⟨5, _⟩ => ⟨S16384x256, .bf16⟩
  | .hbm, ⟨6, _⟩ => ⟨S16384x256, .bf16⟩
  | .hbm, ⟨7, _⟩ => ⟨S2x2x8192x128, .bf16⟩
  | .hbm, ⟨8, _⟩ => ⟨S16384x2048, .f32⟩
  | .local _ .vmem, ⟨0, _⟩ => ⟨S128x1024, .bf16⟩
  | .local _ .vmem, ⟨1, _⟩ => ⟨S128x1024, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x1x128x128, .bf16⟩
  | .local _ .vmem, ⟨7, _⟩ => ⟨S1x1x128x128, .bf16⟩
  | .local _ .vmem, ⟨8, _⟩ => ⟨S128x1024, .f32⟩
  | .local _ .vmem, ⟨9, _⟩ => ⟨S128x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 64], ![false, false, false]⟩

@[reducible] def k0_t1_loop (i : grid0.Coords) : Scf.Loop 32 :=
  let c0_i32_27 : BitVec 32 := 0#32
  let arg2 : BitVec 32 := BitVec.ofNat 32 (i 2).val
  let c128_i32 : BitVec 32 := 128#32
  let v0 : BitVec 32 := Scalar.muli arg2 c128_i32
  let c128_i32_18 : BitVec 32 := 128#32
  let v53 : BitVec 32 := Scalar.addi v0 c128_i32_18
  let c1024_i32 : BitVec 32 := 1024#32
  let v54 : BitVec 32 := Scalar.addi v53 c1024_i32
  let c1_i32_19 : BitVec 32 := 1#32
  let v55 : BitVec 32 := Scalar.subi v54 c1_i32_19
  let c0_i32_21 : BitVec 32 := 0#32
  let v57 : BitVec 1 := Scalar.cmpi .sgt v55 c0_i32_21
  let v58 : BitVec 32 := Scalar.extui v57
  let c0_i32_22 : BitVec 32 := 0#32
  let v59 : BitVec 1 := Scalar.cmpi .slt v55 c0_i32_22
  let v60 : BitVec 32 := Scalar.extui v59
  let v61 : BitVec 32 := Scalar.subi v58 v60
  let c1024_i32_20 : BitVec 32 := 1024#32
  let c0_i32_23 : BitVec 32 := 0#32
  let v62 : BitVec 1 := Scalar.cmpi .sgt c1024_i32_20 c0_i32_23
  let v63 : BitVec 32 := Scalar.extui v62
  let c0_i32_24 : BitVec 32 := 0#32
  let v64 : BitVec 1 := Scalar.cmpi .slt c1024_i32_20 c0_i32_24
  let v65 : BitVec 32 := Scalar.extui v64
  let v66 : BitVec 32 := Scalar.subi v63 v65
  let v67 : BitVec 1 := Scalar.cmpi .ne v61 v66
  let v68 : BitVec 32 := Scalar.remsi v55 c1024_i32_20
  let c0_i32_25 : BitVec 32 := 0#32
  let v69 : BitVec 1 := Scalar.cmpi .ne v68 c0_i32_25
  let v70 : BitVec 1 := Scalar.andi v67 v69
  let v56 : BitVec 32 := Scalar.divsi v55 c1024_i32_20
  let c1_i32_26 : BitVec 32 := 1#32
  let v71 : BitVec 32 := Scalar.subi v56 c1_i32_26
  let v72 : BitVec 32 := Scalar.select v70 v71 v56
  let v73 : BitVec 32 := Scalar.subi v72 c0_i32_27
  let c1_i32_28 : BitVec 32 := 1#32
  let v75 : BitVec 32 := Scalar.divsi v73 c1_i32_28
  let v76 : BitVec 32 := Scalar.muli v75 c1_i32_28
  let v77 : BitVec 32 := Scalar.addi c0_i32_27 v76
  let c1_i32_29 : BitVec 32 := 1#32
  ⟨c0_i32_27, v77, c1_i32_29⟩
def k0_mult1 (i : grid0.Coords) (k0_t1 : Fin (k0_t1_loop i).trips) : BitVec 32 :=
  let c0_i32_27 : BitVec 32 := 0#32
  let c1_i32_29 : BitVec 32 := 1#32
  let arg8 : BitVec 32 := Scf.iv c0_i32_27 c1_i32_29 k0_t1
  let c1024_i32_48 : BitVec 32 := 1024#32
  let v100 : BitVec 32 := Scalar.muli arg8 c1024_i32_48
  v100
def k0_off1 (i : grid0.Coords) (k0_t1 : Fin (k0_t1_loop i).trips) : Fin 2 → Nat :=
  let c0_i32_27 : BitVec 32 := 0#32
  let c1_i32_29 : BitVec 32 := 1#32
  let arg8 : BitVec 32 := Scf.iv c0_i32_27 c1_i32_29 k0_t1
  let c1024_i32_48 : BitVec 32 := 1024#32
  let v100 : BitVec 32 := Scalar.muli arg8 c1024_i32_48
  let v101 : BitVec 32 := v100
  let v102 : Index := Scalar.indexCast v101
  let c0_49 : Index := 0#32
  ![v102.toNat, 0]
@[reducible] def k0_t2_loop (i : grid0.Coords) : Scf.Loop 32 :=
  let c0_i32_27 : BitVec 32 := 0#32
  let arg2 : BitVec 32 := BitVec.ofNat 32 (i 2).val
  let c128_i32 : BitVec 32 := 128#32
  let v0 : BitVec 32 := Scalar.muli arg2 c128_i32
  let c128_i32_18 : BitVec 32 := 128#32
  let v53 : BitVec 32 := Scalar.addi v0 c128_i32_18
  let c1024_i32 : BitVec 32 := 1024#32
  let v54 : BitVec 32 := Scalar.addi v53 c1024_i32
  let c1_i32_19 : BitVec 32 := 1#32
  let v55 : BitVec 32 := Scalar.subi v54 c1_i32_19
  let c0_i32_21 : BitVec 32 := 0#32
  let v57 : BitVec 1 := Scalar.cmpi .sgt v55 c0_i32_21
  let v58 : BitVec 32 := Scalar.extui v57
  let c0_i32_22 : BitVec 32 := 0#32
  let v59 : BitVec 1 := Scalar.cmpi .slt v55 c0_i32_22
  let v60 : BitVec 32 := Scalar.extui v59
  let v61 : BitVec 32 := Scalar.subi v58 v60
  let c1024_i32_20 : BitVec 32 := 1024#32
  let c0_i32_23 : BitVec 32 := 0#32
  let v62 : BitVec 1 := Scalar.cmpi .sgt c1024_i32_20 c0_i32_23
  let v63 : BitVec 32 := Scalar.extui v62
  let c0_i32_24 : BitVec 32 := 0#32
  let v64 : BitVec 1 := Scalar.cmpi .slt c1024_i32_20 c0_i32_24
  let v65 : BitVec 32 := Scalar.extui v64
  let v66 : BitVec 32 := Scalar.subi v63 v65
  let v67 : BitVec 1 := Scalar.cmpi .ne v61 v66
  let v68 : BitVec 32 := Scalar.remsi v55 c1024_i32_20
  let c0_i32_25 : BitVec 32 := 0#32
  let v69 : BitVec 1 := Scalar.cmpi .ne v68 c0_i32_25
  let v70 : BitVec 1 := Scalar.andi v67 v69
  let v56 : BitVec 32 := Scalar.divsi v55 c1024_i32_20
  let c1_i32_26 : BitVec 32 := 1#32
  let v71 : BitVec 32 := Scalar.subi v56 c1_i32_26
  let v72 : BitVec 32 := Scalar.select v70 v71 v56
  let v73 : BitVec 32 := Scalar.subi v72 c0_i32_27
  let c1_i32_28 : BitVec 32 := 1#32
  let v75 : BitVec 32 := Scalar.divsi v73 c1_i32_28
  let v76 : BitVec 32 := Scalar.muli v75 c1_i32_28
  let v77 : BitVec 32 := Scalar.addi c0_i32_27 v76
  let v74 : BitVec 32 := Scalar.addi c0_i32_27 v73
  let c1_i32_30 : BitVec 32 := 1#32
  ⟨v77, v74, c1_i32_30⟩
def k0_mult2 (i : grid0.Coords) (k0_t2 : Fin (k0_t2_loop i).trips) : BitVec 32 :=
  let c0_i32_27 : BitVec 32 := 0#32
  let arg2 : BitVec 32 := BitVec.ofNat 32 (i 2).val
  let c128_i32 : BitVec 32 := 128#32
  let v0 : BitVec 32 := Scalar.muli arg2 c128_i32
  let c128_i32_18 : BitVec 32 := 128#32
  let v53 : BitVec 32 := Scalar.addi v0 c128_i32_18
  let c1024_i32 : BitVec 32 := 1024#32
  let v54 : BitVec 32 := Scalar.addi v53 c1024_i32
  let c1_i32_19 : BitVec 32 := 1#32
  let v55 : BitVec 32 := Scalar.subi v54 c1_i32_19
  let c0_i32_21 : BitVec 32 := 0#32
  let v57 : BitVec 1 := Scalar.cmpi .sgt v55 c0_i32_21
  let v58 : BitVec 32 := Scalar.extui v57
  let c0_i32_22 : BitVec 32 := 0#32
  let v59 : BitVec 1 := Scalar.cmpi .slt v55 c0_i32_22
  let v60 : BitVec 32 := Scalar.extui v59
  let v61 : BitVec 32 := Scalar.subi v58 v60
  let c1024_i32_20 : BitVec 32 := 1024#32
  let c0_i32_23 : BitVec 32 := 0#32
  let v62 : BitVec 1 := Scalar.cmpi .sgt c1024_i32_20 c0_i32_23
  let v63 : BitVec 32 := Scalar.extui v62
  let c0_i32_24 : BitVec 32 := 0#32
  let v64 : BitVec 1 := Scalar.cmpi .slt c1024_i32_20 c0_i32_24
  let v65 : BitVec 32 := Scalar.extui v64
  let v66 : BitVec 32 := Scalar.subi v63 v65
  let v67 : BitVec 1 := Scalar.cmpi .ne v61 v66
  let v68 : BitVec 32 := Scalar.remsi v55 c1024_i32_20
  let c0_i32_25 : BitVec 32 := 0#32
  let v69 : BitVec 1 := Scalar.cmpi .ne v68 c0_i32_25
  let v70 : BitVec 1 := Scalar.andi v67 v69
  let v56 : BitVec 32 := Scalar.divsi v55 c1024_i32_20
  let c1_i32_26 : BitVec 32 := 1#32
  let v71 : BitVec 32 := Scalar.subi v56 c1_i32_26
  let v72 : BitVec 32 := Scalar.select v70 v71 v56
  let v73 : BitVec 32 := Scalar.subi v72 c0_i32_27
  let c1_i32_28 : BitVec 32 := 1#32
  let v75 : BitVec 32 := Scalar.divsi v73 c1_i32_28
  let v76 : BitVec 32 := Scalar.muli v75 c1_i32_28
  let v77 : BitVec 32 := Scalar.addi c0_i32_27 v76
  let c1_i32_30 : BitVec 32 := 1#32
  let arg8 : BitVec 32 := Scf.iv v77 c1_i32_30 k0_t2
  let c1024_i32_48 : BitVec 32 := 1024#32
  let v100 : BitVec 32 := Scalar.muli arg8 c1024_i32_48
  v100
def k0_off2 (i : grid0.Coords) (k0_t2 : Fin (k0_t2_loop i).trips) : Fin 2 → Nat :=
  let c0_i32_27 : BitVec 32 := 0#32
  let arg2 : BitVec 32 := BitVec.ofNat 32 (i 2).val
  let c128_i32 : BitVec 32 := 128#32
  let v0 : BitVec 32 := Scalar.muli arg2 c128_i32
  let c128_i32_18 : BitVec 32 := 128#32
  let v53 : BitVec 32 := Scalar.addi v0 c128_i32_18
  let c1024_i32 : BitVec 32 := 1024#32
  let v54 : BitVec 32 := Scalar.addi v53 c1024_i32
  let c1_i32_19 : BitVec 32 := 1#32
  let v55 : BitVec 32 := Scalar.subi v54 c1_i32_19
  let c0_i32_21 : BitVec 32 := 0#32
  let v57 : BitVec 1 := Scalar.cmpi .sgt v55 c0_i32_21
  let v58 : BitVec 32 := Scalar.extui v57
  let c0_i32_22 : BitVec 32 := 0#32
  let v59 : BitVec 1 := Scalar.cmpi .slt v55 c0_i32_22
  let v60 : BitVec 32 := Scalar.extui v59
  let v61 : BitVec 32 := Scalar.subi v58 v60
  let c1024_i32_20 : BitVec 32 := 1024#32
  let c0_i32_23 : BitVec 32 := 0#32
  let v62 : BitVec 1 := Scalar.cmpi .sgt c1024_i32_20 c0_i32_23
  let v63 : BitVec 32 := Scalar.extui v62
  let c0_i32_24 : BitVec 32 := 0#32
  let v64 : BitVec 1 := Scalar.cmpi .slt c1024_i32_20 c0_i32_24
  let v65 : BitVec 32 := Scalar.extui v64
  let v66 : BitVec 32 := Scalar.subi v63 v65
  let v67 : BitVec 1 := Scalar.cmpi .ne v61 v66
  let v68 : BitVec 32 := Scalar.remsi v55 c1024_i32_20
  let c0_i32_25 : BitVec 32 := 0#32
  let v69 : BitVec 1 := Scalar.cmpi .ne v68 c0_i32_25
  let v70 : BitVec 1 := Scalar.andi v67 v69
  let v56 : BitVec 32 := Scalar.divsi v55 c1024_i32_20
  let c1_i32_26 : BitVec 32 := 1#32
  let v71 : BitVec 32 := Scalar.subi v56 c1_i32_26
  let v72 : BitVec 32 := Scalar.select v70 v71 v56
  let v73 : BitVec 32 := Scalar.subi v72 c0_i32_27
  let c1_i32_28 : BitVec 32 := 1#32
  let v75 : BitVec 32 := Scalar.divsi v73 c1_i32_28
  let v76 : BitVec 32 := Scalar.muli v75 c1_i32_28
  let v77 : BitVec 32 := Scalar.addi c0_i32_27 v76
  let c1_i32_30 : BitVec 32 := 1#32
  let arg8 : BitVec 32 := Scf.iv v77 c1_i32_30 k0_t2
  let c1024_i32_48 : BitVec 32 := 1024#32
  let v100 : BitVec 32 := Scalar.muli arg8 c1024_i32_48
  let v101 : BitVec 32 := v100
  let v102 : Index := Scalar.indexCast v101
  let c0_49 : Index := 0#32
  ![v102.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel7Ideal.lean ====
variable {F : FTy → Type} [FloatOps F] [Named F]
def κ : String → Option EReal := fun
  | "c" => some (((11863283 / 134217728) * (Real.log 2)⁻¹ : ℝ) : EReal)
  | _ => none
-- ==== Reference7Ideal.lean ====
abbrev S16384x2048 : Shape := ⟨2, ![16384, 2048]⟩
abbrev S16384x256 : Shape := ⟨2, ![16384, 256]⟩
abbrev S2x2x8192x128 : Shape := ⟨4, ![2, 2, 8192, 128]⟩
abbrev S2x8192x2x8x128 : Shape := ⟨5, ![2, 8192, 2, 8, 128]⟩
abbrev S2x8192x2x128 : Shape := ⟨4, ![2, 8192, 2, 128]⟩
abbrev S8192 : Shape := ⟨1, ![8192]⟩
abbrev S2x2x8192x8192x8 : Shape := ⟨5, ![2, 2, 8192, 8192, 8]⟩
abbrev S2x8192x2x8x8192 : Shape := ⟨5, ![2, 8192, 2, 8, 8192]⟩
abbrev S_ : Shape := ⟨0, ![]⟩
abbrev S2x2x8192x128x64 : Shape := ⟨5, ![2, 2, 8192, 128, 64]⟩
abbrev S2x2x8192x8192 : Shape := ⟨4, ![2, 2, 8192, 8192]⟩
abbrev S2x8192x2x8192 : Shape := ⟨4, ![2, 8192, 2, 8192]⟩
abbrev S2x8192x2x1x8192 : Shape := ⟨5, ![2, 8192, 2, 1, 8192]⟩
abbrev S1x8192 : Shape := ⟨2, ![1, 8192]⟩
abbrev S8192x1 : Shape := ⟨2, ![8192, 1]⟩
abbrev S8192x8192 : Shape := ⟨2, ![8192, 8192]⟩
abbrev S1x8192x1x1x8192 : Shape := ⟨5, ![1, 8192, 1, 1, 8192]⟩
abbrev S2x8192x2x8 : Shape := ⟨4, ![2, 8192, 2, 8]⟩
abbrev S2x8192x2x8x1 : Shape := ⟨5, ![2, 8192, 2, 8, 1]⟩
abbrev S2x2x128x8192x8 : Shape := ⟨5, ![2, 2, 128, 8192, 8]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S16384x256, .f32⟩
  | .hbm, ⟨3, _⟩ => ⟨S2x2x8192x128, .f32⟩
  | .hbm, ⟨4, _⟩ => ⟨S2x8192x2x8x128, .f32⟩
  | .hbm, ⟨5, _⟩ => ⟨S2x8192x2x128, .f32⟩
  | .hbm, ⟨6, _⟩ => ⟨S2x8192x2x128, .f32⟩
  | .hbm, ⟨7, _⟩ => ⟨S8192, .i32⟩
  | .hbm, ⟨8, _⟩ => ⟨S8192, .i32⟩
  | .hbm, ⟨9, _⟩ => ⟨S2x2x8192x8192x8, .f32⟩
  | .hbm, ⟨10, _⟩ => ⟨S2x8192x2x8x8192, .f32⟩
  | .hbm, ⟨11, _⟩ => ⟨S_, .f32⟩
  | .hbm, ⟨12, _⟩ => ⟨S2x8192x2x8x8192, .f32⟩
  | .hbm, ⟨13, _⟩ => ⟨S2x8192x2x8x8192, .f32⟩
  | .hbm, ⟨14, _⟩ => ⟨S_, .f32⟩
  | .hbm, ⟨15, _⟩ => ⟨S2x2x8192x128, .f32⟩
  | .hbm, ⟨16, _⟩ => ⟨S2x2x8192x128, .i1⟩
  | .hbm, ⟨17, _⟩ => ⟨S2x2x8192x128x64, .i1⟩
  | .hbm, ⟨18, _⟩ => ⟨S2x2x8192x8192, .i1⟩
  | .hbm, ⟨19, _⟩ => ⟨S2x8192x2x8192, .i1⟩
  | .hbm, ⟨20, _⟩ => ⟨S2x8192x2x1x8192, .i1⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S1x8192x1x1x8192, .i1⟩
  | .hbm, ⟨27, _⟩ => ⟨S2x8192x2x1x8192, .i1⟩
  | .hbm, ⟨28, _⟩ => ⟨S2x8192x2x1x8192, .i1⟩
  | .hbm, ⟨29, _⟩ => ⟨S_, .f32⟩
  | .hbm, ⟨30, _⟩ => ⟨S_, .f32⟩
  | .hbm, ⟨31, _⟩ => ⟨S2x8192x2x8x8192, .i1⟩
  | .hbm, ⟨32, _⟩ => ⟨S2x8192x2x8x8192, .f32⟩
  | .hbm, ⟨33, _⟩ => ⟨S2x8192x2x8x8192, .f32⟩
  | .hbm, ⟨34, _⟩ => ⟨S_, .f32⟩
  | .hbm, ⟨35, _⟩ => ⟨S2x8192x2x8, .f32⟩
  | .hbm, ⟨36, _⟩ => ⟨S2x8192x2x8x1, .f32⟩
  | .hbm, ⟨37, _⟩ => ⟨S2x8192x2x8x1, .f32⟩
  | .hbm, ⟨38, _⟩ => ⟨S_, .f32⟩
  | .hbm, ⟨39, _⟩ => ⟨S2x8192x2x8x1, .f32⟩
  | .hbm, ⟨40, _⟩ => ⟨S2x8192x2x8x1, .i1⟩
  | .hbm, ⟨41, _⟩ => ⟨S_, .f32⟩
  | .hbm, ⟨42, _⟩ => ⟨S_, .f32⟩
  | .hbm, ⟨43, _⟩ => ⟨S2x8192x2x8x1, .f32⟩
  | .hbm, ⟨44, _⟩ => ⟨S2x8192x2x8x1, .f32⟩
  | .hbm, ⟨45, _⟩ => ⟨S2x8192x2x8x8192, .f32⟩
  | .hbm, ⟨46, _⟩ => ⟨S2x8192x2x8x8192, .f32⟩
  | .hbm, ⟨47, _⟩ => ⟨S2x8192x2x8x8192, .f32⟩
  | .hbm, ⟨48, _⟩ => ⟨S_, .f32⟩
  | .hbm, ⟨49, _⟩ => ⟨S2x8192x2x8, .f32⟩
  | .hbm, ⟨50, _⟩ => ⟨S2x8192x2x8x1, .f32⟩
  | .hbm, ⟨51, _⟩ => ⟨S_, .f32⟩
  | .hbm, ⟨52, _⟩ => ⟨S2x8192x2x8x1, .f32⟩
  | .hbm, ⟨53, _⟩ => ⟨S2x8192x2x8x1, .f32⟩
  | .hbm, ⟨54, _⟩ => ⟨S2x8192x2x8x8192, .f32⟩
  | .hbm, ⟨55, _⟩ => ⟨S2x8192x2x8x8192, .f32⟩
  | .hbm, ⟨56, _⟩ => ⟨S2x2x128x8192x8, .f32⟩
  | .hbm, ⟨57, _⟩ => ⟨S2x8192x2x8x128, .f32⟩
  | .hbm, ⟨58, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel8.lean ====
abbrev S16384x2048 : Shape := ⟨2, ![16384, 2048]⟩
abbrev S16384x256 : Shape := ⟨2, ![16384, 256]⟩
abbrev S256x1024 : Shape := ⟨2, ![256, 1024]⟩
abbrev S8192x128 : Shape := ⟨2, ![8192, 128]⟩
abbrev S256x128 : Shape := ⟨2, ![256, 128]⟩
abbrev S2048x128 : Shape := ⟨2, ![2048, 128]⟩
abbrev S768x128 : Shape := ⟨2, ![768, 128]⟩
abbrev S2048x768 : Shape := ⟨2, ![2048, 768]⟩
abbrev S2048 : Shape := ⟨1, ![2048]⟩
abbrev S2048x1 : Shape := ⟨2, ![2048, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S16384x256, .f32⟩
  | .hbm, ⟨3, _⟩ => ⟨S16384x2048, .bf16⟩
  | .hbm, ⟨4, _⟩ => ⟨S16384x256, .bf16⟩
  | .hbm, ⟨5, _⟩ => ⟨S16384x256, .bf16⟩
  | .hbm, ⟨6, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x1024, .f32⟩
  | .local _ .vmem, ⟨7, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  let c512_i32 : BitVec 32 := 512#32
  let v1 : BitVec 32 := Scalar.subi v0 c512_i32
  let c0_i32 : BitVec 32 := 0#32
  let v2 : BitVec 32 := Scalar.maxsi v1 c0_i32
  v2
def k0_off1 (i : grid0.Coords) : Fin 2 → Nat :=
  let arg2 : BitVec 32 := BitVec.ofNat 32 (i 2).val
  let c256_i32 : BitVec 32 := 256#32
  let v0 : BitVec 32 := Scalar.muli arg2 c256_i32
  let c512_i32 : BitVec 32 := 512#32
  let v1 : BitVec 32 := Scalar.subi v0 c512_i32
  let c0_i32 : BitVec 32 := 0#32
  let v2 : BitVec 32 := Scalar.maxsi v1 c0_i32
  let v3 : BitVec 32 := v2
  let v21 : Index := Scalar.indexCast v3
  let c0_8 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel8Ideal.lean ====
variable {F : FTy → Type} [FloatOps F] [Named F]
def κ : String → Option EReal := fun
  | "c" => some (((11863283 / 134217728) * (Real.log 2)⁻¹ : ℝ) : EReal)
  | _ => none
-- ==== Reference8Ideal.lean ====
abbrev S16384x2048 : Shape := ⟨2, ![16384, 2048]⟩
abbrev S16384x256 : Shape := ⟨2, ![16384, 256]⟩
abbrev S2x8192x2x8x128 : Shape := ⟨5, ![2, 8192, 2, 8, 128]⟩
abbrev S2x8192x2x128 : Shape := ⟨4, ![2, 8192, 2, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S1x8192x1x1x8192 : Shape := ⟨5, ![1, 8192, 1, 1, 8192]⟩
abbrev S2x2x8192x8192x8 : Shape := ⟨5, ![2, 2, 8192, 8192, 8]⟩
abbrev S2x8192x2x8x8192 : Shape := ⟨5, ![2, 8192, 2, 8, 8192]⟩
abbrev S2x8192x2x8 : Shape := ⟨4, ![2, 8192, 2, 8]⟩
abbrev S2x8192x2x8x1 : Shape := ⟨5, ![2, 8192, 2, 8, 1]⟩
abbrev S2x2x128x8192x8 : Shape := ⟨5, ![2, 2, 128, 8192, 8]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S16384x256, .f32⟩
  | .hbm, ⟨3, _⟩ => ⟨S2x8192x2x8x128, .f32⟩
  | .hbm, ⟨4, _⟩ => ⟨S2x8192x2x128, .f32⟩
  | .hbm, ⟨5, _⟩ => ⟨S2x8192x2x128, .f32⟩
  | .hbm, ⟨6, _⟩ => ⟨S8192, .i32⟩
  | .hbm, ⟨7, _⟩ => ⟨S8192, .i32⟩
  | .hbm, ⟨8, _⟩ => ⟨S8192x1, .i32⟩
  | .hbm, ⟨9, _⟩ => ⟨S1x8192, .i32⟩
  | .hbm, ⟨10, _⟩ => ⟨S8192x8192, .i32⟩
  | .hbm, ⟨11, _⟩ => ⟨S8192x8192, .i32⟩
  | .hbm, ⟨12, _⟩ => ⟨S8192x8192, .i32⟩
  | .hbm, ⟨13, _⟩ => ⟨S_, .i32⟩
  | .hbm, ⟨14, _⟩ => ⟨S8192x8192, .i32⟩
  | .hbm, ⟨15, _⟩ => ⟨S8192x8192, .i1⟩
  | .hbm, ⟨16, _⟩ => ⟨S_, .i32⟩
  | .hbm, ⟨17, _⟩ => ⟨S8192x8192, .i32⟩
  | .hbm, ⟨18, _⟩ => ⟨S8192x8192, .i1⟩
  | .hbm, ⟨19, _⟩ => ⟨S8192x8192, .i1⟩
  | .hbm, ⟨20, _⟩ => ⟨S1x8192x1x1x8192, .i1⟩
  | .hbm, ⟨21, _⟩ => ⟨S2x2x8192x8192x8, .f32⟩
  | .hbm, ⟨22, _⟩ => ⟨S2x8192x2x8x8192, .f32⟩
  | .hbm, ⟨23, _⟩ => ⟨S_, .f32⟩
  | .hbm, ⟨24, _⟩ => ⟨S2x8192x2x8x8192, .f32⟩
  | .hbm, ⟨25, _⟩ => ⟨S2x8192x2x8x8192, .f32⟩
  | .hbm, ⟨26, _⟩ => ⟨S_, .f32⟩
  | .hbm, ⟨27, _⟩ => ⟨S_, .f32⟩
  | .hbm, ⟨28, _⟩ => ⟨S2x8192x2x8x8192, .i1⟩
  | .hbm, ⟨29, _⟩ => ⟨S2x8192x2x8x8192, .f32⟩
  | .hbm, ⟨30, _⟩ => ⟨S2x8192x2x8x8192, .f32⟩
  | .hbm, ⟨31, _⟩ => ⟨S_, .f32⟩
  | .hbm, ⟨32, _⟩ => ⟨S2x8192x2x8, .f32⟩
  | .hbm, ⟨33, _⟩ => ⟨S2x8192x2x8x1, .f32⟩
  | .hbm, ⟨34, _⟩ => ⟨S2x8192x2x8x1, .f32⟩
  | .hbm, ⟨35, _⟩ => ⟨S_, .f32⟩
  | .hbm, ⟨36, _⟩ => ⟨S2x8192x2x8x1, .f32⟩
  | .hbm, ⟨37, _⟩ => ⟨S2x8192x2x8x1, .i1⟩
  | .hbm, ⟨38, _⟩ => ⟨S_, .f32⟩
  | .hbm, ⟨39, _⟩ => ⟨S_, .f32⟩
  | .hbm, ⟨40, _⟩ => ⟨S2x8192x2x8x1, .f32⟩
  | .hbm, ⟨41, _⟩ => ⟨S2x8192x2x8x1, .f32⟩
  | .hbm, ⟨42, _⟩ => ⟨S2x8192x2x8x8192, .f32⟩
  | .hbm, ⟨43, _⟩ => ⟨S2x8192x2x8x8192, .f32⟩
  | .hbm, ⟨44, _⟩ => ⟨S2x8192x2x8x8192, .f32⟩
  | .hbm, ⟨45, _⟩ => ⟨S_, .f32⟩
  | .hbm, ⟨46, _⟩ => ⟨S2x8192x2x8, .f32⟩
  | .hbm, ⟨47, _⟩ => ⟨S2x8192x2x8x1, .f32⟩
  | .hbm, ⟨48, _⟩ => ⟨S_, .f32⟩
  | .hbm, ⟨49, _⟩ => ⟨S2x8192x2x8x1, .f32⟩
  | .hbm, ⟨50, _⟩ => ⟨S2x8192x2x8x1, .f32⟩
  | .hbm, ⟨51, _⟩ => ⟨S2x8192x2x8x8192, .f32⟩
  | .hbm, ⟨52, _⟩ => ⟨S2x8192x2x8x8192, .f32⟩
  | .hbm, ⟨53, _⟩ => ⟨S2x2x128x8192x8, .f32⟩
  | .hbm, ⟨54, _⟩ => ⟨S2x8192x2x8x128, .f32⟩
  | .hbm, ⟨55, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel9.lean ====
abbrev S16384x4608 : Shape := ⟨2, ![16384, 4608]⟩
abbrev S16 : Shape := ⟨1, ![16]⟩
abbrev S16384x1024 : Shape := ⟨2, ![16384, 1024]⟩
abbrev S16384x2x8x64 : Shape := ⟨4, ![16384, 2, 8, 64]⟩
abbrev S16384x256 : Shape := ⟨2, ![16384, 256]⟩
abbrev S16384x4x1x64 : Shape := ⟨4, ![16384, 4, 1, 64]⟩
abbrev S_ : Shape := ⟨0, ![]⟩
abbrev S16384x8x2x64 : Shape := ⟨4, ![16384, 8, 2, 64]⟩
abbrev S16384x4x2x64 : Shape := ⟨4, ![16384, 4, 2, 64]⟩
abbrev S16384x512 : Shape := ⟨2, ![16384, 512]⟩
abbrev S16384x5120 : Shape := ⟨2, ![16384, 5120]⟩
abbrev S16384x3584 : Shape := ⟨2, ![16384, 3584]⟩
abbrev S16384x1536 : Shape := ⟨2, ![16384, 1536]⟩
abbrev S512x128 : Shape := ⟨2, ![512, 128]⟩
abbrev S8192x128 : Shape := ⟨2, ![8192, 128]⟩
abbrev S1024x128 : Shape := ⟨2, ![1024, 128]⟩
abbrev S640x128 : Shape := ⟨2, ![640, 128]⟩
abbrev S1024x640 : Shape := ⟨2, ![1024, 640]⟩
abbrev S1024x1 : Shape := ⟨2, ![1024, 1]⟩
abbrev S1 : Shape := ⟨1, ![1]⟩
abbrev S1024 : Shape := ⟨1, ![1024]⟩

abbrev nBuf : Space → Nat
  | .hbm => 31
  | .vmem => 8
  | .smem => 1
  | _ => 0

abbrev bufTy : (tb : Table) → Fin (tcTables nBuf tb) → BufTy
  | .hbm, ⟨0, _⟩ => ⟨S16384x4608, .f32⟩
  | .hbm, ⟨1, _⟩ => ⟨S16, .f32⟩
  | .hbm, ⟨2, _⟩ => ⟨S16384x1024, .f32⟩
  | .hbm, ⟨3, _⟩ => ⟨S16384x2x8x64, .f32⟩
  | .hbm, ⟨4, _⟩ => ⟨S16384x1024, .f32⟩
  | .hbm, ⟨5, _⟩ => ⟨S16384x2x8x64, .f32⟩
  | .hbm, ⟨6, _⟩ => ⟨S16384x1024, .f32⟩
  | .hbm, ⟨7, _⟩ => ⟨S16384x1024, .f32⟩
  | .hbm, ⟨8, _⟩ => ⟨S16384x256, .f32⟩
  | .hbm, ⟨9, _⟩ => ⟨S16384x4x1x64, .f32⟩
  | .hbm, ⟨10, _⟩ => ⟨S16384x256, .f32⟩
  | .hbm, ⟨11, _⟩ => ⟨S16384x4x1x64, .f32⟩
  | .hbm, ⟨12, _⟩ => ⟨S_, .f32⟩
  | .hbm, ⟨13, _⟩ => ⟨S16384x2x8x64, .f32⟩
  | .hbm, ⟨14, _⟩ => ⟨S16384x2x8x64, .f32⟩
  | .hbm, ⟨15, _⟩ => ⟨S16384x8x2x64, .f32⟩
  | .hbm, ⟨16, _⟩ => ⟨S16384x1024, .f32⟩
  | .hbm, ⟨17, _⟩ => ⟨S16384x8x2x64, .f32⟩
  | .hbm, ⟨18, _⟩ => ⟨S16384x1024, .f32⟩
  | .hbm, ⟨19, _⟩ => ⟨S16384x4x2x64, .f32⟩
  | .hbm, ⟨20, _⟩ => ⟨S16384x512, .f32⟩
  | .hbm, ⟨21, _⟩ => ⟨S16384x4x2x64, .f32⟩
  | .hbm, ⟨22, _⟩ => ⟨S16384x512, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x5120, .f32⟩
  | .hbm, ⟨27, _⟩ => ⟨S16384x5120, .bf16⟩
  | .hbm, ⟨28, _⟩ => ⟨S16384x3584, .bf16⟩
  | .hbm, ⟨29, _⟩ => ⟨S16384x1536, .bf16⟩
  | .hbm, ⟨30, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .smem, ⟨0, _⟩ => ⟨S16, .f32⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  let c128_i32 : BitVec 32 := 128#32
  let v1 : BitVec 32 := Scalar.subi v0 c128_i32
  let c0_i32 : BitVec 32 := 0#32
  let v2 : BitVec 32 := Scalar.maxsi v1 c0_i32
  v2
def k0_off1 (i : grid0.Coords) : Fin 2 → Nat :=
  let arg2 : BitVec 32 := BitVec.ofNat 32 (i 2).val
  let c512_i32 : BitVec 32 := 512#32
  let v0 : BitVec 32 := Scalar.muli arg2 c512_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let v15 : Index := Scalar.indexCast v3
  let c0_2 : Index := 0#32
  ![v15.toNat, 0]
def k0_off2 (i : grid0.Coords) : Fin 1 → Nat :=
  let c2_i32 : BitVec 32 := 2#32
  let arg1 : BitVec 32 := BitVec.ofNat 32 (i 1).val
  let v54 : BitVec 32 := Scalar.muli c2_i32 arg1
  let v55 : Index := Scalar.indexCast v54
  ![v55.toNat]
def k0_off3 (i : grid0.Coords) : Fin 1 → Nat :=
  let c2_i32_14 : BitVec 32 := 2#32
  let arg1 : BitVec 32 := BitVec.ofNat 32 (i 1).val
  let v57 : BitVec 32 := Scalar.muli c2_i32_14 arg1
  let c1_i32_15 : BitVec 32 := 1#32
  let v58 : BitVec 32 := Scalar.addi v57 c1_i32_15
  let v59 : Index := Scalar.indexCast v58
  ![v59.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c16_i32_0 : BitVec 32 := 16#32
  let v2 : BitVec 32 := Scalar.addi c16_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32 : BitVec 32 := 24#32
  let v17 : BitVec 32 := Scalar.addi c24_i32 v16
  let c0_i32_4 : BitVec 32 := 0#32
  ![arg0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  ![arg0.toNat, v17.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference9Ideal.lean ====
abbrev S16384x4608 : Shape := ⟨2, ![16384, 4608]⟩
abbrev S16 : Shape := ⟨1, ![16]⟩
abbrev S16384x1024 : Shape := ⟨2, ![16384, 1024]⟩
abbrev S16384x256 : Shape := ⟨2, ![16384, 256]⟩
abbrev S2x8192x4x4x64 : Shape := ⟨5, ![2, 8192, 4, 4, 64]⟩
abbrev S2x8192x4x64 : Shape := ⟨4, ![2, 8192, 4, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S1x8192x1x1x8192 : Shape := ⟨5, ![1, 8192, 1, 1, 8192]⟩
abbrev S2x4x8192x8192x4 : Shape := ⟨5, ![2, 4, 8192, 8192, 4]⟩
abbrev S2x8192x4x4x8192 : Shape := ⟨5, ![2, 8192, 4, 4, 8192]⟩
abbrev S4x4 : Shape := ⟨2, ![4, 4]⟩
abbrev S1x1x4x4x1 : Shape := ⟨5, ![1, 1, 4, 4, 1]⟩
abbrev S2x8192x4x4 : Shape := ⟨4, ![2, 8192, 4, 4]⟩
abbrev S2x8192x4x4x1 : Shape := ⟨5, ![2, 8192, 4, 4, 1]⟩
abbrev S2x4x64x8192x4 : Shape := ⟨5, ![2, 4, 64, 8192, 4]⟩

abbrev nBuf : Space → Nat
  | .hbm => 56
  | .vmem => 0
  | .smem => 0
  | _ => 0

abbrev bufTy : (tb : Table) → Fin (tcTables nBuf tb) → BufTy
  | .hbm, ⟨0, _⟩ => ⟨S16384x4608, .f32⟩
  | .hbm, ⟨1, _⟩ => ⟨S16, .f32⟩
  | .hbm, ⟨2, _⟩ => ⟨S16384x1024, .f32⟩
  | .hbm, ⟨3, _⟩ => ⟨S16384x256, .f32⟩
  | .hbm, ⟨4, _⟩ => ⟨S16384x256, .f32⟩
  | .hbm, ⟨5, _⟩ => ⟨S2x8192x4x4x64, .f32⟩
  | .hbm, ⟨6, _⟩ => ⟨S2x8192x4x64, .f32⟩
  | .hbm, ⟨7, _⟩ => ⟨S2x8192x4x64, .f32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i1⟩
  | .hbm, ⟨18, _⟩ => ⟨S_, .i32⟩
  | .hbm, ⟨19, _⟩ => ⟨S8192x8192, .i32⟩
  | .hbm, ⟨20, _⟩ => ⟨S8192x8192, .i1⟩
  | .hbm, ⟨21, _⟩ => ⟨S8192x8192, .i1⟩
  | .hbm, ⟨22, _⟩ => ⟨S1x8192x1x1x8192, .i1⟩
  | .hbm, ⟨23, _⟩ => ⟨S2x4x8192x8192x4, .f32⟩
  | .hbm, ⟨24, _⟩ => ⟨S2x8192x4x4x8192, .f32⟩
  | .hbm, ⟨25, _⟩ => ⟨S_, .f32⟩
  | .hbm, ⟨26, _⟩ => ⟨S2x8192x4x4x8192, .f32⟩
  | .hbm, ⟨27, _⟩ => ⟨S2x8192x4x4x8192, .f32⟩
  | .hbm, ⟨28, _⟩ => ⟨S_, .f32⟩
  | .hbm, ⟨29, _⟩ => ⟨S_, .f32⟩
  | .hbm, ⟨30, _⟩ => ⟨S2x8192x4x4x8192, .i1⟩
  | .hbm, ⟨31, _⟩ => ⟨S2x8192x4x4x8192, .f32⟩
  | .hbm, ⟨32, _⟩ => ⟨S2x8192x4x4x8192, .f32⟩
  | .hbm, ⟨33, _⟩ => ⟨S4x4, .f32⟩
  | .hbm, ⟨34, _⟩ => ⟨S1x1x4x4x1, .f32⟩
  | .hbm, ⟨35, _⟩ => ⟨S_, .f32⟩
  | .hbm, ⟨36, _⟩ => ⟨S2x8192x4x4, .f32⟩
  | .hbm, ⟨37, _⟩ => ⟨S2x8192x4x4x1, .f32⟩
  | .hbm, ⟨38, _⟩ => ⟨S2x8192x4x4x1, .f32⟩
  | .hbm, ⟨39, _⟩ => ⟨S2x8192x4x4x1, .f32⟩
  | .hbm, ⟨40, _⟩ => ⟨S2x8192x4x4x8192, .f32⟩
  | .hbm, ⟨41, _⟩ => ⟨S2x8192x4x4x8192, .f32⟩
  | .hbm, ⟨42, _⟩ => ⟨S2x8192x4x4x8192, .f32⟩
  | .hbm, ⟨43, _⟩ => ⟨S_, .f32⟩
  | .hbm, ⟨44, _⟩ => ⟨S2x8192x4x4, .f32⟩
  | .hbm, ⟨45, _⟩ => ⟨S2x8192x4x4x1, .f32⟩
  | .hbm, ⟨46, _⟩ => ⟨S2x8192x4x4x1, .f32⟩
  | .hbm, ⟨47, _⟩ => ⟨S2x8192x4x4x1, .f32⟩
  | .hbm, ⟨48, _⟩ => ⟨S2x8192x4x4x1, .f32⟩
  | .hbm, ⟨49, _⟩ => ⟨S2x8192x4x4x1, .f32⟩
  | .hbm, ⟨50, _⟩ => ⟨S2x8192x4x4x8192, .f32⟩
  | .hbm, ⟨51, _⟩ => ⟨S2x8192x4x4x8192, .f32⟩
  | .hbm, ⟨52, _⟩ => ⟨S2x4x64x8192x4, .f32⟩
  | .hbm, ⟨53, _⟩ => ⟨S2x8192x4x4x64, .f32⟩
  | .hbm, ⟨54, _⟩ => ⟨S16384x1024, .f32⟩
  | .hbm, ⟨55, _⟩ => ⟨S16384x1024, .bf16⟩
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Proof.Consts.lean ====
/- The constants of the two programs as extended reals. -/
module

public import Idealize.ShloMosaic.Lib.Pointwise

@[expose] public section

noncomputable section

namespace Cert.Consts

open Idealize.ShloMosaic

/-- The word of `-∞`. -/
theorem neg_inf : Ideal.ofBits .f32 0xFF800000#32 = (⊥ : EReal) := by simp [Ideal.ofBits, Ideal.ieee]

/-- The word of `+∞`. -/
theorem pos_inf : Ideal.ofBits .f32 0x7F800000#32 = (⊤ : EReal) := by simp [Ideal.ofBits, Ideal.ieee]

/-- The scale of the scores, `1/8`. -/
theorem eighth : Ideal.ofBits .f32 0x3E000000#32 = ((1 / 8 : ℝ) : EReal) := by
  simp [Ideal.ofBits, Ideal.ieee, -EReal.coe_mul]
  norm_num

/-- The floor under a row's sum lies below one. -/
theorem floor_le : Ideal.ofBits .f32 0x0DA24260#32 ≤ (1 : EReal) := by
  rw [← EReal.coe_one]
  simp [Ideal.ofBits, Ideal.ieee, -EReal.coe_mul, -EReal.coe_one]
  norm_num

/-- The starting weight of the second map is a real number. -/
theorem lam_init : ∃ x : ℝ, Ideal.ofBits .f32 0x3E4CCCCD#32 = (x : EReal) := by
  simp only [Ideal.ofBits, Ideal.ieee]
  exact ⟨_, rfl⟩

end Cert.Consts

end
-- ==== Proof.Payloads.lean ====
/- What the kernel's arithmetic gives at an index: one key block's scores, the running maximum, sum and weighted values of a
   row, and the last combination and normalisation. -/
module

public import proofs.«01_k».proof.Proof.Gen.KernelIdeal.Value
public import proofs.«01_k».proof.Proof.Consts
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- The first half of a lane row, as a word comparison. -/
theorem lane_lt : ∀ d : Fin 128, IntOp.cmpi CmpIPredicate.slt (BitVec.ofNat 32 d.val) 64#32 = BitVec.ofBool (decide (d.val < 64)) := by
  decide +kernel

/-- The second half of a lane row, as a word comparison. -/
theorem lane_ge : ∀ d : Fin 128, IntOp.cmpi CmpIPredicate.sge (BitVec.ofNat 32 d.val) 64#32 = BitVec.ofBool (decide (64 ≤ d.val)) := by
  decide +kernel

theorem select_ofBool {α : Type} (p : Prop) [Decidable p] (x y : α) : Scalar.select (BitVec.ofBool (decide p)) x y = if p then x else y := by
  by_cases h : p <;> simp [h, Scalar.select]

/-- The stacked queries: rows 0 to 511 keep the first map's 64 lanes, rows 512 to 1023 the second map's. -/
theorem pay1_lo (v1 : Vec Ideal S512x128 .bf16) (r : Fin 512) (d : Fin 128) :
    k0_pay1 v1 (ix2 ⟨r.val, by omega⟩ d) = if d.val < 64 then v1 (ix2 r d) else (0 : EReal) := by
  pointwise [k0_pay1]
  rw [lane_lt, select_ofBool]

theorem pay1_hi (v1 : Vec Ideal S512x128 .bf16) (r : Fin 512) (d : Fin 128) :
    k0_pay1 v1 (ix2 ⟨512 + r.val, by omega⟩ d) = if 64 ≤ d.val then v1 (ix2 r d) else (0 : EReal) := by
  pointwise [k0_pay1]
  rw [lane_ge, select_ofBool]

theorem pay5_apply (v1 : Vec Ideal S512x128 .bf16) (K : Vec Ideal S1024x128 .bf16) (r j : Fin 1024) :
    k0_pay5 v1 K (ix2 r j) = ∑ l : Fin 128, k0_pay1 v1 (ix2 r l) * K (ix2 j l) := by
  pointwise [k0_pay5]

theorem pay6_apply (v1 : Vec Ideal S512x128 .bf16) (m : FVec Ideal S1024x1 .f32) (K : Vec Ideal S1024x128 .bf16) (r : Fin 1024) :
    k0_pay6 v1 m K (ix2 r 0) = max (m (ix2 r 0)) (Finset.univ.fold max ⊥ fun j : Fin 1024 => k0_pay5 v1 K (ix2 r j)) := by
  pointwise [k0_pay6]
  rw [Cert.Consts.neg_inf]

theorem pay9_apply (v1 : Vec Ideal S512x128 .bf16) (m l : FVec Ideal S1024x1 .f32) (K : Vec Ideal S1024x128 .bf16) (r : Fin 1024) :
    k0_pay9 v1 m l K (ix2 r 0) = Ideal.exp (m (ix2 r 0) - k0_pay6 v1 m K (ix2 r 0)) * l (ix2 r 0)
      + ∑ j : Fin 1024, Ideal.exp (k0_pay5 v1 K (ix2 r j) - k0_pay6 v1 m K (ix2 r 0)) := by
  pointwise [k0_pay9, k0_pay7, k0_pay8]

theorem pay10_apply (v1 : Vec Ideal S512x128 .bf16) (m : FVec Ideal S1024x1 .f32) (a : FVec Ideal S1024x128 .f32) (K V : Vec Ideal S1024x128 .bf16) (r : Fin 1024) (d : Fin 128) :
    k0_pay10 v1 m a K V (ix2 r d) = Ideal.exp (m (ix2 r 0) - k0_pay6 v1 m K (ix2 r 0)) * a (ix2 r d)
      + ∑ j : Fin 1024, Ideal.exp (k0_pay5 v1 K (ix2 r j) - k0_pay6 v1 m K (ix2 r 0)) * V (ix2 j d) := by
  pointwise [k0_pay10, k0_pay7, k0_pay8]

end Cert.KernelIdeal.Attn

end
-- ==== Proof.Softmax.lean ====
/- Softmax over the extended reals: one sweep over the keys in pieces, with a running maximum, a running sum of
   weights and a running weighted sum, against the softmax of the whole row. No program is mentioned here. -/
module

public import Idealize.ShloMosaic.PureOps.Ideal
public import Idealize.ShloMosaic.PureOps.Ideal.Laws

@[expose] public section

noncomputable section

namespace Cert.Softmax

open Idealize.ShloMosaic

/-- The weight of a score: `e ^ x` at a real `x`, zero at `-∞`. -/
def wt (x : EReal) : ℝ := (Ideal.exp x).toReal

theorem wt_bot : wt ⊥ = 0 := by simp [wt]

theorem wt_coe (x : ℝ) : wt (x : EReal) = Real.exp x := by simp [wt]

theorem wt_nonneg (x : EReal) : 0 ≤ wt x := by
  induction x with
  | bot => simp [wt]
  | top => simp [wt]
  | coe x => rw [wt_coe]; exact (Real.exp_pos x).le

/-- A score less a real, exponentiated, is the score's weight times `e ^ (-μ)`. -/
theorem exp_sub (x : EReal) (hx : x ≠ ⊤) (μ : ℝ) : Ideal.exp (x - (μ : EReal)) = ((Real.exp (-μ) * wt x : ℝ) : EReal) := by
  induction x with
  | bot => simp [wt]
  | top => exact absurd rfl hx
  | coe x =>
    rw [← EReal.coe_sub, Ideal.exp_coe, wt_coe, ← Real.exp_add]
    congr 2; ring

/-- The real numbers' coercion moves out of a finite sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many scores, none `+∞` and one of them real, folded from `-∞`, is a real number. -/
theorem fold_max_real {ι : Type*} [Fintype ι] (s : ι → EReal) (hs : ∀ j, s j ≠ ⊤) (j₀ : ι) (h₀ : s j₀ ≠ ⊥) :
    ∃ μ : ℝ, Finset.univ.fold max ⊥ s = (μ : EReal) := by
  have hb : Finset.univ.fold max ⊥ s ≠ ⊥ := by
    have : s j₀ ≤ Finset.univ.fold max ⊥ s := Finset.le_fold_max _ |>.2 (Or.inr ⟨j₀, Finset.mem_univ _, le_rfl⟩)
    exact fun h => h₀ (le_bot_iff.1 (h ▸ this))
  have ht : Finset.univ.fold max ⊥ s ≠ ⊤ := by
    have : Finset.univ.fold max ⊥ s < ⊤ :=
      Finset.fold_max_lt _ |>.2 ⟨bot_lt_top, fun j _ => lt_top_iff_ne_top.2 (hs j)⟩
    exact this.ne
  exact ⟨_, (EReal.coe_toReal ht hb).symm⟩

/-- What a running row holds after the keys whose weights sum to `L` and whose weighted values sum to `A`: nothing yet
    (`-∞, 0, 0`), or a real shift `μ` with both sums scaled by `e ^ (-μ)`. -/
def Run (L A : ℝ) (m l a : EReal) : Prop :=
  (m = ⊥ ∧ l = 0 ∧ a = 0 ∧ L = 0 ∧ A = 0) ∨
    ∃ μ : ℝ, m = μ ∧ l = ((Real.exp (-μ) * L : ℝ) : EReal) ∧ a = ((Real.exp (-μ) * A : ℝ) : EReal)

theorem run_start : Run 0 0 ⊥ 0 0 := Or.inl ⟨rfl, rfl, rfl, rfl, rfl⟩

/-- One more piece of keys, with scores `s` (none `+∞`, one of them real) and values `v`. -/
theorem run_step {ι : Type*} [Fintype ι] (s : ι → EReal) (v : ι → ℝ) (hs : ∀ j, s j ≠ ⊤) (j₀ : ι) (h₀ : s j₀ ≠ ⊥)
    {L A : ℝ} {m l a : EReal} (h : Run L A m l a) {m' : EReal} (hm : m' = max m (Finset.univ.fold max ⊥ s)) :
    Run (L + ∑ j, wt (s j)) (A + ∑ j, wt (s j) * v j) m'
      (Ideal.exp (m - m') * l + ∑ j, Ideal.exp (s j - m'))
      (Ideal.exp (m - m') * a + ∑ j, Ideal.exp (s j - m') * (v j : EReal)) := by
  obtain ⟨μ, hμ⟩ := fold_max_real s hs j₀ h₀
  have hm' : ∃ μ' : ℝ, m' = μ' := by
    rw [hm, hμ]
    rcases h with ⟨rfl, -⟩ | ⟨ν, rfl, -⟩
    · exact ⟨μ, by simp⟩
    · exact ⟨max ν μ, (EReal.coe_strictMono.monotone.map_max).symm⟩
  obtain ⟨μ', hμ'⟩ := hm'
  have hsum : (∑ j, Ideal.exp (s j - m')) = ((Real.exp (-μ') * ∑ j, wt (s j) : ℝ) : EReal) := by
    rw [Finset.mul_sum, ← coe_sum]
    exact Finset.sum_congr rfl fun j _ => by rw [hμ', exp_sub _ (hs j)]
  have hsumv : (∑ j, Ideal.exp (s j - m') * (v j : EReal)) = ((Real.exp (-μ') * ∑ j, wt (s j) * v j : ℝ) : EReal) := by
    rw [Finset.mul_sum, ← coe_sum]
    exact Finset.sum_congr rfl fun j _ => by rw [hμ', exp_sub _ (hs j), ← EReal.coe_mul, mul_assoc]
  refine Or.inr ⟨μ', hμ', ?_, ?_⟩
  · rw [hsum]
    rcases h with ⟨rfl, rfl, rfl, rfl, rfl⟩ | ⟨ν, rfl, rfl, rfl⟩
    · simp
    · rw [hμ', exp_sub _ (EReal.coe_ne_top ν), wt_coe, ← EReal.coe_mul, ← EReal.coe_add]
      congr 1
      have : Real.exp ν * Real.exp (-ν) = 1 := by rw [← Real.exp_add]; simp
      linear_combination (Real.exp (-μ') * L) * this
  · rw [hsumv]
    rcases h with ⟨rfl, rfl, rfl, rfl, rfl⟩ | ⟨ν, rfl, rfl, rfl⟩
    · simp
    · rw [hμ', exp_sub _ (EReal.coe_ne_top ν), wt_coe, ← EReal.coe_mul, ← EReal.coe_add]
      congr 1
      have : Real.exp ν * Real.exp (-ν) = 1 := by rw [← Real.exp_add]; simp
      linear_combination (Real.exp (-μ') * A) * this

/-- At the end the weighted sum over the sum of weights, where some weight is positive. -/
theorem run_div {L A : ℝ} {m l a : EReal} (h : Run L A m l a) (hL : 0 < L) : Ideal.div a l = ((A / L : ℝ) : EReal) := by
  rcases h with ⟨-, -, -, rfl, -⟩ | ⟨μ, -, rfl, rfl⟩
  · exact absurd hL (lt_irrefl _)
  · have hp := Real.exp_pos (-μ)
    rw [Ideal.div_coe (mul_pos hp hL).ne', ← EReal.coe_mul]
    congr 1
    field_simp

/-- The whole row at once: the probability of key `j`, with the row's maximum subtracted, and with the guards that a
    row without any key would need (`g` is the guarded maximum, `eps` the floor of the sum), is its weight's share. -/
theorem prob_eq {ι : Type*} [Fintype ι] (s : ι → EReal) (hs : ∀ j, s j ≠ ⊤) (j₀ : ι) (h₀ : s j₀ ≠ ⊥) {g : EReal}
    (hg : g = Finset.univ.fold max ⊥ s) {eps : EReal} (he : eps ≤ 1) (j : ι) :
    Ideal.div (Ideal.exp (s j - g)) (max (∑ i, Ideal.exp (s i - g)) eps)
      = ((wt (s j) / ∑ i, wt (s i) : ℝ) : EReal) := by
  obtain ⟨μ, hμ⟩ := fold_max_real s hs j₀ h₀
  have hgμ : g = μ := hg.trans hμ
  have hsum : (∑ i, Ideal.exp (s i - g)) = ((Real.exp (-μ) * ∑ i, wt (s i) : ℝ) : EReal) := by
    rw [Finset.mul_sum, ← coe_sum]
    exact Finset.sum_congr rfl fun i _ => by rw [hgμ, exp_sub _ (hs i)]
  -- the maximum is one of the scores
  obtain ⟨i₁, hi₁⟩ : ∃ i, s i = (μ : EReal) := by
    by_contra hne
    push Not at hne
    have hlt : Finset.univ.fold max ⊥ s < (μ : EReal) := Finset.fold_max_lt _ |>.2 ⟨EReal.bot_lt_coe μ, fun i _ => by
      have : s i ≤ Finset.univ.fold max ⊥ s := Finset.le_fold_max _ |>.2 (Or.inr ⟨i, Finset.mem_univ _, le_rfl⟩)
      exact lt_of_le_of_ne (this.trans hμ.le) (hne i)⟩
    exact absurd hμ hlt.ne
  have hp := Real.exp_pos (-μ)
  have hone : 1 ≤ Real.exp (-μ) * ∑ i, wt (s i) := by
    have h1 : wt (s i₁) ≤ ∑ i, wt (s i) := Finset.single_le_sum (fun i _ => wt_nonneg _) (Finset.mem_univ i₁)
    rw [hi₁, wt_coe] at h1
    calc (1 : ℝ) = Real.exp (-μ) * Real.exp μ := by rw [← Real.exp_add]; simp
      _ ≤ _ := mul_le_mul_of_nonneg_left h1 hp.le
  have hmax : max (∑ i, Ideal.exp (s i - g)) eps = ((Real.exp (-μ) * ∑ i, wt (s i) : ℝ) : EReal) := by
    rw [hsum]
    refine max_eq_left (he.trans ?_)
    rw [← EReal.coe_one]
    exact EReal.coe_le_coe_iff.2 hone
  rw [hmax, Ideal.div_coe (by linarith : Real.exp (-μ) * ∑ i, wt (s i) ≠ 0), hgμ, exp_sub _ (hs j), ← EReal.coe_mul]
  congr 1
  have hpos : 0 < ∑ i, wt (s i) := by
    by_contra hle
    have := mul_nonpos_of_nonneg_of_nonpos hp.le (not_lt.1 hle)
    linarith
  field_simp

/-- Some key of the row has a real score, so the weights have a positive sum. -/
theorem wt_sum_pos {ι : Type*} [Fintype ι] (s : ι → EReal) (hs : ∀ j, s j ≠ ⊤) (j₀ : ι) (h₀ : s j₀ ≠ ⊥) :
    0 < ∑ i, wt (s i) := by
  refine Finset.sum_pos' (fun i _ => wt_nonneg _) ⟨j₀, Finset.mem_univ _, ?_⟩
  obtain ⟨x, hx⟩ : ∃ x : ℝ, s j₀ = x := ⟨_, (EReal.coe_toReal (hs j₀) h₀).symm⟩
  rw [hx, wt_coe]
  exact Real.exp_pos x

end Cert.Softmax

end
-- ==== Proof.Loop.lean ====
/- The kernel's loop over the key blocks before the query's own: after `k` blocks the running maximum, sum and weighted
   values of a row stand for the first `1024 k` keys. -/
module

public import proofs.«01_k».proof.Proof.Payloads
public import proofs.«01_k».proof.Proof.Softmax

@[expose] public section

set_option maxRecDepth 16384

noncomputable section

namespace Cert.KernelIdeal.Attn

open Cert.KernelIdeal Cert.KernelIdeal.Gen Idealize.ShloMosaic Idealize.ShloMosaic.TcCoe Idealize.SL.Sem Cert.Softmax

/-- The first loop runs over the whole key blocks before the query's. -/
theorem trips1 (i : grid0.Coords) : (k0_t1_loop i).trips = (i 2).val / 2 := by
  have h : ∀ a : Fin 16, (k0_t1_loop (fun j => match j with | ⟨0, _⟩ => (0 : Fin 2) | ⟨1, _⟩ => (0 : Fin 8) | ⟨2, _⟩ => a)).trips = a.val / 2 := by
    decide +kernel
  exact h (i 2)

/-- The second loop, for blocks that do not divide, never runs. -/
theorem trips2 (i : grid0.Coords) : (k0_t2_loop i).trips = 0 := by
  have h : ∀ a : Fin 16, (k0_t2_loop (fun j => match j with | ⟨0, _⟩ => (0 : Fin 2) | ⟨1, _⟩ => (0 : Fin 8) | ⟨2, _⟩ => a)).trips = 0 := by
    decide +kernel
  exact h (i 2)

theorem coord2_lt (i : grid0.Coords) : (i 2).val < 16 := (i 2).isLt

theorem off1 (i : grid0.Coords) (k : Fin (k0_t1_loop i).trips) : k0_off1 i k = ![1024 * k.val, 0] := by
  have h : ∀ a : Fin 8, (Scalar.indexCast (Scalar.muli (Scf.iv (0#32) 1#32 a.val) 1024#32)).toNat = 1024 * a.val := by decide +kernel
  have hk : k.val < 8 := by have h1 := k.isLt; have h2 := trips1 i; have h3 := coord2_lt i; omega
  have h' := h ⟨k.val, hk⟩
  unfold k0_off1
  funext a
  match a with
  | ⟨0, _⟩ => exact h'
  | ⟨1, _⟩ => rfl

theorem off3 (i : grid0.Coords) : k0_off3 i = ![1024 * ((i 2).val / 2), 0] := by
  have h : ∀ a : Fin 16, k0_off3 (fun j => match j with | ⟨0, _⟩ => (0 : Fin 2) | ⟨1, _⟩ => (0 : Fin 8) | ⟨2, _⟩ => a) = ![1024 * (a.val / 2), 0] := by
    decide +kernel
  exact h (i 2)

/-- One block of keys or values read out of the whole array. -/
theorem ld_apply (x : Vec Ideal S8192x128 .bf16) (off : Fin 2 → Nat) (k : Nat) (ho : off = ![1024 * k, 0]) (hb : ∀ a, off a + S1024x128.size a ≤ S8192x128.size a)
    (j : Fin 1024) (l : Fin 128) (hj : 1024 * k + j.val < 8192) :
    View.ld x (Rect.unit (s := S8192x128) off S1024x128.size hb) (ix2 j l) = x (ix2 ⟨1024 * k + j.val, hj⟩ l) := by
  subst ho
  pointwise

variable (c : Dev nD) (i : grid0.Coords) (arg3 : Memref sig .tc .vmem S512x128 .bf16) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S4x64 .f32) (harg6 : arg6.IsWhole) (arg7 : Memref sig .tc .vmem S1x128 .f32) (harg7 : arg7.IsWhole)
  (arg8 : Memref sig .tc .vmem S512x128 .bf16) (harg8 : arg8.IsWhole)

/-- The state after `k` key blocks, from the blocks staged for a grid point. -/
abbrev st (x0 : Vec Ideal S512x128 .bf16) (x1 x2 : Vec Ideal S8192x128 .bf16) (k : Nat) :
    FVec Ideal S1024x1 .f32 × FVec Ideal S1024x1 .f32 × FVec Ideal S1024x128 .f32 :=
  st_k0_t1 Variants.none c none i arg3 harg3 arg4 harg4 arg5 harg5 arg6 harg6 arg7 harg7 arg8 harg8 x0 (harg4.unread x1) (harg5.unread x2)
    (k0_pay2, k0_pay3, k0_pay4) k

/-- One more block of keys. -/
theorem st_succ (x0 : Vec Ideal S512x128 .bf16) (x1 x2 : Vec Ideal S8192x128 .bf16) (k : Fin (k0_t1_loop i).trips) :
    st c i arg3 harg3 arg4 harg4 arg5 harg5 arg6 harg6 arg7 harg7 arg8 harg8 x0 x1 x2 (k.val + 1)
      = let s := st c i arg3 harg3 arg4 harg4 arg5 harg5 arg6 harg6 arg7 harg7 arg8 harg8 x0 x1 x2 k.val
        let K := View.ld x1 (Rect.unit (s := S8192x128) (k0_off1 i k) S1024x128.size (k0_off1_inb i k))
        let V := View.ld x2 (Rect.unit (s := S8192x128) (k0_off1 i k) S1024x128.size (k0_off1_inb i k))
        (k0_pay6 x0 s.1 K, k0_pay9 x0 s.1 s.2.1 K, k0_pay10 x0 s.1 s.2.2 K V) := by
  unfold st
  rw [st_k0_t1_succ]
  unfold tripR_k0_t1 trip_k0_t1
  simp only []
  rw [View.readAt_eq_ld, View.readAt_eq_ld, harg4.read_unread, harg5.read_unread]

/-- The scores that a stacked query row `r` has with key `j`, and the values, as real numbers. -/
structure Reals (x0 : Vec Ideal S512x128 .bf16) (x1 x2 : Vec Ideal S8192x128 .bf16) (s : Fin 1024 → Nat → ℝ) (v : Nat → Fin 128 → ℝ) : Prop where
  score : ∀ (r : Fin 1024) (j : Fin 8192), (∑ l : Fin 128, k0_pay1 x0 (ix2 r l) * x1 (ix2 j l) : EReal) = (s r j.val : EReal)
  value : ∀ (j : Fin 8192) (d : Fin 128), x2 (ix2 j d) = ((v j.val d : ℝ) : EReal)

/-- After `k` key blocks a row's state stands for the first `1024 k` keys. -/
theorem st_run (x0 : Vec Ideal S512x128 .bf16) (x1 x2 : Vec Ideal S8192x128 .bf16) (s : Fin 1024 → Nat → ℝ) (v : Nat → Fin 128 → ℝ)
    (H : Reals x0 x1 x2 s v) (r : Fin 1024) (d : Fin 128) (k : Nat) (hk : k ≤ (k0_t1_loop i).trips) :
    Run (∑ j ∈ Finset.range (1024 * k), wt (s r j : EReal)) (∑ j ∈ Finset.range (1024 * k), wt (s r j : EReal) * v j d)
      ((st c i arg3 harg3 arg4 harg4 arg5 harg5 arg6 harg6 arg7 harg7 arg8 harg8 x0 x1 x2 k).1 (ix2 r 0))
      ((st c i arg3 harg3 arg4 harg4 arg5 harg5 arg6 harg6 arg7 harg7 arg8 harg8 x0 x1 x2 k).2.1 (ix2 r 0))
      ((st c i arg3 harg3 arg4 harg4 arg5 harg5 arg6 harg6 arg7 harg7 arg8 harg8 x0 x1 x2 k).2.2 (ix2 r d)) := by
  induction k with
  | zero =>
    simp only [Nat.mul_zero, Finset.range_zero, Finset.sum_empty]
    rw [show (st c i arg3 harg3 arg4 harg4 arg5 harg5 arg6 harg6 arg7 harg7 arg8 harg8 x0 x1 x2 0) = (k0_pay2, k0_pay3, k0_pay4) from rfl]
    have h2 : k0_pay2 (F := Ideal) (ix2 r 0) = (⊥ : EReal) := by pointwise [k0_pay2]; exact Cert.Consts.neg_inf
    have h3 : k0_pay3 (F := Ideal) (ix2 r 0) = (0 : EReal) := by pointwise [k0_pay3]
    have h4 : k0_pay4 (F := Ideal) (ix2 r d) = (0 : EReal) := by pointwise [k0_pay4]
    show Run 0 0 (k0_pay2 (F := Ideal) (ix2 r 0)) (k0_pay3 (F := Ideal) (ix2 r 0)) (k0_pay4 (F := Ideal) (ix2 r d))
    rw [h2, h3, h4]
    exact run_start
  | succ k ih =>
    have hlt : k < (k0_t1_loop i).trips := hk
    have h8 : k < 8 := by have h2 := trips1 i; have h3 := coord2_lt i; omega
    have ih := ih hlt.le
    have hs := st_succ c i arg3 harg3 arg4 harg4 arg5 harg5 arg6 harg6 arg7 harg7 arg8 harg8 x0 x1 x2 ⟨k, hlt⟩
    simp only [] at hs
    rw [hs]
    simp only []
    have hK : ∀ (j : Fin 1024), k0_pay5 x0 (View.ld x1 (Rect.unit (s := S8192x128) (k0_off1 i ⟨k, hlt⟩) S1024x128.size (k0_off1_inb i ⟨k, hlt⟩))) (ix2 r j)
        = (s r (1024 * k + j.val) : EReal) := by
      intro j
      rw [pay5_apply, ← H.score r ⟨1024 * k + j.val, by omega⟩]
      refine Finset.sum_congr rfl fun l _ => ?_
      rw [ld_apply x1 _ k (off1 i _) _ j l (by omega)]
    have hV : ∀ (j : Fin 1024), View.ld x2 (Rect.unit (s := S8192x128) (k0_off1 i ⟨k, hlt⟩) S1024x128.size (k0_off1_inb i ⟨k, hlt⟩)) (ix2 j d)
        = (v (1024 * k + j.val) d : EReal) := by
      intro j
      rw [ld_apply x2 _ k (off1 i _) _ j d (by omega), H.value]
    rw [pay9_apply, pay10_apply, Nat.mul_succ, Finset.sum_range_add, Finset.sum_range_add,
      Finset.sum_range (fun x => wt (s r (1024 * k + x) : EReal)), Finset.sum_range (fun x => wt (s r (1024 * k + x) : EReal) * v (1024 * k + x) d)]
    have step := run_step (fun j : Fin 1024 => (s r (1024 * k + j.val) : EReal)) (fun j => v (1024 * k + j.val) d)
      (fun j => EReal.coe_ne_top _) 0 (EReal.coe_ne_bot _) ih
      (m' := k0_pay6 x0 (st c i arg3 harg3 arg4 harg4 arg5 harg5 arg6 harg6 arg7 harg7 arg8 harg8 x0 x1 x2 k).1
        (View.ld x1 (Rect.unit (s := S8192x128) (k0_off1 i ⟨k, hlt⟩) S1024x128.size (k0_off1_inb i ⟨k, hlt⟩))) (ix2 r 0))
      (by rw [pay6_apply]; simp only [hK])
    simp only [hK, hV]
    exact step

end Cert.KernelIdeal.Attn

end
-- ==== Proof.Payloads2.lean ====
/- The arithmetic of the last, masked key block and of the final combination, at an index. -/
module

public import proofs.«01_k».proof.Proof.Payloads
public import Idealize.ShloMosaic.Lib.Tactic.WordOmega

@[expose] public section

set_option maxRecDepth 16384

noncomputable section

namespace Cert.KernelIdeal.Attn

open Cert.KernelIdeal Cert.KernelIdeal.Gen Idealize.ShloMosaic Idealize.ShloMosaic.TcCoe Idealize.SL.Sem

/-- The word of a stacked row's position in its query block. -/
def rowWord (r : Fin 1024) : BitVec 32 :=
  Scalar.select
    (IntOp.andi
      (IntOp.xori (IntOp.cmpi CmpIPredicate.slt (IntOp.remsi ArithUnit.vector (BitVec.ofNat 32 r.val) (Scalar.select (Scalar.cmpi CmpIPredicate.eq 512#32 0#32) 1#32 512#32)) 0#32)
        (Scalar.cmpi CmpIPredicate.slt (Scalar.select (Scalar.cmpi CmpIPredicate.eq 512#32 0#32) 1#32 512#32) 0#32))
      (IntOp.cmpi CmpIPredicate.ne (IntOp.remsi ArithUnit.vector (BitVec.ofNat 32 r.val) (Scalar.select (Scalar.cmpi CmpIPredicate.eq 512#32 0#32) 1#32 512#32)) 0#32))
    (IntOp.addi (IntOp.remsi ArithUnit.vector (BitVec.ofNat 32 r.val) (Scalar.select (Scalar.cmpi CmpIPredicate.eq 512#32 0#32) 1#32 512#32))
      (Scalar.select (Scalar.cmpi CmpIPredicate.eq 512#32 0#32) 1#32 512#32))
    (IntOp.remsi ArithUnit.vector (BitVec.ofNat 32 r.val) (Scalar.select (Scalar.cmpi CmpIPredicate.eq 512#32 0#32) 1#32 512#32))

theorem rowWord_eq : ∀ r : Fin 1024, rowWord r = BitVec.ofNat 32 (r.val % 512) := by decide +kernel

/-- The masked block's comparison on words is the causal comparison. -/
theorem causal_word (j : Fin 1024) (p : Nat) (hp : p < 512) (t : Nat) (ht : t ≤ 512) :
    IntOp.cmpi CmpIPredicate.sle (IntOp.subi (BitVec.ofNat 32 j.val) (BitVec.ofNat 32 p)) (BitVec.ofNat 32 t)
      = BitVec.ofBool (decide (j.val ≤ t + p)) := by
  have hj := j.isLt
  have h : (IntOp.subi (BitVec.ofNat 32 j.val) (BitVec.ofNat 32 p)).toInt = (j.val : Int) - p := by
    show (BitVec.ofNat 32 j.val - BitVec.ofNat 32 p).toInt = _
    rw [BitVec.toInt_sub, BitVec.toInt_ofNat', BitVec.toInt_ofNat']
    simp only [Int.bmod]
    omega
  show BitVec.ofBool (BitVec.sle _ _) = _
  have ht' : (BitVec.ofNat 32 t).toInt = (t : Int) := by
    rw [BitVec.toInt_ofNat']
    simp only [Int.bmod]
    omega
  rw [BitVec.sle_eq_decide, h, ht']
  exact congrArg BitVec.ofBool (decide_eq_decide.2 (by omega))

/-- The masked scores of the last key block: queries from `512 e`, keys from `1024 c`. -/
theorem pay18_apply (e c : Nat) (hc : c = e / 2) (he : e < 16) (q0 c0 : BitVec 32) (hq0 : q0 = BitVec.ofNat 32 (512 * e)) (hc0 : c0 = BitVec.ofNat 32 c)
    (v1 : Vec Ideal S512x128 .bf16) (K : Vec Ideal S1024x128 .bf16) (r j : Fin 1024) :
    k0_pay18 q0 (k0_pay1 v1) c0 K (ix2 r j) = if 1024 * c + j.val ≤ 512 * e + r.val % 512 then ∑ l : Fin 128, k0_pay1 v1 (ix2 r l) * K (ix2 j l) else ⊥ := by
  pointwise [k0_pay18]
  rw [Cert.Consts.neg_inf]
  have hw : Scalar.subi q0 (Scalar.muli c0 1024#32) = BitVec.ofNat 32 (512 * (e % 2)) := by
    subst hq0 hc0 hc
    have h : ∀ a : Fin 16, Scalar.subi (BitVec.ofNat 32 (512 * a.val)) (Scalar.muli (BitVec.ofNat 32 (a.val / 2)) 1024#32) = BitVec.ofNat 32 (512 * (a.val % 2)) := by decide +kernel
    exact h ⟨e, he⟩
  have hm : IntOp.cmpi CmpIPredicate.sle (IntOp.subi (BitVec.ofNat 32 j.val) (rowWord r)) (Scalar.subi q0 (Scalar.muli c0 1024#32))
      = BitVec.ofBool (decide (1024 * c + j.val ≤ 512 * e + r.val % 512)) := by
    rw [rowWord_eq, hw, causal_word j _ (Nat.mod_lt _ (by norm_num)) _ (by omega)]
    congr 2
    apply propext
    omega
  unfold rowWord at hm
  rw [hm, select_ofBool]

variable (q0 c0 : BitVec 32) (qq : FVec Ideal S1024x128 .bf16) (m l : FVec Ideal S1024x1 .f32) (K : Vec Ideal S1024x128 .bf16)

theorem pay17_apply (V : Vec Ideal S1024x128 .bf16) (j : Fin 1024) (d : Fin 128) : k0_pay17 V (ix2 j d) = V (ix2 j d) := by
  pointwise [k0_pay17]

theorem pay19_apply (r : Fin 1024) :
    k0_pay19 q0 qq c0 m K (ix2 r 0) = max (m (ix2 r 0)) (Finset.univ.fold max ⊥ fun j : Fin 1024 => k0_pay18 q0 qq c0 K (ix2 r j)) := by
  pointwise [k0_pay19]
  rw [Cert.Consts.neg_inf]

theorem pay20_apply (r : Fin 1024) :
    k0_pay20 q0 qq c0 m K (ix2 r 0) = Ideal.exp (m (ix2 r 0) - k0_pay19 q0 qq c0 m K (ix2 r 0)) := by
  pointwise [k0_pay20]

theorem pay21_apply (r j : Fin 1024) :
    k0_pay21 q0 qq c0 m K (ix2 r j) = Ideal.exp (k0_pay18 q0 qq c0 K (ix2 r j) - k0_pay19 q0 qq c0 m K (ix2 r 0)) := by
  pointwise [k0_pay21]

theorem pay22_apply (r : Fin 1024) :
    k0_pay22 q0 qq c0 m l K (ix2 r 0) = k0_pay20 q0 qq c0 m K (ix2 r 0) * l (ix2 r 0) + ∑ j : Fin 1024, k0_pay21 q0 qq c0 m K (ix2 r j) := by
  pointwise [k0_pay22]

end Cert.KernelIdeal.Attn

end
-- ==== Proof.Payloads3.lean ====
/- The kernel's last step at an index: the two maps combined, the normalisation, the gain and the scale. -/
module

public import proofs.«01_k».proof.Proof.Gen.KernelIdeal.Value
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- One map's output at a row: its accumulator rescaled, plus the last block's part, over the row's sum. -/
def part (a : FVec Ideal S1024x128 .f32) (V : FVec Ideal S1024x128 .bf16) (al : FVec Ideal S1024x1 .f32) (p : FVec Ideal S1024x1024 .f32)
    (l : FVec Ideal S1024x1 .f32) (r : Fin 1024) (x : Fin 128) : EReal :=
  Ideal.div (al (ix2 r 0) * a (ix2 r x) + ∑ y : Fin 1024, p (ix2 r y) * V (ix2 y x)) (l (ix2 r 0))

/-- The weight of the second map. -/
def lam (lv : Vec Ideal S4x64 .f32) : EReal :=
  Ideal.exp (∑ x : Fin 64, lv (ix2 0 x) * lv (ix2 1 x)) - Ideal.exp (∑ x : Fin 64, lv (ix2 2 x) * lv (ix2 3 x)) + Ideal.ofBits .f32 0x3E4CCCCD#32

/-- The output block: the two maps combined, normalised over a head's coordinates, with gain and scale. -/
theorem pay23_apply (a : FVec Ideal S1024x128 .f32) (V : FVec Ideal S1024x128 .bf16) (al : FVec Ideal S1024x1 .f32) (p : FVec Ideal S1024x1024 .f32)
    (l : FVec Ideal S1024x1 .f32) (lv : Vec Ideal S4x64 .f32) (sg : Vec Ideal S1x128 .f32) (o : Fin 128 → EReal) (r : Fin 512)
    (ho : ∀ x, part a V al p l ⟨r.val, by omega⟩ x - lam lv * part a V al p l ⟨512 + r.val, by omega⟩ x = o x) (d : Fin 128) :
    k0_pay23 a V al p l lv sg (ix2 r d) = o d * Ideal.rsqrt (Ideal.div (∑ x, o x * o x) (Ideal.ofBits .f32 0x43000000#32) + Ideal.ofBits .f32 0x358637BD#32)
      * sg (ix2 0 d) * Ideal.ofBits .f32 0x3F4CCCCD#32 := by
  obtain rfl : (fun x => part a V al p l ⟨r.val, by omega⟩ x - lam lv * part a V al p l ⟨512 + r.val, by omega⟩ x) = o := funext ho
  unfold part lam
  pointwise [k0_pay23]

end Cert.KernelIdeal.Attn

end
-- ==== Proof.Block.lean ====
/- What one grid point writes: causal attention of both maps over all keys up to the query, combined and normalised. -/
module

public import proofs.«01_k».proof.Proof.Loop
public import proofs.«01_k».proof.Proof.Payloads2
public import proofs.«01_k».proof.Proof.Payloads3

@[expose] public section

set_option maxRecDepth 16384

noncomputable section

namespace Cert.KernelIdeal.Attn

open Cert.KernelIdeal Cert.KernelIdeal.Gen Idealize.ShloMosaic Idealize.ShloMosaic.TcCoe Idealize.SL.Sem Cert.Softmax

/-- The weight of key `j` for stacked row `r` of query block `e`: zero past the query. -/
def W (s : Fin 1024 → Nat → ℝ) (e : Nat) (r : Fin 1024) (j : Nat) : ℝ := wt (if j ≤ 512 * e + r.val % 512 then (s r j : EReal) else ⊥)

/-- One map's attention output. -/
def att (s : Fin 1024 → Nat → ℝ) (v : Nat → Fin 128 → ℝ) (e : Nat) (r : Fin 1024) (x : Fin 128) : ℝ :=
  (∑ j ∈ Finset.range 8192, W s e r j * v j x) / ∑ j ∈ Finset.range 8192, W s e r j

/-- The keys before the query's own block, and that block masked, are all the keys that have weight. -/
theorem sum_split (s : Fin 1024 → Nat → ℝ) (e : Nat) (he : e < 16) (r : Fin 1024) (f : Nat → ℝ) :
    (∑ j ∈ Finset.range (1024 * (e / 2)), wt (s r j : EReal) * f j)
      + ∑ y : Fin 1024, wt (if 1024 * (e / 2) + y.val ≤ 512 * e + r.val % 512 then (s r (1024 * (e / 2) + y.val) : EReal) else ⊥) * f (1024 * (e / 2) + y.val)
      = ∑ j ∈ Finset.range 8192, W s e r j * f j := by
  have hsub : Finset.range (1024 * (e / 2) + 1024) ⊆ Finset.range 8192 := Finset.range_subset_range.2 (by omega)
  rw [← Finset.sum_subset hsub, Finset.sum_range_add, Finset.sum_range (fun x => W s e r (1024 * (e / 2) + x) * f (1024 * (e / 2) + x))]
  · congr 1
    refine Finset.sum_congr rfl fun j hj => ?_
    have := Finset.mem_range.1 hj
    rw [W, if_pos (by omega)]
  · intro j _ hj
    have h1 : ¬ j < 1024 * (e / 2) + 1024 := fun h => hj (Finset.mem_range.2 h)
    have h2 := Nat.mod_lt r.val (show 0 < 512 by norm_num)
    rw [W, if_neg (by omega), wt_bot, zero_mul]

theorem W_sum_pos (s : Fin 1024 → Nat → ℝ) (e : Nat) (r : Fin 1024) : 0 < ∑ j ∈ Finset.range 8192, W s e r j := by
  refine Finset.sum_pos' (fun j _ => wt_nonneg _) ⟨0, Finset.mem_range.2 (by norm_num), ?_⟩
  rw [W, if_pos (Nat.zero_le _), wt_coe]
  exact Real.exp_pos _

variable (c : Dev nD) (i : grid0.Coords) (arg3 : Memref sig .tc .vmem S512x128 .bf16) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S4x64 .f32) (harg6 : arg6.IsWhole) (arg7 : Memref sig .tc .vmem S1x128 .f32) (harg7 : arg7.IsWhole)
  (arg8 : Memref sig .tc .vmem S512x128 .bf16) (harg8 : arg8.IsWhole)

/-- The stored block as the payloads, over the state that the first loop leaves. -/
theorem out_eq (x0 : Vec Ideal S512x128 .bf16) (x1 x2 : Vec Ideal S8192x128 .bf16) (x3 : Vec Ideal S4x64 .f32) (x4 : Vec Ideal S1x128 .f32) :
    ∃ (q0 c0 : BitVec 32), q0 = BitVec.ofNat 32 (512 * (i 2).val) ∧ c0 = BitVec.ofNat 32 ((i 2).val / 2) ∧
      out0_A_5 (F := Ideal) c i arg3 harg3 arg4 harg4 arg5 harg5 arg6 harg6 arg7 harg7 arg8 harg8 x0 x1 x2 x3 x4
        = let s := st c i arg3 harg3 arg4 harg4 arg5 harg5 arg6 harg6 arg7 harg7 arg8 harg8 x0 x1 x2 ((i 2).val / 2)
          let K := View.ld x1 (Rect.unit (s := S8192x128) (k0_off3 i) S1024x128.size (k0_off3_inb i))
          let V := View.ld x2 (Rect.unit (s := S8192x128) (k0_off3 i) S1024x128.size (k0_off3_inb i))
          k0_pay23 s.2.2 (k0_pay17 V) (k0_pay20 q0 (k0_pay1 x0) c0 s.1 K) (k0_pay21 q0 (k0_pay1 x0) c0 s.1 K) (k0_pay22 q0 (k0_pay1 x0) c0 s.1 s.2.1 K) x3 x4 := by
  have key : ∃ (q0 c0 w : BitVec 32) (n1 n2 : Nat), q0 = BitVec.ofNat 32 (512 * (i 2).val) ∧ c0 = BitVec.ofNat 32 ((i 2).val / 2) ∧ n1 = (i 2).val / 2 ∧ n2 = 0 ∧
      out0_A_5 (F := Ideal) c i arg3 harg3 arg4 harg4 arg5 harg5 arg6 harg6 arg7 harg7 arg8 harg8 x0 x1 x2 x3 x4
        = let s1 := st c i arg3 harg3 arg4 harg4 arg5 harg5 arg6 harg6 arg7 harg7 arg8 harg8 x0 x1 x2 n1
          let s := st_k0_t2 Variants.none c none i arg3 harg3 arg4 harg4 arg5 harg5 arg6 harg6 arg7 harg7 arg8 harg8 q0 (k0_pay1 x0) c0 w
            s1.1 s1.2.1 s1.2.2 (harg4.unread x1) (harg5.unread x2) s1 n2
          let K := View.ld x1 (Rect.unit (s := S8192x128) (k0_off3 i) S1024x128.size (k0_off3_inb i))
          let V := View.ld x2 (Rect.unit (s := S8192x128) (k0_off3 i) S1024x128.size (k0_off3_inb i))
          k0_pay23 s.2.2 (k0_pay17 V) (k0_pay20 q0 (k0_pay1 x0) c0 s.1 K) (k0_pay21 q0 (k0_pay1 x0) c0 s.1 K) (k0_pay22 q0 (k0_pay1 x0) c0 s.1 s.2.1 K) x3 x4 := by
    frame_out
    refine ⟨_, _, _, _, _, ?_, ?_, ?_, ?_, rfl⟩
    · clear x0 x1 x2 x3 x4
      generalize i 2 = a
      revert a
      change ∀ a : Fin 16, _
      decide +kernel
    · clear x0 x1 x2 x3 x4
      generalize i 2 = a
      revert a
      change ∀ a : Fin 16, _
      decide +kernel
    · exact trips1 i
    · exact trips2 i
  obtain ⟨q0, c0, w, n1, n2, hq, hc, rfl, rfl, h⟩ := key
  exact ⟨q0, c0, hq, hc, h⟩

/-- What a grid point writes: at each row of its query block both maps' attention over the keys up to the query, the second
    weighted and taken off, then the normalisation, the gain and the scale. -/
theorem out_apply (x0 : Vec Ideal S512x128 .bf16) (x1 x2 : Vec Ideal S8192x128 .bf16) (x3 : Vec Ideal S4x64 .f32) (x4 : Vec Ideal S1x128 .f32)
    (s : Fin 1024 → Nat → ℝ) (v : Nat → Fin 128 → ℝ) (H : Reals x0 x1 x2 s v) (L : ℝ) (hL : lam x3 = (L : EReal)) (o : Fin 128 → EReal) (p : Fin 512)
    (ho : ∀ x, o x = ((att s v (i 2).val ⟨p.val, by omega⟩ x - L * att s v (i 2).val ⟨512 + p.val, by omega⟩ x : ℝ) : EReal)) (d : Fin 128) :
    out0_A_5 (F := Ideal) c i arg3 harg3 arg4 harg4 arg5 harg5 arg6 harg6 arg7 harg7 arg8 harg8 x0 x1 x2 x3 x4 (ix2 p d)
      = o d * Ideal.rsqrt (Ideal.div (∑ x, o x * o x) (Ideal.ofBits .f32 0x43000000#32) + Ideal.ofBits .f32 0x358637BD#32)
        * x4 (ix2 0 d) * Ideal.ofBits .f32 0x3F4CCCCD#32 := by
  obtain ⟨q0, c0, hq, hc, h⟩ := out_eq c i arg3 harg3 arg4 harg4 arg5 harg5 arg6 harg6 arg7 harg7 arg8 harg8 x0 x1 x2 x3 x4
  have h16 := coord2_lt i
  generalize he : (i 2).val = e at *
  rw [h]
  refine pay23_apply _ _ _ _ _ x3 x4 o p (fun x => ?_) d
  have row : ∀ r : Fin 1024, part
      (st c i arg3 harg3 arg4 harg4 arg5 harg5 arg6 harg6 arg7 harg7 arg8 harg8 x0 x1 x2 (e / 2)).2.2
      (k0_pay17 (View.ld x2 (Rect.unit (s := S8192x128) (k0_off3 i) S1024x128.size (k0_off3_inb i))))
      (k0_pay20 q0 (k0_pay1 x0) c0 (st c i arg3 harg3 arg4 harg4 arg5 harg5 arg6 harg6 arg7 harg7 arg8 harg8 x0 x1 x2 (e / 2)).1
        (View.ld x1 (Rect.unit (s := S8192x128) (k0_off3 i) S1024x128.size (k0_off3_inb i))))
      (k0_pay21 q0 (k0_pay1 x0) c0 (st c i arg3 harg3 arg4 harg4 arg5 harg5 arg6 harg6 arg7 harg7 arg8 harg8 x0 x1 x2 (e / 2)).1
        (View.ld x1 (Rect.unit (s := S8192x128) (k0_off3 i) S1024x128.size (k0_off3_inb i))))
      (k0_pay22 q0 (k0_pay1 x0) c0 (st c i arg3 harg3 arg4 harg4 arg5 harg5 arg6 harg6 arg7 harg7 arg8 harg8 x0 x1 x2 (e / 2)).1
        (st c i arg3 harg3 arg4 harg4 arg5 harg5 arg6 harg6 arg7 harg7 arg8 harg8 x0 x1 x2 (e / 2)).2.1
        (View.ld x1 (Rect.unit (s := S8192x128) (k0_off3 i) S1024x128.size (k0_off3_inb i)))) r x = ((att s v e r x : ℝ) : EReal) := by
    intro r
    have off : k0_off3 i = ![1024 * (e / 2), 0] := by rw [off3, he]
    have run := st_run c i arg3 harg3 arg4 harg4 arg5 harg5 arg6 harg6 arg7 harg7 arg8 harg8 x0 x1 x2 s v H r x (e / 2) (by rw [trips1, he])
    have hK : ∀ j : Fin 1024, k0_pay18 q0 (k0_pay1 x0) c0 (View.ld x1 (Rect.unit (s := S8192x128) (k0_off3 i) S1024x128.size (k0_off3_inb i))) (ix2 r j)
        = if 1024 * (e / 2) + j.val ≤ 512 * e + r.val % 512 then (s r (1024 * (e / 2) + j.val) : EReal) else ⊥ := by
      intro j
      rw [pay18_apply e (e / 2) rfl h16 q0 c0 hq hc x0 _ r j, ← H.score r ⟨1024 * (e / 2) + j.val, by omega⟩]
      congr 1
      refine Finset.sum_congr rfl fun l _ => ?_
      rw [ld_apply x1 _ (e / 2) off _ j l (by omega)]
    have hV : ∀ j : Fin 1024, k0_pay17 (View.ld x2 (Rect.unit (s := S8192x128) (k0_off3 i) S1024x128.size (k0_off3_inb i))) (ix2 j x)
        = (v (1024 * (e / 2) + j.val) x : EReal) := by
      intro j
      rw [pay17_apply, ld_apply x2 _ (e / 2) off _ j x (by omega), H.value]
    have step := run_step (fun j : Fin 1024 => if 1024 * (e / 2) + j.val ≤ 512 * e + r.val % 512 then (s r (1024 * (e / 2) + j.val) : EReal) else ⊥)
      (fun j => v (1024 * (e / 2) + j.val) x) (fun j => by split <;> simp) 0 (by rw [if_pos (by show 1024 * (e / 2) + 0 ≤ _; omega)]; exact EReal.coe_ne_bot _) run
      (m' := k0_pay19 q0 (k0_pay1 x0) c0 (st c i arg3 harg3 arg4 harg4 arg5 harg5 arg6 harg6 arg7 harg7 arg8 harg8 x0 x1 x2 (e / 2)).1
        (View.ld x1 (Rect.unit (s := S8192x128) (k0_off3 i) S1024x128.size (k0_off3_inb i))) (ix2 r 0))
      (by rw [pay19_apply]; simp only [hK])
    have e1 := sum_split s e h16 r (fun _ => 1)
    simp only [mul_one] at e1
    rw [e1, sum_split s e h16 r (fun j => v j x)] at step
    unfold part
    rw [pay22_apply]
    simp only [pay21_apply, pay20_apply, hK, hV]
    exact run_div step (W_sum_pos s e r)
  rw [row, row, hL, ho, ← EReal.coe_mul, ← EReal.coe_sub]

end Cert.KernelIdeal.Attn

end
-- ==== Proof.Entry.lean ====
/- The blocks staged at a grid point, as entries of the program's arguments: the layout before the launch and the blocks'
   positions together. -/
module

public import proofs.«01_k».proof.Proof.Gen.KernelIdeal.Value
public import Idealize.ShloMosaic.Lib.Pipeline.ValueKit
public import Idealize.ShloMosaic.Lib.Pointwise
public import Idealize.ShloMosaic.Lib.StableHlo.ReadAt

@[expose] public section

set_option maxRecDepth 16384
set_option maxHeartbeats 1000000

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin grid0.N, win0_0.index t = ![16 * (grid0.coords t 0).val + (grid0.coords t 2).val, (grid0.coords t 1).val] := by decide +kernel
theorem idx1 : ∀ t : Fin grid0.N, win0_1.index t = ![(grid0.coords t 0).val, 8 + (grid0.coords t 1).val] := by decide +kernel
theorem idx2 : ∀ t : Fin grid0.N, win0_2.index t = ![(grid0.coords t 0).val, (grid0.coords t 1).val] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![16 * (grid0.coords t 0).val + (grid0.coords t 2).val, (grid0.coords t 1).val] := by decide +kernel

/-- The activations. -/
abbrev act (c : Dev nD) : FVec Ideal S16384x4608 .f32 := m ((c : Thread nD τ).loc main_arg0)

/-- The queries as laid out: head by head, both maps side by side, scaled. -/
theorem q_entry (c : Dev nD) (t : Fin 16384) (h : Fin 8) (l : Fin 128) :
    V m c main_v24 (ix2 t ⟨h.val * 128 + l.val, by omega⟩)
      = (act m c (ix2 t ⟨l.val / 64 * 512 + h.val * 64 + l.val % 64, by omega⟩) * Ideal.ofBits .f32 0x3E000000#32 : EReal) := by
  unfold V
  after_reads_at
  rw [dif_pos (by omega)]
  after_reads_at
  refine congrArg (fun x => (act m c (ix2 t x) * Ideal.ofBits .f32 0x3E000000#32 : EReal)) (Fin.ext ?_)
  show (h.val * 128 + l.val) / 64 % 2 * 512 + h.val * 64 + (h.val * 128 + l.val) % 64 = l.val / 64 * 512 + h.val * 64 + l.val % 64
  omega

/-- The keys as laid out. -/
theorem k_entry (c : Dev nD) (t : Fin 16384) (h : Fin 8) (l : Fin 128) :
    V m c main_v24 (ix2 t ⟨(8 + h.val) * 128 + l.val, by omega⟩)
      = (act m c (ix2 t ⟨1024 + (l.val / 64 * 512 + h.val * 64 + l.val % 64), by omega⟩) : EReal) := by
  unfold V
  after_reads_at
  rw [dif_neg (by omega), dif_pos (by omega)]
  after_reads_at
  refine congrArg (fun x => (act m c (ix2 t x) : EReal)) (Fin.ext ?_)
  show 1024 + (((8 + h.val) * 128 + l.val - 1024) / 64 % 2 * 512 + ((8 + h.val) * 128 + l.val - 1024) / 128 * 64 + ((8 + h.val) * 128 + l.val - 1024) % 64)
    = 1024 + (l.val / 64 * 512 + h.val * 64 + l.val % 64)
  omega

/-- The values as laid out. -/
theorem v_entry (c : Dev nD) (t : Fin 16384) (h : Fin 8) (d : Fin 128) :
    V m c main_v25 (ix2 t ⟨h.val * 128 + d.val, by omega⟩) = (act m c (ix2 t ⟨2048 + (h.val * 128 + d.val), by omega⟩) : EReal) := by
  unfold V
  after_reads_at
  rw [dif_neg (by omega), dif_neg (by omega), dif_neg (by omega), dif_neg (by omega), dif_pos (by omega)]
  after_reads_at
  refine congrArg (fun x => (act m c (ix2 t x) : EReal)) (Fin.ext ?_)
  show 2048 + (3584 + (h.val * 128 + d.val) - 1024 - 1024 - 1024 - 512) = 2048 + (h.val * 128 + d.val)
  omega

theorem iblk3 (c : Dev nD) (t : Fin cfg0.N) : iblk m c 3 t = m ((c : Thread nD τ).loc main_arg1) := by
  funext y
  blk_ext [iblk, V_main_arg1, idx3 t]

theorem iblk4 (c : Dev nD) (t : Fin cfg0.N) (d : Fin 128) : iblk m c 4 t (ix2 0 d) = m ((c : Thread nD τ).loc main_arg2) (ix1 d) := by
  blk_simp [iblk]
  entry_read
  pointwise
  blk_ext [idx4 t]

theorem iblk0 (c : Dev nD) (t : Fin cfg0.N) (p : Fin 512) (l : Fin 128) (h1) (h2) :
    iblk m c 0 t (ix2 p l) = V m c main_v24 (ix2 ⟨(grid0.coords t 0).val * 8192 + ((grid0.coords t 2).val * 512 + p.val), h1⟩ ⟨(grid0.coords t 1).val * 128 + l.val, h2⟩) := by
  blk_ext [iblk, idx0 t]

theorem iblk1 (c : Dev nD) (t : Fin cfg0.N) (r : Fin 8192) (l : Fin 128) (h1) (h2) :
    iblk m c 1 t (ix2 r l) = V m c main_v24 (ix2 ⟨(grid0.coords t 0).val * 8192 + r.val, h1⟩ ⟨(8 + (grid0.coords t 1).val) * 128 + l.val, h2⟩) := by
  blk_ext [iblk, idx1 t]

theorem iblk2 (c : Dev nD) (t : Fin cfg0.N) (r : Fin 8192) (l : Fin 128) (h1) (h2) :
    iblk m c 2 t (ix2 r l) = V m c main_v25 (ix2 ⟨(grid0.coords t 0).val * 8192 + r.val, h1⟩ ⟨(grid0.coords t 1).val * 128 + l.val, h2⟩) := by
  blk_ext [iblk, idx2 t]

end Cert.KernelIdeal.Attn

end
-- ==== Proof.RefStages.lean ====
/- The reference read off stage by stage: the scores, the mask, the softmax with its guards, the difference of the two
   maps, the weighted sum of the values and the normalisation. Each stage is a function of the arrays before it and is
   read at an index; `res_eq` says that the reference's result is the stages one after the other. -/
module

public import proofs.«01_k».proof.Proof.Gen.ReferenceIdeal.Run
public import proofs.«01_k».proof.Proof.Consts
public import proofs.«01_k».proof.Proof.Softmax
public import Idealize.ShloMosaic.Lib.Pointwise
public import Idealize.ShloMosaic.Lib.Tactic.CleanTypes
public import Idealize.ShloMosaic.Lib.Tactic.WordOmega

@[expose] public section

set_option maxRecDepth 16384

noncomputable section

namespace Cert.ReferenceIdeal.Attn

open Cert.ReferenceIdeal Cert.ReferenceIdeal.Gen Cert.ReferenceIdeal.Value Idealize.ShloMosaic Idealize.ShloMosaic.TcCoe Idealize.SL.Sem

/-- Scaled scores `[batch, map, head, query, key]` from the projected activations. -/
def scores (y : FVec Ideal S16384x4608 .f32) : FVec Ideal S2x2x8x8192x8192 .f32 :=
  mulf (Host.dotGeneral dot_S2x8192x2x8x64_S2x8192x2x8x64_S2x2x8x8192x8192_4_4_1_1_023_023 none
      (shapeCast S2x8192x2x8x64 (extractStridedSlice S16384x1024 ![0, 0] y slices_S16384x4608_S16384x1024_0_0) shapeCasts_S16384x1024_S2x8192x2x8x64)
      (shapeCast S2x8192x2x8x64 (extractStridedSlice S16384x1024 ![0, 1024] y slices_S16384x4608_S16384x1024_0_1024) shapeCasts_S16384x1024_S2x8192x2x8x64))
    (broadcastInDim S2x2x8x8192x8192 ![] bcast_S_S2x2x8x8192x8192 (constant S_ .f32 0x3E000000#32))

/-- Scores with the keys after the query at `-∞`. -/
def masked (s : FVec Ideal S2x2x8x8192x8192 .f32) : FVec Ideal S2x2x8x8192x8192 .f32 :=
  select (broadcastInDim S2x2x8x8192x8192 ![0, 1, 2, 3, 4] bcast_S1x1x1x8192x8192_S2x2x8x8192x8192_0_1_2_3_4
      (broadcastInDim S1x1x1x8192x8192 ![3, 4] bcast_S8192x8192_S1x1x1x8192x8192_3_4
        (cmpi .sle (broadcastInDim S8192x8192 ![0, 1] bcast_S1x8192_S8192x8192_0_1 (broadcastInDim S1x8192 ![1] bcast_S8192_S1x8192_1 (iotaInDim S8192 32 0)))
          (broadcastInDim S8192x8192 ![0, 1] bcast_S8192x1_S8192x8192_0_1 (broadcastInDim S8192x1 ![0] bcast_S8192_S8192x1_0 (iotaInDim S8192 32 0))))))
    s (broadcastInDim S2x2x8x8192x8192 ![] bcast_S_S2x2x8x8192x8192 (id (constant S_ .f32 0xFF800000#32)))

/-- Each row's maximum. -/
def rowMax (s : FVec Ideal S2x2x8x8192x8192 .f32) : FVec Ideal S2x2x8x8192x1 .f32 :=
  broadcastInDim S2x2x8x8192x1 ![0, 1, 2, 3] bcast_S2x2x8x8192_S2x2x8x8192x1_0_1_2_3
    (Host.reduce FloatOps.maximumf s (constant S_ .f32 0xFF800000#32) reducesTo_S2x2x8x8192x8192_S2x2x8x8192_d4 h_S_)

/-- The maximum, replaced by zero where it is infinite. -/
def guarded (x : FVec Ideal S2x2x8x8192x1 .f32) : FVec Ideal S2x2x8x8192x1 .f32 :=
  select (cmpf .olt (Host.absf x) (broadcastInDim S2x2x8x8192x1 ![] bcast_S_S2x2x8x8192x1 (constant S_ .f32 0x7F800000#32)))
    x (broadcastInDim S2x2x8x8192x1 ![] bcast_S_S2x2x8x8192x1 (id (constant S_ .f32 0x00000000#32)))

/-- The exponentials. -/
def expo (s : FVec Ideal S2x2x8x8192x8192 .f32) (x : FVec Ideal S2x2x8x8192x1 .f32) : FVec Ideal S2x2x8x8192x8192 .f32 :=
  Host.exp (subf s (broadcastInDim S2x2x8x8192x8192 ![0, 1, 2, 3, 4] bcast_S2x2x8x8192x1_S2x2x8x8192x8192_0_1_2_3_4 x))

/-- The exponentials over their row's sum, which is kept away from zero. -/
def normed (e : FVec Ideal S2x2x8x8192x8192 .f32) : FVec Ideal S2x2x8x8192x8192 .f32 :=
  Host.divf e (broadcastInDim S2x2x8x8192x8192 ![0, 1, 2, 3, 4] bcast_S2x2x8x8192x1_S2x2x8x8192x8192_0_1_2_3_4
    (maximumf (broadcastInDim S2x2x8x8192x1 ![0, 1, 2, 3] bcast_S2x2x8x8192_S2x2x8x8192x1_0_1_2_3
        (Host.reduceAdd e (constant S_ .f32 0x00000000#32) reducesTo_S2x2x8x8192x8192_S2x2x8x8192_d4 h_S_))
      (broadcastInDim S2x2x8x8192x1 ![] bcast_S_S2x2x8x8192x1 (constant S_ .f32 0x0DA24260#32))))

/-- The weight of the second map. -/
def lam (lv : FVec Ideal S4x64 .f32) : FVec Ideal S_ .f32 :=
  addf (subf
      (Host.exp (Host.reduceAdd (mulf (shapeCast S64 (extractStridedSlice S1x64 ![0, 0] lv slices_S4x64_S1x64_0_0) shapeCasts_S1x64_S64)
        (shapeCast S64 (extractStridedSlice S1x64 ![1, 0] lv slices_S4x64_S1x64_1_0) shapeCasts_S1x64_S64)) (constant S_ .f32 0x00000000#32) reducesTo_S64_S_d0 h_S_))
      (Host.exp (Host.reduceAdd (mulf (shapeCast S64 (extractStridedSlice S1x64 ![2, 0] lv slices_S4x64_S1x64_2_0) shapeCasts_S1x64_S64)
        (shapeCast S64 (extractStridedSlice S1x64 ![3, 0] lv slices_S4x64_S1x64_3_0) shapeCasts_S1x64_S64)) (constant S_ .f32 0x00000000#32) reducesTo_S64_S_d0 h_S_)))
    (constant S_ .f32 0x3E4CCCCD#32)

/-- The first map less the weighted second, `[batch, head, query, key]`. -/
def mixed (p : FVec Ideal S2x2x8x8192x8192 .f32) (w : FVec Ideal S_ .f32) : FVec Ideal S2x8x8192x8192 .f32 :=
  subf (shapeCast S2x8x8192x8192 (extractStridedSlice S2x1x8x8192x8192 ![0, 0, 0, 0, 0] p slices_S2x2x8x8192x8192_S2x1x8x8192x8192_0_0_0_0_0) shapeCasts_S2x1x8x8192x8192_S2x8x8192x8192)
    (mulf (broadcastInDim S2x8x8192x8192 ![] bcast_S_S2x8x8192x8192 w)
      (shapeCast S2x8x8192x8192 (extractStridedSlice S2x1x8x8192x8192 ![0, 1, 0, 0, 0] p slices_S2x2x8x8192x8192_S2x1x8x8192x8192_0_1_0_0_0) shapeCasts_S2x1x8x8192x8192_S2x8x8192x8192))

/-- The weighted sum of the values, `[batch, query, head, value coordinate]`. -/
def summed (y : FVec Ideal S16384x4608 .f32) (a : FVec Ideal S2x8x8192x8192 .f32) : FVec Ideal S2x8192x8x128 .f32 :=
  transpose S2x8192x8x128 [0, 3, 1, 2]
    (Host.dotGeneral dot_S2x8192x8x128_S2x8x8192x8192_S2x8x128x8192_1_3_3_2_02_01 none
      (shapeCast S2x8192x8x128 (extractStridedSlice S16384x1024 ![0, 2048] y slices_S16384x4608_S16384x1024_0_2048) shapeCasts_S16384x1024_S2x8192x8x128) a)
    transposes_S2x8x128x8192_S2x8192x8x128_0_3_1_2

/-- The normalisation of each head's output, its gain, and the last scale. -/
def finish (o : FVec Ideal S2x8192x8x128 .f32) (g : FVec Ideal S128 .f32) : FVec Ideal S16384x1024 .bf16 :=
  truncf .bf16 (shapeCast S16384x1024 (mulf (mulf (mulf o
      (broadcastInDim S2x8192x8x128 ![0, 1, 2, 3] bcast_S2x8192x8x1_S2x8192x8x128_0_1_2_3
        (Host.rsqrt (addf (Host.divf (broadcastInDim S2x8192x8x1 ![0, 1, 2] bcast_S2x8192x8_S2x8192x8x1_0_1_2
            (Host.reduceAdd (mulf o o) (constant S_ .f32 0x00000000#32) reducesTo_S2x8192x8x128_S2x8192x8_d3 h_S_))
            (broadcastInDim S2x8192x8x1 ![] bcast_S_S2x8192x8x1 (constant S_ .f32 0x43000000#32)))
          (broadcastInDim S2x8192x8x1 ![] bcast_S_S2x8192x8x1 (constant S_ .f32 0x358637BD#32))))))
      (broadcastInDim S2x8192x8x128 ![0, 1, 2, 3] bcast_S1x1x1x128_S2x8192x8x128_0_1_2_3 (broadcastInDim S1x1x1x128 ![3] bcast_S128_S1x1x1x128_3 g)))
      (broadcastInDim S2x8192x8x128 ![] bcast_S_S2x8192x8x128 (constant S_ .f32 0x3F4CCCCD#32))) shapeCasts_S2x8192x8x128_S16384x1024) bitsLt_bf16_f32

/-- The whole reference. -/
def whole (y : FVec Ideal S16384x4608 .f32) (lv : FVec Ideal S4x64 .f32) (g : FVec Ideal S128 .f32) : FVec Ideal S16384x1024 .bf16 :=
  finish (summed y (mixed (normed (expo (masked (scores y)) (guarded (rowMax (masked (scores y)))))) (lam lv))) g

theorem res_eq (m : (ℓ : Loc nD τ sig) → Buf (Elt Ideal) ℓ) (c : Dev nD) :
    res_out0 m c = whole (m ((c.tc : Thread nD τ).loc main_arg0)) (m ((c.tc : Thread nD τ).loc main_arg1)) (m ((c.tc : Thread nD τ).loc main_arg2)) := by
  unfold res_out0 res_main_v73
  rfl

theorem scores_apply (y : FVec Ideal S16384x4608 .f32) (b mp : Fin 2) (h : Fin 8) (q k : Fin 8192) :
    scores y (ix5 b mp h q k) = (∑ d : Fin 64, y (ix2 ⟨b.val * 8192 + q.val, by omega⟩ ⟨mp.val * 512 + h.val * 64 + d.val, by omega⟩)
      * y (ix2 ⟨b.val * 8192 + k.val, by omega⟩ ⟨1024 + (mp.val * 512 + h.val * 64 + d.val), by omega⟩)) * Ideal.ofBits .f32 0x3E000000#32 := by
  pointwise [scores]

theorem masked_apply (s : FVec Ideal S2x2x8x8192x8192 .f32) (b mp : Fin 2) (h : Fin 8) (q k : Fin 8192) :
    masked s (ix5 b mp h q k) = if k.val ≤ q.val then s (ix5 b mp h q k) else ⊥ := by
  pointwise [masked]
  have hb : (id (constant (F := Ideal) S_ .f32 4286578688#32) ix0 : EReal) = ⊥ := Consts.neg_inf
  rw [hb, show IntOp.cmpi CmpIPredicate.sle (BitVec.ofNat 32 k.val) (BitVec.ofNat 32 q.val) = BitVec.ofBool (decide (k.val ≤ q.val)) from by
      word_omega]
  by_cases hk : k.val ≤ q.val <;> simp [hk, Scalar.select]

theorem rowMax_apply (s : FVec Ideal S2x2x8x8192x8192 .f32) (b mp : Fin 2) (h : Fin 8) (q : Fin 8192) :
    rowMax s (ix5 b mp h q 0) = Finset.univ.fold max ⊥ fun k : Fin 8192 => s (ix5 b mp h q k) := by
  pointwise [rowMax]
  rw [Consts.neg_inf]

theorem guarded_apply (x : FVec Ideal S2x2x8x8192x1 .f32) (b mp : Fin 2) (h : Fin 8) (q : Fin 8192) (r : ℝ)
    (hx : x (ix5 b mp h q 0) = (r : EReal)) : guarded x (ix5 b mp h q 0) = x (ix5 b mp h q 0) := by
  pointwise [guarded]
  rw [if_pos]
  rw [hx, Consts.pos_inf]
  show max (r : EReal) (-r) < ⊤
  rw [← EReal.coe_neg, ← EReal.coe_strictMono.monotone.map_max]
  exact EReal.coe_lt_top _

theorem expo_apply (s : FVec Ideal S2x2x8x8192x8192 .f32) (x : FVec Ideal S2x2x8x8192x1 .f32) (b mp : Fin 2) (h : Fin 8) (q k : Fin 8192) :
    expo s x (ix5 b mp h q k) = Ideal.exp (s (ix5 b mp h q k) - x (ix5 b mp h q 0)) := by
  pointwise [expo]

theorem normed_apply (e : FVec Ideal S2x2x8x8192x8192 .f32) (b mp : Fin 2) (h : Fin 8) (q k : Fin 8192) :
    normed e (ix5 b mp h q k) = Ideal.div (e (ix5 b mp h q k)) (max (∑ j : Fin 8192, e (ix5 b mp h q j)) (Ideal.ofBits .f32 0x0DA24260#32)) := by
  pointwise [normed]

theorem lam_apply (lv : FVec Ideal S4x64 .f32) :
    lam lv ix0 = Ideal.exp (∑ x : Fin 64, lv (ix2 0 x) * lv (ix2 1 x)) - Ideal.exp (∑ x : Fin 64, lv (ix2 2 x) * lv (ix2 3 x))
      + Ideal.ofBits .f32 0x3E4CCCCD#32 := by
  pointwise [lam]

theorem mixed_apply (p : FVec Ideal S2x2x8x8192x8192 .f32) (w : FVec Ideal S_ .f32) (b : Fin 2) (h : Fin 8) (q k : Fin 8192) :
    mixed p w (ix4 b h q k) = p (ix5 b 0 h q k) - w ix0 * p (ix5 b 1 h q k) := by
  pointwise [mixed]

theorem summed_apply (y : FVec Ideal S16384x4608 .f32) (a : FVec Ideal S2x8x8192x8192 .f32) (b : Fin 2) (h : Fin 8) (q : Fin 8192) (d : Fin 128) :
    summed y a (ix4 b q h d) = ∑ k : Fin 8192, y (ix2 ⟨b.val * 8192 + k.val, by omega⟩ ⟨2048 + (h.val * 128 + d.val), by omega⟩) * a (ix4 b h q k) := by
  pointwise [summed]

theorem finish_apply (o : FVec Ideal S2x8192x8x128 .f32) (g : FVec Ideal S128 .f32) (b : Fin 2) (h : Fin 8) (q : Fin 8192) (d : Fin 128) :
    finish o g (ix2 ⟨b.val * 8192 + q.val, by omega⟩ ⟨h.val * 128 + d.val, by omega⟩)
      = o (ix4 b q h d) * Ideal.rsqrt (Ideal.div (∑ x : Fin 128, o (ix4 b q h x) * o (ix4 b q h x)) (Ideal.ofBits .f32 0x43000000#32)
          + Ideal.ofBits .f32 0x358637BD#32) * g (ix1 d) * Ideal.ofBits .f32 0x3F4CCCCD#32 := by
  pointwise [finish]

end Cert.ReferenceIdeal.Attn

end
-- ==== Proof.AttReal.lean ====
/- Differential causal attention over real numbers: the common value of the two programs. `Y t x` are the projected
   activations, `b` the batch entry, `mp` the map, `h` the head, `q` and `k` positions. -/
module

public import proofs.«01_k».proof.Proof.Softmax

@[expose] public section

noncomputable section

namespace Cert.Att

open Cert.Softmax

variable (Y : Nat → Nat → ℝ)

/-- The scaled score of query `q` with key `k`. -/
def score (b mp h q k : Nat) : ℝ :=
  (∑ d : Fin 64, Y (b * 8192 + q) (mp * 512 + h * 64 + d.val) * Y (b * 8192 + k) (1024 + (mp * 512 + h * 64 + d.val))) * (1 / 8)

/-- A key's value. -/
def value (b h k : Nat) (x : Fin 128) : ℝ := Y (b * 8192 + k) (2048 + (h * 128 + x.val))

/-- The weight of key `k` for query `q`. -/
def weight (b mp h q k : Nat) : ℝ := wt (if k ≤ q then (score Y b mp h q k : EReal) else ⊥)

/-- One map's attention output. -/
def att (b mp h q : Nat) (x : Fin 128) : ℝ :=
  (∑ k ∈ Finset.range 8192, weight Y b mp h q k * value Y b h k x) / ∑ k ∈ Finset.range 8192, weight Y b mp h q k

end Cert.Att

end
-- ==== Proof.RefValue.lean ====
/- The reference over activations that are real numbers: each head's output before the normalisation is the first map's
   attention less the weighted second. -/
module

public import proofs.«01_k».proof.Proof.RefStages
public import proofs.«01_k».proof.Proof.AttReal

@[expose] public section

set_option maxRecDepth 16384

noncomputable section

namespace Cert.ReferenceIdeal.Attn

open Cert.ReferenceIdeal Cert.ReferenceIdeal.Gen Idealize.ShloMosaic Idealize.ShloMosaic.TcCoe Idealize.SL.Sem Cert.Softmax

variable (y : FVec Ideal S16384x4608 .f32) (Y : Nat → Nat → ℝ) (hY : ∀ (t : Fin 16384) (x : Fin 4608), y (ix2 t x) = ((Y t.val x.val : ℝ) : EReal))

include hY

theorem scores_real (b mp : Fin 2) (h : Fin 8) (q k : Fin 8192) :
    scores y (ix5 b mp h q k) = ((Att.score Y b.val mp.val h.val q.val k.val : ℝ) : EReal) := by
  rw [scores_apply, Consts.eighth]
  simp only [hY, ← EReal.coe_mul]
  rw [coe_sum, ← EReal.coe_mul]
  rfl

theorem prob_real (b mp : Fin 2) (h : Fin 8) (q k : Fin 8192) :
    normed (expo (masked (scores y)) (guarded (rowMax (masked (scores y))))) (ix5 b mp h q k)
      = ((Att.weight Y b.val mp.val h.val q.val k.val / ∑ j ∈ Finset.range 8192, Att.weight Y b.val mp.val h.val q.val j : ℝ) : EReal) := by
  have hs : ∀ k : Fin 8192, masked (scores y) (ix5 b mp h q k)
      = if k.val ≤ q.val then ((Att.score Y b.val mp.val h.val q.val k.val : ℝ) : EReal) else ⊥ := by
    intro k
    rw [masked_apply, scores_real y Y hY]
  have ht : ∀ k : Fin 8192, (if k.val ≤ q.val then ((Att.score Y b.val mp.val h.val q.val k.val : ℝ) : EReal) else ⊥) ≠ ⊤ := by
    intro k; split <;> simp
  have h0 : (if (⟨0, by norm_num⟩ : Fin 8192).val ≤ q.val then ((Att.score Y b.val mp.val h.val q.val (⟨0, by norm_num⟩ : Fin 8192).val : ℝ) : EReal) else ⊥) ≠ ⊥ := by
    rw [if_pos (Nat.zero_le _)]; exact EReal.coe_ne_bot _
  have hmax : rowMax (masked (scores y)) (ix5 b mp h q 0)
      = Finset.univ.fold max ⊥ fun k : Fin 8192 => if k.val ≤ q.val then ((Att.score Y b.val mp.val h.val q.val k.val : ℝ) : EReal) else ⊥ := by
    rw [rowMax_apply]
    simp only [hs]
  obtain ⟨μ, hμ⟩ := fold_max_real _ ht _ h0
  rw [normed_apply]
  simp only [expo_apply, hs]
  rw [guarded_apply _ b mp h q μ (hmax.trans hμ)]
  rw [prob_eq _ ht _ h0 hmax Consts.floor_le k, Finset.sum_range]
  rfl

theorem summed_real (w : FVec Ideal S_ .f32) (L : ℝ) (hL : w ix0 = (L : EReal)) (b : Fin 2) (h : Fin 8) (q : Fin 8192) (x : Fin 128) :
    summed y (mixed (normed (expo (masked (scores y)) (guarded (rowMax (masked (scores y)))))) w) (ix4 b q h x)
      = ((Att.att Y b.val 0 h.val q.val x - L * Att.att Y b.val 1 h.val q.val x : ℝ) : EReal) := by
  rw [summed_apply]
  have e : ∀ k : Fin 8192, (y (ix2 ⟨b.val * 8192 + k.val, by omega⟩ ⟨2048 + (h.val * 128 + x.val), by omega⟩)
        * mixed (normed (expo (masked (scores y)) (guarded (rowMax (masked (scores y)))))) w (ix4 b h q k) : EReal)
      = ((Att.value Y b.val h.val k.val x * (Att.weight Y b.val 0 h.val q.val k.val / (∑ j ∈ Finset.range 8192, Att.weight Y b.val 0 h.val q.val j)
          - L * (Att.weight Y b.val 1 h.val q.val k.val / ∑ j ∈ Finset.range 8192, Att.weight Y b.val 1 h.val q.val j)) : ℝ) : EReal) := by
    intro k
    rw [mixed_apply, prob_real y Y hY, prob_real y Y hY, hL, hY, ← EReal.coe_mul, ← EReal.coe_sub, ← EReal.coe_mul]
    rfl
  simp only [e]
  rw [coe_sum]
  congr 1
  rw [Att.att, Att.att, ← Finset.sum_range (fun k => Att.value Y b.val h.val k x * (Att.weight Y b.val 0 h.val q.val k / (∑ j ∈ Finset.range 8192, Att.weight Y b.val 0 h.val q.val j)
          - L * (Att.weight Y b.val 1 h.val q.val k / ∑ j ∈ Finset.range 8192, Att.weight Y b.val 1 h.val q.val j))),
    Finset.sum_div, Finset.sum_div, Finset.mul_sum, ← Finset.sum_sub_distrib]
  refine Finset.sum_congr rfl fun k _ => ?_
  ring

/-- The reference's result at a position, from each head's output `o`. -/
theorem whole_apply (lv : FVec Ideal S4x64 .f32) (g : FVec Ideal S128 .f32) (L : ℝ) (hL : lam lv ix0 = (L : EReal)) (b : Fin 2) (h : Fin 8) (q : Fin 8192)
    (o : Fin 128 → EReal) (ho : ∀ x, o x = ((Att.att Y b.val 0 h.val q.val x - L * Att.att Y b.val 1 h.val q.val x : ℝ) : EReal)) (d : Fin 128) :
    whole y lv g (ix2 ⟨b.val * 8192 + q.val, by omega⟩ ⟨h.val * 128 + d.val, by omega⟩)
      = o d * Ideal.rsqrt (Ideal.div (∑ x, o x * o x) (Ideal.ofBits .f32 0x43000000#32) + Ideal.ofBits .f32 0x358637BD#32)
        * g (ix1 d) * Ideal.ofBits .f32 0x3F4CCCCD#32 := by
  unfold whole
  rw [finish_apply]
  simp only [summed_real y Y hY _ L hL, ← ho]

end Cert.ReferenceIdeal.Attn

end
-- ==== Proof.Array.lean ====
/- The kernel's whole result: every block it writes agrees with the reference's value there, and the blocks cover the array. -/
module

public import proofs.«01_k».proof.Proof.Block
public import proofs.«01_k».proof.Proof.Entry
public import proofs.«01_k».proof.Proof.RefValue

@[expose] public section

set_option maxRecDepth 16384

noncomputable section

namespace Cert.KernelIdeal.Attn

open Cert.KernelIdeal Cert.KernelIdeal.Gen Idealize.ShloMosaic Idealize.ShloMosaic.TcCoe Idealize.SL.Sem Cert.Softmax
open Idealize.ShloMosaic.Pipeline (Dat)

/-- A sum over 128 lanes is one over the first 64 and one over the last 64. -/
theorem sum_lanes (f : Nat → EReal) : ∑ l : Fin 128, f l.val = ∑ d : Fin 64, f d.val + ∑ d : Fin 64, f (64 + d.val) := by
  rw [← Finset.sum_range f, show (128 : Nat) = 64 + 64 from rfl, Finset.sum_range_add, Finset.sum_range f, Finset.sum_range (fun x => f (64 + x))]

/-- A row of products whose first factor is kept on the first 64 lanes only. -/
theorem lanes_lo (a b : Fin 128 → EReal) (q k : Nat → ℝ) (ha : ∀ l : Fin 128, a l = if l.val < 64 then ((q l.val : ℝ) : EReal) else 0)
    (hb : ∀ l : Fin 128, b l = ((k l.val : ℝ) : EReal)) : ∑ l : Fin 128, a l * b l = ((∑ d : Fin 64, q d.val * k d.val : ℝ) : EReal) := by
  simp only [ha, hb]
  rw [sum_lanes (fun l => (if l < 64 then ((q l : ℝ) : EReal) else 0) * ((k l : ℝ) : EReal))]
  have h1 : ∀ d : Fin 64, ((if d.val < 64 then ((q d.val : ℝ) : EReal) else 0) * ((k d.val : ℝ) : EReal)) = ((q d.val * k d.val : ℝ) : EReal) :=
    fun d => by rw [if_pos d.isLt, EReal.coe_mul]
  have h2 : ∀ d : Fin 64, ((if 64 + d.val < 64 then ((q (64 + d.val) : ℝ) : EReal) else 0) * ((k (64 + d.val) : ℝ) : EReal)) = 0 :=
    fun d => by rw [if_neg (by omega), zero_mul]
  simp only [h1, h2, Finset.sum_const_zero, add_zero]
  exact coe_sum _ _

/-- A row of products whose first factor is kept on the last 64 lanes only. -/
theorem lanes_hi (a b : Fin 128 → EReal) (q k : Nat → ℝ) (ha : ∀ l : Fin 128, a l = if 64 ≤ l.val then ((q l.val : ℝ) : EReal) else 0)
    (hb : ∀ l : Fin 128, b l = ((k l.val : ℝ) : EReal)) : ∑ l : Fin 128, a l * b l = ((∑ d : Fin 64, q (64 + d.val) * k (64 + d.val) : ℝ) : EReal) := by
  simp only [ha, hb]
  rw [sum_lanes (fun l => (if 64 ≤ l then ((q l : ℝ) : EReal) else 0) * ((k l : ℝ) : EReal))]
  have h1 : ∀ d : Fin 64, ((if 64 ≤ 64 + d.val then ((q (64 + d.val) : ℝ) : EReal) else 0) * ((k (64 + d.val) : ℝ) : EReal))
      = ((q (64 + d.val) * k (64 + d.val) : ℝ) : EReal) := fun d => by rw [if_pos (by omega), EReal.coe_mul]
  have h2 : ∀ d : Fin 64, ((if 64 ≤ d.val then ((q d.val : ℝ) : EReal) else 0) * ((k d.val : ℝ) : EReal)) = 0 :=
    fun d => by rw [if_neg (by omega), zero_mul]
  simp only [h1, h2, Finset.sum_const_zero, zero_add]
  exact coe_sum _ _

/-- Over real vectors the weight of the second map is a real number. -/
theorem lam_real (lv : FVec Ideal S4x64 .f32) (h : ∀ i, lv i = (((lv i : EReal).toReal : ℝ) : EReal)) : ∃ L : ℝ, lam lv = (L : EReal) := by
  obtain ⟨x, hx⟩ := Consts.lam_init
  have hs : ∀ a b : Fin 4, ∃ z : ℝ, (∑ l : Fin 64, (lv (ix2 a l) : EReal) * lv (ix2 b l)) = (z : EReal) := fun a b => by
    refine ⟨∑ l : Fin 64, (lv (ix2 a l) : EReal).toReal * (lv (ix2 b l) : EReal).toReal, ?_⟩
    rw [← coe_sum]
    refine Finset.sum_congr rfl fun l _ => ?_
    rw [EReal.coe_mul, ← h, ← h]
  obtain ⟨z1, h1⟩ := hs 0 1
  obtain ⟨z2, h2⟩ := hs 2 3
  refine ⟨Real.exp z1 - Real.exp z2 + x, ?_⟩
  unfold lam
  rw [h1, h2, hx, Ideal.exp_coe, Ideal.exp_coe, ← EReal.coe_sub, ← EReal.coe_add]

variable (m : (ℓ : Loc nD τ sig) → Buf (Elt Ideal) ℓ) (c : Dev nD) (Y : Nat → Nat → ℝ)
  (hY : ∀ (t : Fin 16384) (x : Fin 4608), act m c (ix2 t x) = ((Y t.val x.val : ℝ) : EReal))

theorem coord0_lt (t : Fin cfg0.N) : (grid0.coords t 0).val < 2 := (grid0.coords t 0).isLt
theorem coord1_lt (t : Fin cfg0.N) : (grid0.coords t 1).val < 8 := (grid0.coords t 1).isLt

include hY

/-- At every grid point the staged blocks hold real numbers, whose scores and values are the attention's. -/
theorem reals (t : Fin cfg0.N) : Reals (iblk m c 0 t) (iblk m c 1 t) (iblk m c 2 t)
    (fun r j => Att.score Y (grid0.coords t 0).val (r.val / 512) (grid0.coords t 1).val (512 * (grid0.coords t 2).val + r.val % 512) j)
    (fun j d => Att.value Y (grid0.coords t 0).val (grid0.coords t 1).val j d) := by
  have h0 := coord0_lt t
  have h1 := coord1_lt t
  have h2 := coord2_lt (grid0.coords t)
  have hq : ∀ (p : Fin 512) (l : Fin 128), iblk m c 0 t (ix2 p l) = ((Y ((grid0.coords t 0).val * 8192 + (512 * (grid0.coords t 2).val + p.val))
      (l.val / 64 * 512 + (grid0.coords t 1).val * 64 + l.val % 64) * (1 / 8) : ℝ) : EReal) := by
    intro p l
    rw [iblk0 m c t p l (by omega) (by omega), q_entry m c _ ⟨_, h1⟩ l, hY, Consts.eighth, ← EReal.coe_mul, Nat.mul_comm 512]
  have hk : ∀ (j : Fin 8192) (l : Fin 128), iblk m c 1 t (ix2 j l) = ((Y ((grid0.coords t 0).val * 8192 + j.val)
      (1024 + (l.val / 64 * 512 + (grid0.coords t 1).val * 64 + l.val % 64)) : ℝ) : EReal) := by
    intro j l
    rw [iblk1 m c t j l (by omega) (by omega), k_entry m c _ ⟨_, h1⟩ l, hY]
  constructor
  · intro r j
    rcases lt_or_ge r.val 512 with hr | hr
    · obtain ⟨p, rfl⟩ : ∃ p : Fin 512, r = ⟨p.val, Nat.lt_trans p.isLt (by decide)⟩ := ⟨⟨r.val, hr⟩, rfl⟩
      have hp := p.isLt
      rw [lanes_lo _ _ (fun n => Y ((grid0.coords t 0).val * 8192 + (512 * (grid0.coords t 2).val + p.val)) (n / 64 * 512 + (grid0.coords t 1).val * 64 + n % 64) * (1 / 8))
        (fun n => Y ((grid0.coords t 0).val * 8192 + j.val) (1024 + (n / 64 * 512 + (grid0.coords t 1).val * 64 + n % 64)))
        (fun l => (pay1_lo _ p l).trans (by rw [hq])) (fun l => hk j l), Att.score, Finset.sum_mul]
      congr 1
      refine Finset.sum_congr rfl fun d _ => ?_
      have hd := d.isLt
      simp only [Nat.div_eq_of_lt hd, Nat.mod_eq_of_lt hd, Nat.div_eq_of_lt hp, Nat.mod_eq_of_lt hp]
      ring
    · obtain ⟨p, rfl⟩ : ∃ p : Fin 512, r = ⟨512 + p.val, Nat.add_lt_add_left p.isLt 512⟩ :=
        ⟨⟨r.val - 512, by omega⟩, Fin.ext (by show r.val = 512 + (r.val - 512); omega)⟩
      have hp := p.isLt
      rw [lanes_hi _ _ (fun n => Y ((grid0.coords t 0).val * 8192 + (512 * (grid0.coords t 2).val + p.val)) (n / 64 * 512 + (grid0.coords t 1).val * 64 + n % 64) * (1 / 8))
        (fun n => Y ((grid0.coords t 0).val * 8192 + j.val) (1024 + (n / 64 * 512 + (grid0.coords t 1).val * 64 + n % 64)))
        (fun l => (pay1_hi _ p l).trans (by rw [hq])) (fun l => hk j l), Att.score, Finset.sum_mul]
      congr 1
      refine Finset.sum_congr rfl fun d _ => ?_
      have hd := d.isLt
      have e1 : (64 + d.val) / 64 = 1 := by omega
      have e2 : (64 + d.val) % 64 = d.val := by omega
      have e3 : (512 + p.val) / 512 = 1 := by omega
      have e4 : (512 + p.val) % 512 = p.val := by omega
      simp only [e1, e2, e3, e4]
      ring
  · intro j d
    rw [iblk2 m c t j d (by omega) (by omega), v_entry m c _ ⟨_, h1⟩ d, hY]
    rfl

/-- The kernel's result is the reference's. -/
theorem arr_eq (L : ℝ) (hL : lam (m ((c : Thread nD τ).loc main_arg1)) = (L : EReal)) :
    (dats m 0 c).arrAt 5 cfg0.N = Cert.ReferenceIdeal.Attn.whole (act m c) (m ((c : Thread nD τ).loc main_arg1)) (m ((c : Thread nD τ).loc main_arg2)) := by
  refine (dats m 0 c).arrAt_eq_of_covers 5 _ (by decide +kernel) fun t hf y => ?_
  blk_simp
  have h0 := coord0_lt t
  have h1 := coord1_lt t
  have h2 := coord2_lt (grid0.coords t)
  rw [after0_5]
  idx_vars y
  have he : ((View.whole main_v27).slice (win0_5.rect t)).emb (ix2 y0 y1)
      = ix2 ⟨(⟨_, h0⟩ : Fin 2).val * 8192 + (⟨512 * (grid0.coords t 2).val + y0.val, by omega⟩ : Fin 8192).val, by omega⟩
          ⟨(⟨_, h1⟩ : Fin 8).val * 128 + y1.val, by omega⟩ := by
    blk_ext [idx5 t]
  rw [he]
  have hL' : Cert.ReferenceIdeal.Attn.lam (m ((c : Thread nD τ).loc main_arg1)) ix0 = (L : EReal) := by
    rw [← hL, Cert.ReferenceIdeal.Attn.lam_apply]
    rfl
  refine Eq.trans ?_ (Cert.ReferenceIdeal.Attn.whole_apply (act m c) Y hY _ _ L hL' ⟨_, h0⟩ ⟨_, h1⟩ ⟨512 * (grid0.coords t 2).val + y0.val, by omega⟩ _ (fun x => rfl) y1).symm
  unfold outsAt0
  have hL3 : lam (iblk m c 3 t) = (L : EReal) := by rw [iblk3]; exact hL
  rw [out_apply c _ _ _ _ _ _ _ _ _ _ _ _ _ _ _ _ _ _ _ _ (reals m c Y hY t) L hL3 _ y0 (fun x => rfl) y1, iblk4]
  have key : ∀ x : Fin 128, ((att (fun r j => Att.score Y (grid0.coords t 0).val (r.val / 512) (grid0.coords t 1).val (512 * (grid0.coords t 2).val + r.val % 512) j)
        (fun j d => Att.value Y (grid0.coords t 0).val (grid0.coords t 1).val j d) (grid0.coords t 2).val ⟨y0.val, by omega⟩ x
      - L * att (fun r j => Att.score Y (grid0.coords t 0).val (r.val / 512) (grid0.coords t 1).val (512 * (grid0.coords t 2).val + r.val % 512) j)
        (fun j d => Att.value Y (grid0.coords t 0).val (grid0.coords t 1).val j d) (grid0.coords t 2).val ⟨512 + y0.val, by omega⟩ x : ℝ) : EReal)
      = ((Att.att Y (grid0.coords t 0).val 0 (grid0.coords t 1).val (512 * (grid0.coords t 2).val + y0.val) x
        - L * Att.att Y (grid0.coords t 0).val 1 (grid0.coords t 1).val (512 * (grid0.coords t 2).val + y0.val) x : ℝ) : EReal) := by
    intro x
    have hy := y0.isLt
    have e1 : y0.val / 512 = 0 := by omega
    have e2 : y0.val % 512 = y0.val := by omega
    have e3 : (512 + y0.val) / 512 = 1 := by omega
    have e4 : (512 + y0.val) % 512 = y0.val := by omega
    simp only [att, W, Att.att, Att.weight, e1, e2, e3, e4]
  simp only [key]

end Cert.KernelIdeal.Attn

end
-- ==== Proof.Finite.lean ====
/- What the precondition says: every activation and every entry of the weight vectors is a real number. -/
module

public import proofs.«01_k».proof.Pre_finite
public import proofs.«01_k».proof.Proof.Consts
public import Idealize.ShloMosaic.Lib.ReduceAll
public import Idealize.ShloMosaic.Lib.Pointwise

@[expose] public section

set_option maxRecDepth 16384

noncomputable section

namespace Cert.Finite

open Cert.Pre_finite Idealize.ShloMosaic

theorem facts : Cert.Pre_finite.Facts where
  bcast_S_S16384x4608 := by decide
  reducesTo_S16384x4608_S_d0_1 := by decide
  h_S_ := by decide
  bcast_S_S4x64 := by decide
  reducesTo_S4x64_S_d0_1 := by decide

/-- An extended real below `+∞` in absolute value is a real number. -/
theorem real_of_abs_lt (x : EReal) (h : max x (-x) < ⊤) : x = ((x.toReal : ℝ) : EReal) := by
  refine (EReal.coe_toReal ?_ ?_).symm
  · rintro rfl; simp at h
  · rintro rfl; simp at h

theorem real_of_olt {s : Shape} (x : FVec Ideal s .f32) (h : S_.BroadcastsInDim s (![] : Fin 0 → Fin s.rank)) (i : s.Idx)
    (hi : cmpf .olt (Host.absf x) (broadcastInDim s ![] h (constant (F := Ideal) S_ .f32 0x7F800000#32)) i = 1#1) :
    x i = (((x i : EReal).toReal : ℝ) : EReal) := by
  refine real_of_abs_lt _ ?_
  have hb : (broadcastInDim s ![] h (constant (F := Ideal) S_ .f32 0x7F800000#32) i : EReal) = ⊤ := Consts.pos_inf
  rw [← hb]
  by_contra hc
  have e : cmpf .olt (Host.absf x) (broadcastInDim s ![] h (constant (F := Ideal) S_ .f32 0x7F800000#32)) i = 0#1 := by
    change BitVec.ofBool (decide (max (x i : EReal) (-(x i : EReal)) < _)) = 0#1
    exact congrArg BitVec.ofBool (decide_eq_false hc)
  rw [e] at hi
  exact absurd hi (by decide)

/-- The precondition, entry by entry. -/
theorem of_pre [Cert.Pre_finite.Facts] (y : FVec Ideal S16384x4608 .f32) (lv : FVec Ideal S4x64 .f32) (g : FVec Ideal S128 .f32)
    (h : fn (F := Ideal) y lv g = fun _ => 1#1) :
    (∀ i, y i = (((y i : EReal).toReal : ℝ) : EReal)) ∧ ∀ i, lv i = (((lv i : EReal).toReal : ℝ) : EReal) := by
  have h0 := congrFun h ix0
  dsimp only [fn] at h0
  have split : ∀ c d : BitVec 1, IntOp.andi c d = 1#1 → c = 1#1 ∧ d = 1#1 := by decide
  obtain ⟨h1, h2⟩ := split _ _ h0
  exact ⟨fun i => real_of_olt y _ i (Host.reduce_andi_all _ _ _ _ _ h1 i), fun i => real_of_olt lv _ i (Host.reduce_andi_all _ _ _ _ _ h2 i)⟩

end Cert.Finite

end
-- ==== Proof.Residual.lean ====
/- The output projection with its gated residual: the tiled kernel's result is the residual stream plus the gate times the product. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384
set_option maxHeartbeats 1000000

noncomputable section

namespace Cert.Kernel2Ideal.Res

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![(grid0.coords t 0).val, 0] := by decide +kernel
theorem idx1 : ∀ t : Fin grid0.N, win0_1.index t = ![0, (grid0.coords t 1).val] := by decide +kernel
theorem idx2 : ∀ t : Fin grid0.N, win0_2.index t = ![(grid0.coords t 0).val, (grid0.coords t 1).val] := by decide +kernel
theorem idx3 : ∀ t : Fin grid0.N, win0_3.index t = ![(grid0.coords t 0).val / 8, 0, (grid0.coords t 1).val] := by decide +kernel
theorem idx4 : ∀ t : Fin grid0.N, win0_4.index t = ![(grid0.coords t 0).val, (grid0.coords t 1).val] := by decide +kernel
theorem coord0_lt (t : Fin grid0.N) : (grid0.coords t 0).val < 16 := (grid0.coords t 0).isLt
theorem coord1_lt (t : Fin grid0.N) : (grid0.coords t 1).val < 2 := (grid0.coords t 1).isLt

/-- One block of the kernel: the residual's block plus the gate's row times the product's block. -/
theorem pay_apply (a : Vec Ideal S1024x2048 .bf16) (w : Vec Ideal S2048x1024 .bf16) (x : Vec Ideal S1024x1024 .f32) (g : Vec Ideal S1x1x1024 .f32)
    (r : Fin 1024) (d : Fin 1024) :
    k0_pay1 a w x g (ix2 r d) = (x (ix2 r d) + g (ix3 0 0 d) * ∑ k : Fin 2048, a (ix2 r k) * w (ix2 k d) : EReal) := by
  pointwise [k0_pay1]

/-- The outputs of the attention heads, the projection, the residual stream and the modulation, as the program is given them. -/
abbrev o (c : Dev nD) : FVec Ideal S2x8192x2048 .f32 := m ((c : Thread nD τ).loc main_arg0)
abbrev w (c : Dev nD) : FVec Ideal S2048x2048 .f32 := m ((c : Thread nD τ).loc main_arg1)
abbrev x (c : Dev nD) : FVec Ideal S2x8192x2048 .f32 := m ((c : Thread nD τ).loc main_arg2)
abbrev md (c : Dev nD) : FVec Ideal S2x6144 .f32 := m ((c : Thread nD τ).loc main_arg3)

/-- A row of 16384 is one of 2 sequences and one of 8192 positions. -/
abbrev seqOf (t : Fin 16384) : Fin 2 := ⟨t.val / 8192, by omega⟩
abbrev posOf (t : Fin 16384) : Fin 8192 := ⟨t.val % 8192, by omega⟩

theorem iblk0 (t : Fin cfg0.N) (p : Fin 1024) (k : Fin 2048) (h) :
    iblk m c 0 t (ix2 p k) = (o m c (ix3 (seqOf ⟨(grid0.coords t 0).val * 1024 + p.val, h⟩) (posOf ⟨(grid0.coords t 0).val * 1024 + p.val, h⟩) k) : EReal) := by
  have e : iblk m c 0 t (ix2 p k) = V m c main_v3 (ix2 ⟨(grid0.coords t 0).val * 1024 + p.val, h⟩ k) := by
    blk_ext [iblk, idx0 t]
  rw [e]
  unfold V
  after_reads_at

theorem iblk1 (t : Fin cfg0.N) (k : Fin 2048) (d : Fin 1024) (h) :
    iblk m c 1 t (ix2 k d) = (w m c (ix2 k ⟨(grid0.coords t 1).val * 1024 + d.val, h⟩) : EReal) := by
  have e : iblk m c 1 t (ix2 k d) = V m c main_v4 (ix2 k ⟨(grid0.coords t 1).val * 1024 + d.val, h⟩) := by
    blk_ext [iblk, idx1 t]
  rw [e]
  unfold V
  after_reads_at

theorem iblk2 (t : Fin cfg0.N) (p d : Fin 1024) (h) (h') :
    iblk m c 2 t (ix2 p d) = (x m c (ix3 (seqOf ⟨(grid0.coords t 0).val * 1024 + p.val, h⟩) (posOf ⟨(grid0.coords t 0).val * 1024 + p.val, h⟩)
      ⟨(grid0.coords t 1).val * 1024 + d.val, h'⟩) : EReal) := by
  have e : iblk m c 2 t (ix2 p d) = V m c main_v0 (ix2 ⟨(grid0.coords t 0).val * 1024 + p.val, h⟩ ⟨(grid0.coords t 1).val * 1024 + d.val, h'⟩) := by
    blk_ext [iblk, idx2 t]
  rw [e]
  unfold V
  after_reads_at

theorem iblk3 (t : Fin cfg0.N) (d : Fin 1024) (h) (h') :
    iblk m c 3 t (ix3 0 0 d) = (md m c (ix2 ⟨(grid0.coords t 0).val / 8, h⟩ ⟨4096 + ((grid0.coords t 1).val * 1024 + d.val), h'⟩) : EReal) := by
  have e : iblk m c 3 t (ix3 0 0 d) = V m c main_v5 (ix3 ⟨(grid0.coords t 0).val / 8, h⟩ 0 ⟨(grid0.coords t 1).val * 1024 + d.val, by have := coord1_lt t; omega⟩) := by
    blk_ext [iblk, idx3 t]
  rw [e]
  unfold V
  after_reads_at

/-- The residual stream plus the gate times the projected heads. -/
def val (o : FVec Ideal S2x8192x2048 .f32) (w : FVec Ideal S2048x2048 .f32) (x : FVec Ideal S2x8192x2048 .f32) (md : FVec Ideal S2x6144 .f32)
    (t : Fin 16384) (d : Fin 2048) : EReal :=
  x (ix3 (seqOf t) (posOf t) d) + md (ix2 (seqOf t) ⟨4096 + d.val, by omega⟩) * ∑ k : Fin 2048, o (ix3 (seqOf t) (posOf t) k) * w (ix2 k d)

/-- The whole result: each block the kernel writes is the value there, and the blocks cover the array. -/
theorem arr_apply (f : FVec Ideal S16384x2048 .f32) (hf : ∀ t d, f (ix2 t d) = val (o m c) (w m c) (x m c) (md m c) t d) :
    (dats m 0 c).arrAt 4 cfg0.N = f := by
  refine (dats m 0 c).arrAt_eq_of_covers 4 _ (by decide +kernel) fun t _ y => ?_
  blk_simp
  have h0 := coord0_lt t
  have h1 := coord1_lt t
  rw [after0_4]
  idx_vars y
  have he : ((View.whole main_v6).slice (win0_4.rect t)).emb (ix2 y0 y1)
      = ix2 ⟨(grid0.coords t 0).val * 1024 + y0.val, by omega⟩ ⟨(grid0.coords t 1).val * 1024 + y1.val, by omega⟩ := by
    blk_ext [idx4 t]
  rw [he, hf]
  have hs : seqOf ⟨(grid0.coords t 0).val * 1024 + y0.val, by omega⟩ = ⟨(grid0.coords t 0).val / 8, by omega⟩ := Fin.ext (by
    show ((grid0.coords t 0).val * 1024 + y0.val) / 8192 = (grid0.coords t 0).val / 8
    omega)
  unfold out0_4
  frame_out
  rw [pay_apply, iblk2 m c t _ _ (by omega) (by omega), iblk3 m c t _ (by omega) (by omega), val, hs]
  simp only [iblk0 m c t _ _ (show (grid0.coords t 0).val * 1024 + y0.val < 16384 by omega), iblk1 m c t _ _ (show (grid0.coords t 1).val * 1024 + y1.val < 2048 by omega)]
  rw [hs]

end Cert.Kernel2Ideal.Res

namespace Cert.Reference2Ideal.Res

open Cert.Reference2Ideal Cert.Reference2Ideal.Gen Idealize.ShloMosaic Idealize.ShloMosaic.TcCoe Idealize.SL.Sem

/-- The reference's result. -/
def whole (o : FVec Ideal S2x8192x2048 .f32) (w : FVec Ideal S2048x2048 .f32) (x : FVec Ideal S2x8192x2048 .f32) (md : FVec Ideal S2x6144 .f32) :
    FVec Ideal S16384x2048 .f32 :=
  shapeCast _ (addf x (mulf (broadcastInDim S2x8192x2048 ![0, 1, 2] bcast_S2x1x2048_S2x8192x2048_0_1_2 (extractStridedSlice S2x1x2048 ![0, 0, 4096]
    (broadcastInDim S2x1x6144 ![0, 2] bcast_S2x6144_S2x1x6144_0_2 md) slices_S2x1x6144_S2x1x2048_0_0_4096))
    (Host.dotGeneral dot_S2x8192x2048_S2048x2048_S2x8192x2048_2_0_01_1_n_n none o w))) shapeCasts_S2x8192x2048_S16384x2048

theorem whole_apply (o : FVec Ideal S2x8192x2048 .f32) (w : FVec Ideal S2048x2048 .f32) (x : FVec Ideal S2x8192x2048 .f32) (md : FVec Ideal S2x6144 .f32)
    (t : Fin 16384) (d : Fin 2048) : whole o w x md (ix2 t d) = Cert.Kernel2Ideal.Res.val o w x md t d := by
  pointwise [whole]
  rfl

end Cert.Reference2Ideal.Res

namespace Cert.Proof

open Idealize.ShloMosaic Idealize.ShloMosaic.TcCoe Idealize.SL.Sem

theorem residual_reference_frame : Cert.quiescent_Reference2Ideal (hReference2Ideal := Cert.Reference2Ideal.Gen.facts) :=
  fun m ρ _ => (θ_run (Cert.Reference2Ideal.defs (F := Ideal)) _ _).mono
    (fun r h => ⟨fun c => (h c).2, sem_eq_zero_of_no_sems (by decide) r.2⟩) (Cert.Reference2Ideal.Value.run m ρ)

/-- From equal arguments the kernel's output projection and the reference's end with the same array. -/
theorem residual : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Reference2Ideal.Res.whole (Cert.Kernel2Ideal.Res.o m c) (Cert.Kernel2Ideal.Res.w m c) (Cert.Kernel2Ideal.Res.x m c) (Cert.Kernel2Ideal.Res.md m c), ?_, ?_⟩
  · exact (θ_run (Cert.Kernel2Ideal.defs (F := Ideal)) _ _).mono
      (fun r h c => ⟨(h c).1.trans (Cert.Kernel2Ideal.Res.arr_apply m c _ fun t d => Cert.Reference2Ideal.Res.whole_apply _ _ _ _ t d), (h c).2⟩)
      (Cert.Kernel2Ideal.Value.run_blocks m g)
  · refine (θ_run (Cert.Reference2Ideal.defs (F := Ideal)) _ _).mono (fun r h c => ⟨(h c).1.trans ?_, (h c).2⟩) (Cert.Reference2Ideal.Value.run m' g')
    obtain ⟨h0, h1, h2, h3⟩ := hagree c
    show _ = Cert.Reference2Ideal.Res.whole _ _ _ _
    rw [Cert.Kernel2Ideal.Res.o, Cert.Kernel2Ideal.Res.w, Cert.Kernel2Ideal.Res.x, Cert.Kernel2Ideal.Res.md, ← h0, ← h1, ← h2, ← h3]
    rfl

end Cert.Proof

end
-- ==== Proof.FinalNorm.lean ====
/- The final norm: the tiled kernel's result is the root-mean-square norm of the residual stream's rows. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384
set_option maxHeartbeats 1000000

noncomputable section

namespace Cert.Kernel4Ideal.Norm

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![(grid0.coords t 0).val, 0] := by decide +kernel
theorem idx1 : ∀ t : Fin grid0.N, win0_1.index t = ![0, 0] := by decide +kernel
theorem idx2 : ∀ t : Fin grid0.N, win0_2.index t = ![(grid0.coords t 0).val, 0] := by decide +kernel
theorem coord0_lt (t : Fin grid0.N) : (grid0.coords t 0).val < 16 := (grid0.coords t 0).isLt

/-- The residual stream and the gain, as the program is given them. -/
abbrev x (c : Dev nD) : FVec Ideal S2x8192x2048 .f32 := m ((c : Thread nD τ).loc main_arg0)
abbrev g (c : Dev nD) : FVec Ideal S2048 .f32 := m ((c : Thread nD τ).loc main_arg1)

/-- A row of 16384 is one of 2 sequences and one of 8192 positions. -/
abbrev seqOf (t : Fin 16384) : Fin 2 := ⟨t.val / 8192, by omega⟩
abbrev posOf (t : Fin 16384) : Fin 8192 := ⟨t.val % 8192, by omega⟩

/-- One row's norm. -/
def normed (x : Fin 2048 → EReal) (g : EReal) (d : Fin 2048) : EReal :=
  x d * Ideal.rsqrt (Ideal.div (∑ k, x k * x k) (Ideal.ofBits .f32 0x45000000#32) + Ideal.ofBits .f32 0x358637BD#32) * g

theorem pay_apply (x : Vec Ideal S1024x2048 .f32) (g : Vec Ideal S1x2048 .f32) (r : Fin 1024) (d : Fin 2048) :
    k0_pay1 x g (ix2 r d) = normed (fun k => x (ix2 r k)) (g (ix2 0 d)) d := by
  pointwise [k0_pay1]
  rfl

theorem iblk0 (t : Fin cfg0.N) (p : Fin 1024) (k : Fin 2048) (h) :
    iblk m c 0 t (ix2 p k) = (x m c (ix3 (seqOf ⟨(grid0.coords t 0).val * 1024 + p.val, h⟩) (posOf ⟨(grid0.coords t 0).val * 1024 + p.val, h⟩) k) : EReal) := by
  have e : iblk m c 0 t (ix2 p k) = V m c main_v0 (ix2 ⟨(grid0.coords t 0).val * 1024 + p.val, h⟩ k) := by
    blk_ext [iblk, idx0 t]
  rw [e]
  unfold V
  after_reads_at

theorem iblk1 (t : Fin cfg0.N) (d : Fin 2048) : iblk m c 1 t (ix2 0 d) = (g m c (ix1 d) : EReal) := by
  have e : iblk m c 1 t (ix2 0 d) = V m c main_v1 (ix2 0 d) := by
    blk_ext [iblk, idx1 t]
  rw [e]
  unfold V
  after_reads_at

/-- The whole result: each block the kernel writes is the value there, and the blocks cover the array. -/
theorem arr_apply (f : FVec Ideal S16384x2048 .f32) (hf : ∀ t d, f (ix2 t d) = normed (fun k => x m c (ix3 (seqOf t) (posOf t) k)) (g m c (ix1 d)) d) :
    (dats m 0 c).arrAt 2 cfg0.N = f := by
  refine (dats m 0 c).arrAt_eq_of_covers 2 _ (by decide +kernel) fun t _ y => ?_
  blk_simp
  have h0 := coord0_lt t
  rw [after0_2]
  idx_vars y
  have he : ((View.whole main_v2).slice (win0_2.rect t)).emb (ix2 y0 y1)
      = ix2 ⟨(grid0.coords t 0).val * 1024 + y0.val, by omega⟩ y1 := by
    blk_ext [idx2 t]
  rw [he, hf]
  unfold out0_2
  frame_out
  rw [pay_apply, iblk1]
  simp only [iblk0 m c t _ _ (show (grid0.coords t 0).val * 1024 + y0.val < 16384 by omega)]

end Cert.Kernel4Ideal.Norm

namespace Cert.Reference4Ideal.Norm

open Cert.Reference4Ideal Cert.Reference4Ideal.Gen Idealize.ShloMosaic Idealize.ShloMosaic.TcCoe Idealize.SL.Sem

/-- The reference's result. -/
def whole (x : FVec Ideal S2x8192x2048 .f32) (g : FVec Ideal S2048 .f32) : FVec Ideal S16384x2048 .f32 :=
  shapeCast _ (mulf (mulf x (broadcastInDim S2x8192x2048 ![0, 1, 2] bcast_S2x8192x1_S2x8192x2048_0_1_2 (Host.rsqrt (addf (Host.divf
    (broadcastInDim S2x8192x1 ![0, 1] bcast_S2x8192_S2x8192x1_0_1 (Host.reduceAdd (mulf x x) (constant S_ .f32 0x00000000#32) reducesTo_S2x8192x2048_S2x8192_d2 h_S_))
    (broadcastInDim S2x8192x1 ![] bcast_S_S2x8192x1 (constant S_ .f32 0x45000000#32)))
    (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 g))) shapeCasts_S2x8192x2048_S16384x2048

theorem whole_apply (x : FVec Ideal S2x8192x2048 .f32) (g : FVec Ideal S2048 .f32) (t : Fin 16384) (d : Fin 2048) :
    whole x g (ix2 t d) = Cert.Kernel4Ideal.Norm.normed (fun k => x (ix3 (Cert.Kernel4Ideal.Norm.seqOf t) (Cert.Kernel4Ideal.Norm.posOf t) k)) (g (ix1 d)) d := by
  pointwise [whole]
  rfl

end Cert.Reference4Ideal.Norm

namespace Cert.Proof

open Idealize.ShloMosaic Idealize.ShloMosaic.TcCoe Idealize.SL.Sem

theorem norm_reference_frame : Cert.quiescent_Reference4Ideal (hReference4Ideal := Cert.Reference4Ideal.Gen.facts) :=
  fun m ρ _ => (θ_run (Cert.Reference4Ideal.defs (F := Ideal)) _ _).mono
    (fun r h => ⟨fun c => (h c).2, sem_eq_zero_of_no_sems (by decide) r.2⟩) (Cert.Reference4Ideal.Value.run m ρ)

/-- From equal arguments the kernel's final norm and the reference's end with the same array. -/
theorem final_norm : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Reference4Ideal.Norm.whole (Cert.Kernel4Ideal.Norm.x m c) (Cert.Kernel4Ideal.Norm.g m c), ?_, ?_⟩
  · exact (θ_run (Cert.Kernel4Ideal.defs (F := Ideal)) _ _).mono
      (fun r h c => ⟨(h c).1.trans (Cert.Kernel4Ideal.Norm.arr_apply m c _ fun t d => Cert.Reference4Ideal.Norm.whole_apply _ _ t d), (h c).2⟩)
      (Cert.Kernel4Ideal.Value.run_blocks m g)
  · refine (θ_run (Cert.Reference4Ideal.defs (F := Ideal)) _ _).mono (fun r h c => ⟨(h c).1.trans ?_, (h c).2⟩) (Cert.Reference4Ideal.Value.run m' g')
    obtain ⟨h0, h1⟩ := hagree c
    show _ = Cert.Reference4Ideal.Norm.whole _ _
    rw [Cert.Kernel4Ideal.Norm.x, Cert.Kernel4Ideal.Norm.g, ← h0, ← h1]
    rfl

end Cert.Proof

end
-- ==== Proof.OddIn.lean ====
/- The odd layer's input projection: the norm, its modulation and the product with the regrouped columns of the weight
   are the reference's, column group by column group. -/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384
set_option maxHeartbeats 1000000

noncomputable section

namespace Cert.Kernel5Ideal.In

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![t.val / 3, 0] := by decide +kernel
theorem idx1 : ∀ t : Fin grid0.N, win0_1.index t = ![0, 0] := by decide +kernel
theorem idx2 : ∀ t : Fin grid0.N, win0_2.index t = ![t.val / 24, 0, 0] := by decide +kernel
theorem idx3 : ∀ t : Fin grid0.N, win0_3.index t = ![t.val / 24, 0, 0] := by decide +kernel
theorem idx4 : ∀ t : Fin grid0.N, win0_4.index t = ![0, t.val % 3] := by decide +kernel
theorem idx5 : ∀ t : Fin grid0.N, win0_5.index t = ![t.val / 3, t.val % 3] := by decide +kernel
theorem pt_lt (t : Fin cfg0.N) : t.val < 48 := t.isLt

/-- The residual stream, the modulation, the gain and the weight, as the program is given them. -/
abbrev x (c : Dev nD) : FVec Ideal S2x8192x2048 .f32 := m ((c : Thread nD τ).loc main_arg0)
abbrev md (c : Dev nD) : FVec Ideal S2x6144 .f32 := m ((c : Thread nD τ).loc main_arg1)
abbrev g (c : Dev nD) : FVec Ideal S2048 .f32 := m ((c : Thread nD τ).loc main_arg2)
abbrev w (c : Dev nD) : FVec Ideal S2048x3632 .f32 := m ((c : Thread nD τ).loc main_arg3)

/-- A row of 16384 is one of 2 sequences and one of 8192 positions. -/
abbrev seqOf (t : Fin 16384) : Fin 2 := ⟨t.val / 8192, by omega⟩
abbrev posOf (t : Fin 16384) : Fin 8192 := ⟨t.val % 8192, by omega⟩

/-- One row's norm, scaled and shifted. -/
def modded (x : Fin 2048 → EReal) (g sc sh : EReal) (d : Fin 2048) : EReal :=
  x d * Ideal.rsqrt (Ideal.div (∑ k, x k * x k) (Ideal.ofBits .f32 0x45000000#32) + Ideal.ofBits .f32 0x358637BD#32) * g
    * (1 + sc) + sh

/-- The normed and modulated activation of a row. -/
def act (x : FVec Ideal S2x8192x2048 .f32) (md : FVec Ideal S2x6144 .f32) (g : FVec Ideal S2048 .f32) (t : Fin 16384) (d : Fin 2048) : EReal :=
  modded (fun k => x (ix3 (seqOf t) (posOf t) k)) (g (ix1 d)) (md (ix2 (seqOf t) ⟨2048 + d.val, by omega⟩)) (md (ix2 (seqOf t) ⟨d.val, by omega⟩)) d

theorem pay1_apply (x : Vec Ideal S1024x2048 .f32) (g : Vec Ideal S1x2048 .f32) (sc sh : Vec Ideal S1x1x2048 .f32) (r : Fin 1024) (d : Fin 2048) :
    k0_pay1 x g sc sh (ix2 r d) = modded (fun k => x (ix2 r k)) (g (ix2 0 d)) (sc (ix3 0 0 d)) (sh (ix3 0 0 d)) d := by
  pointwise [k0_pay1]
  rfl

theorem pay2_apply (h : Vec Ideal S1024x2048 .bf16) (w : Vec Ideal S2048x1280 .bf16) (r : Fin 1024) (d : Fin 1280) :
    k0_pay2 h w (ix2 r d) = (∑ k : Fin 2048, h (ix2 r k) * w (ix2 k d) : EReal) := by
  pointwise [k0_pay2]

theorem iblk0 (t : Fin cfg0.N) (p : Fin 1024) (k : Fin 2048) (h) :
    iblk m c 0 t (ix2 p k) = (x m c (ix3 (seqOf ⟨t.val / 3 * 1024 + p.val, h⟩) (posOf ⟨t.val / 3 * 1024 + p.val, h⟩) k) : EReal) := by
  have e : iblk m c 0 t (ix2 p k) = V m c main_v0 (ix2 ⟨t.val / 3 * 1024 + p.val, h⟩ k) := by
    blk_ext [iblk, idx0 t]
  rw [e]
  unfold V
  after_reads_at

theorem iblk1 (t : Fin cfg0.N) (d : Fin 2048) : iblk m c 1 t (ix2 0 d) = (g m c (ix1 d) : EReal) := by
  have e : iblk m c 1 t (ix2 0 d) = V m c main_v14 (ix2 0 d) := by
    blk_ext [iblk, idx1 t]
  rw [e]
  unfold V
  after_reads_at

theorem iblk2 (t : Fin cfg0.N) (d : Fin 2048) (h) (h') :
    iblk m c 2 t (ix3 0 0 d) = (md m c (ix2 ⟨t.val / 24, h⟩ ⟨2048 + d.val, h'⟩) : EReal) := by
  have e : iblk m c 2 t (ix3 0 0 d) = V m c main_v15 (ix3 ⟨t.val / 24, h⟩ 0 d) := by
    blk_ext [iblk, idx2 t]
  rw [e]
  unfold V
  after_reads_at

theorem iblk3 (t : Fin cfg0.N) (d : Fin 2048) (h) (h') :
    iblk m c 3 t (ix3 0 0 d) = (md m c (ix2 ⟨t.val / 24, h⟩ ⟨d.val, h'⟩) : EReal) := by
  have e : iblk m c 3 t (ix3 0 0 d) = V m c main_v16 (ix3 ⟨t.val / 24, h⟩ 0 d) := by
    blk_ext [iblk, idx3 t]
  rw [e]
  unfold V
  after_reads_at

theorem iblk4 (t : Fin cfg0.N) (k : Fin 2048) (d : Fin 1280) (h) :
    iblk m c 4 t (ix2 k d) = (V m c main_v13 (ix2 k ⟨t.val % 3 * 1280 + d.val, h⟩) : EReal) := by
  blk_ext [iblk, idx4 t]

/-- The first product of a block of rows norms them. -/
theorem first (t : Fin cfg0.N) (p : Fin 1024) (k : Fin 2048) (h) :
    k0_pay1 (iblk m c 0 t) (iblk m c 1 t) (iblk m c 2 t) (iblk m c 3 t) (ix2 p k)
      = act (x m c) (md m c) (g m c) ⟨t.val / 3 * 1024 + p.val, h⟩ k := by
  have ht := pt_lt t
  have hs : seqOf ⟨t.val / 3 * 1024 + p.val, h⟩ = ⟨t.val / 24, by omega⟩ := Fin.ext (by
    show (t.val / 3 * 1024 + p.val) / 8192 = t.val / 24
    omega)
  rw [pay1_apply, iblk1, iblk2 m c t k (by omega) (by omega), iblk3 m c t k (by omega) (by omega), act]
  simp only [iblk0 m c t p _ h, hs]

/-- After every point the scratch holds the block's normed and modulated rows. -/
theorem scratch (n : ℕ) : ∀ (hn : n < cfg0.N) (p : Fin 1024) (k : Fin 2048) (h : n / 3 * 1024 + p.val < 16384),
    (outsAt0 m c n hn).2 (ix2 p k) = act (x m c) (md m c) (g m c) ⟨n / 3 * 1024 + p.val, h⟩ k := by
  induction n with
  | zero =>
    intro hn p k h
    rw [show outsAt0 m c 0 hn = _ from outsAt0_A m c ⟨0, hn⟩ rfl]
    unfold sout0_A_0
    frame_out
    exact first m c ⟨0, hn⟩ p k h
  | succ n ih =>
    intro hn p k h
    by_cases h3 : (n + 1) % 3 = 0
    · rw [show outsAt0 m c (n + 1) hn = _ from outsAt0_A m c ⟨n + 1, hn⟩ h3]
      unfold sout0_A_0
      frame_out
      exact first m c ⟨n + 1, hn⟩ p k h
    · rw [show outsAt0 m c (n + 1) hn = _ from outsAt0_B m c ⟨n + 1, hn⟩ h3]
      have e : n / 3 = (n + 1) / 3 := by omega
      refine (ih (Nat.lt_of_succ_lt hn) p k (by omega)).trans ?_
      simp only [e]

/-- Every point's block of the result. -/
theorem block (t : Fin cfg0.N) (p : Fin 1024) (d : Fin 1280) (h) (h') :
    (outsAt0 m c t.val t.isLt).1 (ix2 p d)
      = (∑ k : Fin 2048, act (x m c) (md m c) (g m c) ⟨t.val / 3 * 1024 + p.val, h⟩ k * V m c main_v13 (ix2 k ⟨t.val % 3 * 1280 + d.val, h'⟩) : EReal) := by
  by_cases h3 : t.val % 3 = 0
  · rw [outsAt0_A m c t h3]
    unfold out0_A_5
    frame_out
    rw [pay2_apply]
    simp only [first m c t p _ h, iblk4 m c t _ d h']
  · rw [outsAt0_B m c t h3]
    unfold out0_B_5
    frame_out
    rw [pay2_apply]
    have e : (t.val - 1) / 3 = t.val / 3 := by omega
    have hs := fun k => scratch m c (t.val - 1) (Nat.lt_of_le_of_lt (Nat.sub_le _ _) t.isLt) p k (by omega)
    simp only [e] at hs
    erw [Memref.IsWhole.read_unread]
    simp only [hs, iblk4 m c t _ d h']

/-- The whole product, in the kernel's order of the columns. -/
def prod (c : Dev nD) : FVec Ideal S16384x3840 .f32 := fun i =>
  (∑ k : Fin 2048, act (x m c) (md m c) (g m c) (i 0) k * V m c main_v13 (ix2 k (i 1)) : EReal)

theorem arr_prod : (dats m 0 c).arrAt 5 cfg0.N = prod m c := by
  refine (dats m 0 c).arrAt_eq_of_covers 5 _ (by decide +kernel) fun t _ y => ?_
  blk_simp
  have h0 := pt_lt t
  rw [after0_5]
  idx_vars y
  have he : ((View.whole main_v17).slice (win0_5.rect t)).emb (ix2 y0 y1)
      = ix2 ⟨t.val / 3 * 1024 + y0.val, by omega⟩ ⟨t.val % 3 * 1280 + y1.val, by omega⟩ := by
    blk_ext [idx5 t]
  rw [he]
  exact block m c t y0 y1 _ _

/-! The kernel's columns are the weight's, in another order: which each group is. -/

theorem col_q (k : Fin 2048) (d : Fin 2048) : V m c main_v13 (ix2 k ⟨d.val, by omega⟩) = (w m c (ix2 k ⟨d.val, by omega⟩) : EReal) := by
  unfold V
  after_reads_at
  all_goals after_reads_at

theorem col_kc (k : Fin 2048) (d : Fin 256) : V m c main_v13 (ix2 k ⟨3072 + d.val, by omega⟩) = (w m c (ix2 k ⟨2048 + d.val, by omega⟩) : EReal) := by
  unfold V
  after_reads_at
  all_goals after_reads_at
  rw [dif_neg (by omega), dif_neg (by omega), dif_neg (by omega), dif_neg (by omega), dif_neg (by omega), dif_pos (by omega)]
  exact congrArg (w m c) (congrArg (ix2 k) (Fin.ext (by dsimp only; omega)))

theorem col_vc (k : Fin 2048) (d : Fin 256) : V m c main_v13 (ix2 k ⟨3328 + d.val, by omega⟩) = (w m c (ix2 k ⟨2304 + d.val, by omega⟩) : EReal) := by
  unfold V
  after_reads_at
  all_goals after_reads_at
  rw [dif_neg (by omega), dif_neg (by omega), dif_neg (by omega), dif_neg (by omega), dif_neg (by omega), dif_neg (by omega), dif_pos (by omega)]
  exact congrArg (w m c) (congrArg (ix2 k) (Fin.ext (by dsimp only; omega)))

theorem col_ksl (k : Fin 2048) (d : Fin 256) : V m c main_v13 (ix2 k ⟨2048 + d.val, by omega⟩) = (w m c (ix2 k ⟨2560 + d.val, by omega⟩) : EReal) := by
  unfold V
  after_reads_at
  all_goals after_reads_at

theorem col_vsl (k : Fin 2048) (d : Fin 256) : V m c main_v13 (ix2 k ⟨2560 + d.val, by omega⟩) = (w m c (ix2 k ⟨2816 + d.val, by omega⟩) : EReal) := by
  unfold V
  after_reads_at
  all_goals after_reads_at
  rw [dif_neg (by omega), dif_neg (by omega), dif_neg (by omega), dif_pos (by omega)]
  exact congrArg (w m c) (congrArg (ix2 k) (Fin.ext (by dsimp only; omega)))

theorem col_kw (k : Fin 2048) (d : Fin 256) : V m c main_v13 (ix2 k ⟨2304 + d.val, by omega⟩) = (w m c (ix2 k ⟨3072 + d.val, by omega⟩) : EReal) := by
  unfold V
  after_reads_at
  all_goals after_reads_at
  rw [dif_neg (by omega), dif_neg (by omega), dif_pos (by omega)]
  exact congrArg (w m c) (congrArg (ix2 k) (Fin.ext (by dsimp only; omega)))

theorem col_vw (k : Fin 2048) (d : Fin 256) : V m c main_v13 (ix2 k ⟨2816 + d.val, by omega⟩) = (w m c (ix2 k ⟨3328 + d.val, by omega⟩) : EReal) := by
  unfold V
  after_reads_at
  all_goals after_reads_at
  rw [dif_neg (by omega), dif_neg (by omega), dif_neg (by omega), dif_neg (by omega), dif_pos (by omega)]
  exact congrArg (w m c) (congrArg (ix2 k) (Fin.ext (by dsimp only; omega)))

theorem col_gates (k : Fin 2048) (d : Fin 48) : V m c main_v13 (ix2 k ⟨3584 + d.val, by omega⟩) = (w m c (ix2 k ⟨3584 + d.val, by omega⟩) : EReal) := by
  unfold V
  after_reads_at
  all_goals after_reads_at
  rw [dif_neg (by omega), dif_neg (by omega), dif_neg (by omega), dif_neg (by omega), dif_neg (by omega), dif_neg (by omega), dif_neg (by omega), dif_pos (by omega)]
  exact congrArg (w m c) (congrArg (ix2 k) (Fin.ext (by dsimp only; omega)))

/-- What the lines after the kernel read: its result. -/
theorem tail_prod : Pipeline.withArrays (cfgs 0).spec c (V0 m c) (fun w => (dats m 0 c).arrAt w (cfgs 0).N) (Proc.tc.devRef main_v17) = prod m c :=
  (Pipeline.withArrays_arr spec0 launch0.win.arr_inj c (V0 m c) _ 5).trans (arr_prod m c)

/-- A group of columns of the product of the activations with the weight. -/
def group (c : Dev nD) (o : ℕ) (t : Fin 16384) (d : ℕ) (h : o + d < 3632) : EReal :=
  ∑ k : Fin 2048, act (x m c) (md m c) (g m c) t k * w m c (ix2 k ⟨o + d, h⟩)

theorem res_q (t : Fin 16384) (d : Fin 2048) :
    Pipeline.afterTail₀ cfgs (dats m) 0 (V0 m) [hostOps1] c main_v18 (ix2 t d) = group m c 0 t d.val (by omega) := by
  unfold Pipeline.afterTail₀
  after_reads_at
  rw [tail_prod]
  simp only [prod, ix2_0, ix2_1, col_q m c _ d, group, Nat.zero_add]

theorem res_kc (t : Fin 16384) (d : Fin 256) :
    Pipeline.afterTail₀ cfgs (dats m) 0 (V0 m) [hostOps1] c main_v23 (ix2 t d) = group m c 2048 t d.val (by omega) := by
  unfold Pipeline.afterTail₀
  after_reads_at
  rw [tail_prod]
  simp only [prod, ix2_0, ix2_1, col_kc m c _ d, group, Nat.zero_add]

theorem res_vc (t : Fin 16384) (d : Fin 256) :
    Pipeline.afterTail₀ cfgs (dats m) 0 (V0 m) [hostOps1] c main_v24 (ix2 t d) = group m c 2304 t d.val (by omega) := by
  unfold Pipeline.afterTail₀
  after_reads_at
  rw [tail_prod]
  simp only [prod, ix2_0, ix2_1, col_vc m c _ d, group, Nat.zero_add]

theorem res_ksl (t : Fin 16384) (d : Fin 256) :
    Pipeline.afterTail₀ cfgs (dats m) 0 (V0 m) [hostOps1] c main_v19 (ix2 t d) = group m c 2560 t d.val (by omega) := by
  unfold Pipeline.afterTail₀
  after_reads_at
  rw [tail_prod]
  simp only [prod, ix2_0, ix2_1, col_ksl m c _ d, group, Nat.zero_add]

theorem res_vsl (t : Fin 16384) (d : Fin 256) :
    Pipeline.afterTail₀ cfgs (dats m) 0 (V0 m) [hostOps1] c main_v21 (ix2 t d) = group m c 2816 t d.val (by omega) := by
  unfold Pipeline.afterTail₀
  after_reads_at
  rw [tail_prod]
  simp only [prod, ix2_0, ix2_1, col_vsl m c _ d, group, Nat.zero_add]

theorem res_kw (t : Fin 16384) (d : Fin 256) :
    Pipeline.afterTail₀ cfgs (dats m) 0 (V0 m) [hostOps1] c main_v20 (ix2 t d) = group m c 3072 t d.val (by omega) := by
  unfold Pipeline.afterTail₀
  after_reads_at
  rw [tail_prod]
  simp only [prod, ix2_0, ix2_1, col_kw m c _ d, group, Nat.zero_add]

theorem res_vw (t : Fin 16384) (d : Fin 256) :
    Pipeline.afterTail₀ cfgs (dats m) 0 (V0 m) [hostOps1] c main_v22 (ix2 t d) = group m c 3328 t d.val (by omega) := by
  unfold Pipeline.afterTail₀
  after_reads_at
  rw [tail_prod]
  simp only [prod, ix2_0, ix2_1, col_vw m c _ d, group, Nat.zero_add]

theorem res_gates (t : Fin 16384) (d : Fin 48) :
    Pipeline.afterTail₀ cfgs (dats m) 0 (V0 m) [hostOps1] c main_v25 (ix2 t d) = group m c 3584 t d.val (by omega) := by
  unfold Pipeline.afterTail₀
  after_reads_at
  rw [tail_prod]
  simp only [prod, ix2_0, ix2_1, col_gates m c _ d, group, Nat.zero_add]

end Cert.Kernel5Ideal.In

namespace Cert.Reference5Ideal.In

open Cert.Reference5Ideal Cert.Reference5Ideal.Gen Idealize.ShloMosaic Idealize.ShloMosaic.TcCoe Idealize.SL.Sem

/-- The reference's product. -/
def proj (x : FVec Ideal S2x8192x2048 .f32) (md : FVec Ideal S2x6144 .f32) (g : FVec Ideal S2048 .f32) (w : FVec Ideal S2048x3632 .f32) :
    FVec Ideal S2x8192x3632 .f32 :=
  Host.dotGeneral dot_S2x8192x2048_S2048x3632_S2x8192x3632_2_0_01_1_n_n none (addf (mulf (mulf (mulf x
    (broadcastInDim S2x8192x2048 ![0, 1, 2] bcast_S2x8192x1_S2x8192x2048_0_1_2 (Host.rsqrt (addf (Host.divf
      (broadcastInDim S2x8192x1 ![0, 1] bcast_S2x8192_S2x8192x1_0_1 (Host.reduceAdd (mulf x x) (constant S_ .f32 0x00000000#32) reducesTo_S2x8192x2048_S2x8192_d2 h_S_))
      (broadcastInDim S2x8192x1 ![] bcast_S_S2x8192x1 (constant S_ .f32 0x45000000#32)))
      (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 g)))
    (broadcastInDim S2x8192x2048 ![0, 1, 2] bcast_S2x1x2048_S2x8192x2048_0_1_2 (addf (broadcastInDim S2x1x2048 ![] bcast_S_S2x1x2048 (constant S_ .f32 0x3F800000#32))
      (extractStridedSlice S2x1x2048 ![0, 0, 2048] (broadcastInDim S2x1x6144 ![0, 2] bcast_S2x6144_S2x1x6144_0_2 md) slices_S2x1x6144_S2x1x2048_0_0_2048))))
    (broadcastInDim S2x8192x2048 ![0, 1, 2] bcast_S2x1x2048_S2x8192x2048_0_1_2
      (extractStridedSlice S2x1x2048 ![0, 0, 0] (broadcastInDim S2x1x6144 ![0, 2] bcast_S2x6144_S2x1x6144_0_2 md) slices_S2x1x6144_S2x1x2048_0_0_0))) w

open Cert.Kernel5Ideal.In in
theorem proj_apply (x : FVec Ideal S2x8192x2048 .f32) (md : FVec Ideal S2x6144 .f32) (g : FVec Ideal S2048 .f32) (w : FVec Ideal S2048x3632 .f32)
    (b : Fin 2) (s : Fin 8192) (n : Fin 3632) :
    proj x md g w (ix3 b s n) = (∑ k : Fin 2048, modded (fun j => x (ix3 b s j)) (g (ix1 k)) (md (ix2 b ⟨2048 + k.val, by omega⟩))
      (md (ix2 b ⟨k.val, by omega⟩)) k * w (ix2 k n) : EReal) := by
  pointwise [proj]
  rfl

def part_q (P : FVec Ideal S2x8192x3632 .f32) : FVec Ideal S16384x2048 .f32 :=
  shapeCast _ (extractStridedSlice S2x8192x2048 ![0, 0, 0] P slices_S2x8192x3632_S2x8192x2048_0_0_0) shapeCasts_S2x8192x2048_S16384x2048

theorem part_q_apply (P : FVec Ideal S2x8192x3632 .f32) (t : Fin 16384) (d : Fin 2048) :
    part_q P (ix2 t d) = P (ix3 (Cert.Kernel5Ideal.In.seqOf t) (Cert.Kernel5Ideal.In.posOf t) ⟨0 + d.val, by omega⟩) := by
  pointwise [part_q]

def part_kc (P : FVec Ideal S2x8192x3632 .f32) : FVec Ideal S16384x256 .f32 :=
  shapeCast _ (extractStridedSlice S2x8192x256 ![0, 0, 2048] P slices_S2x8192x3632_S2x8192x256_0_0_2048) shapeCasts_S2x8192x256_S16384x256

theorem part_kc_apply (P : FVec Ideal S2x8192x3632 .f32) (t : Fin 16384) (d : Fin 256) :
    part_kc P (ix2 t d) = P (ix3 (Cert.Kernel5Ideal.In.seqOf t) (Cert.Kernel5Ideal.In.posOf t) ⟨2048 + d.val, by omega⟩) := by
  pointwise [part_kc]

def part_vc (P : FVec Ideal S2x8192x3632 .f32) : FVec Ideal S16384x256 .f32 :=
  shapeCast _ (extractStridedSlice S2x8192x256 ![0, 0, 2304] P slices_S2x8192x3632_S2x8192x256_0_0_2304) shapeCasts_S2x8192x256_S16384x256

theorem part_vc_apply (P : FVec Ideal S2x8192x3632 .f32) (t : Fin 16384) (d : Fin 256) :
    part_vc P (ix2 t d) = P (ix3 (Cert.Kernel5Ideal.In.seqOf t) (Cert.Kernel5Ideal.In.posOf t) ⟨2304 + d.val, by omega⟩) := by
  pointwise [part_vc]

def part_ksl (P : FVec Ideal S2x8192x3632 .f32) : FVec Ideal S16384x256 .f32 :=
  shapeCast _ (extractStridedSlice S2x8192x256 ![0, 0, 2560] P slices_S2x8192x3632_S2x8192x256_0_0_2560) shapeCasts_S2x8192x256_S16384x256

theorem part_ksl_apply (P : FVec Ideal S2x8192x3632 .f32) (t : Fin 16384) (d : Fin 256) :
    part_ksl P (ix2 t d) = P (ix3 (Cert.Kernel5Ideal.In.seqOf t) (Cert.Kernel5Ideal.In.posOf t) ⟨2560 + d.val, by omega⟩) := by
  pointwise [part_ksl]

def part_vsl (P : FVec Ideal S2x8192x3632 .f32) : FVec Ideal S16384x256 .f32 :=
  shapeCast _ (extractStridedSlice S2x8192x256 ![0, 0, 2816] P slices_S2x8192x3632_S2x8192x256_0_0_2816) shapeCasts_S2x8192x256_S16384x256

theorem part_vsl_apply (P : FVec Ideal S2x8192x3632 .f32) (t : Fin 16384) (d : Fin 256) :
    part_vsl P (ix2 t d) = P (ix3 (Cert.Kernel5Ideal.In.seqOf t) (Cert.Kernel5Ideal.In.posOf t) ⟨2816 + d.val, by omega⟩) := by
  pointwise [part_vsl]

def part_kw (P : FVec Ideal S2x8192x3632 .f32) : FVec Ideal S16384x256 .f32 :=
  shapeCast _ (extractStridedSlice S2x8192x256 ![0, 0, 3072] P slices_S2x8192x3632_S2x8192x256_0_0_3072) shapeCasts_S2x8192x256_S16384x256

theorem part_kw_apply (P : FVec Ideal S2x8192x3632 .f32) (t : Fin 16384) (d : Fin 256) :
    part_kw P (ix2 t d) = P (ix3 (Cert.Kernel5Ideal.In.seqOf t) (Cert.Kernel5Ideal.In.posOf t) ⟨3072 + d.val, by omega⟩) := by
  pointwise [part_kw]

def part_vw (P : FVec Ideal S2x8192x3632 .f32) : FVec Ideal S16384x256 .f32 :=
  shapeCast _ (extractStridedSlice S2x8192x256 ![0, 0, 3328] P slices_S2x8192x3632_S2x8192x256_0_0_3328) shapeCasts_S2x8192x256_S16384x256

theorem part_vw_apply (P : FVec Ideal S2x8192x3632 .f32) (t : Fin 16384) (d : Fin 256) :
    part_vw P (ix2 t d) = P (ix3 (Cert.Kernel5Ideal.In.seqOf t) (Cert.Kernel5Ideal.In.posOf t) ⟨3328 + d.val, by omega⟩) := by
  pointwise [part_vw]

def part_gates (P : FVec Ideal S2x8192x3632 .f32) : FVec Ideal S16384x48 .f32 :=
  shapeCast _ (extractStridedSlice S2x8192x48 ![0, 0, 3584] P slices_S2x8192x3632_S2x8192x48_0_0_3584) shapeCasts_S2x8192x48_S16384x48

theorem part_gates_apply (P : FVec Ideal S2x8192x3632 .f32) (t : Fin 16384) (d : Fin 48) :
    part_gates P (ix2 t d) = P (ix3 (Cert.Kernel5Ideal.In.seqOf t) (Cert.Kernel5Ideal.In.posOf t) ⟨3584 + d.val, by omega⟩) := by
  pointwise [part_gates]

end Cert.Reference5Ideal.In

namespace Cert.Proof

open Idealize.ShloMosaic Idealize.ShloMosaic.TcCoe Idealize.SL.Sem

theorem odd_reference_frame : Cert.quiescent_Reference5Ideal (hReference5Ideal := Cert.Reference5Ideal.Gen.facts) :=
  fun m ρ _ => (θ_run (Cert.Reference5Ideal.defs (F := Ideal)) _ _).mono
    (fun r h => ⟨fun c => (h c).2.2.2.2.2.2.2.2, sem_eq_zero_of_no_sems (by decide) r.2⟩) (Cert.Reference5Ideal.Value.run m ρ)

section
open Cert.Kernel5Ideal Cert.Kernel5Ideal.Gen Cert.Kernel5Ideal.In
variable (m : (ℓ : Loc nD τ sig) → Buf (Elt Ideal) ℓ) (c : Dev nD)

/-- The reference's product from the kernel's arguments. -/
def oddProj : FVec Ideal Cert.Reference5Ideal.S2x8192x3632 .f32 := Cert.Reference5Ideal.In.proj (x m c) (md m c) (g m c) (w m c)

theorem oddProj_apply (o : ℕ) (t : Fin 16384) (d : ℕ) (h : o + d < 3632) :
    group m c o t d h = oddProj m c (ix3 (seqOf t) (posOf t) ⟨o + d, h⟩) :=
  (Cert.Reference5Ideal.In.proj_apply _ _ _ _ _ _ _).symm

theorem odd_q : Pipeline.afterTail₀ cfgs (dats m) 0 (V0 m) [hostOps1] c main_v18 = Cert.Reference5Ideal.In.part_q (oddProj m c) := by
  funext y
  idx_vars y
  rw [res_q, oddProj_apply]
  exact (Cert.Reference5Ideal.In.part_q_apply _ _ _).symm

theorem odd_kc : Pipeline.afterTail₀ cfgs (dats m) 0 (V0 m) [hostOps1] c main_v23 = Cert.Reference5Ideal.In.part_kc (oddProj m c) := by
  funext y
  idx_vars y
  rw [res_kc, oddProj_apply]
  exact (Cert.Reference5Ideal.In.part_kc_apply _ _ _).symm

theorem odd_vc : Pipeline.afterTail₀ cfgs (dats m) 0 (V0 m) [hostOps1] c main_v24 = Cert.Reference5Ideal.In.part_vc (oddProj m c) := by
  funext y
  idx_vars y
  rw [res_vc, oddProj_apply]
  exact (Cert.Reference5Ideal.In.part_vc_apply _ _ _).symm

theorem odd_ksl : Pipeline.afterTail₀ cfgs (dats m) 0 (V0 m) [hostOps1] c main_v19 = Cert.Reference5Ideal.In.part_ksl (oddProj m c) := by
  funext y
  idx_vars y
  rw [res_ksl, oddProj_apply]
  exact (Cert.Reference5Ideal.In.part_ksl_apply _ _ _).symm

theorem odd_vsl : Pipeline.afterTail₀ cfgs (dats m) 0 (V0 m) [hostOps1] c main_v21 = Cert.Reference5Ideal.In.part_vsl (oddProj m c) := by
  funext y
  idx_vars y
  rw [res_vsl, oddProj_apply]
  exact (Cert.Reference5Ideal.In.part_vsl_apply _ _ _).symm

theorem odd_kw : Pipeline.afterTail₀ cfgs (dats m) 0 (V0 m) [hostOps1] c main_v20 = Cert.Reference5Ideal.In.part_kw (oddProj m c) := by
  funext y
  idx_vars y
  rw [res_kw, oddProj_apply]
  exact (Cert.Reference5Ideal.In.part_kw_apply _ _ _).symm

theorem odd_vw : Pipeline.afterTail₀ cfgs (dats m) 0 (V0 m) [hostOps1] c main_v22 = Cert.Reference5Ideal.In.part_vw (oddProj m c) := by
  funext y
  idx_vars y
  rw [res_vw, oddProj_apply]
  exact (Cert.Reference5Ideal.In.part_vw_apply _ _ _).symm

theorem odd_gates : Pipeline.afterTail₀ cfgs (dats m) 0 (V0 m) [hostOps1] c main_v25 = Cert.Reference5Ideal.In.part_gates (oddProj m c) := by
  funext y
  idx_vars y
  rw [res_gates, oddProj_apply]
  exact (Cert.Reference5Ideal.In.part_gates_apply _ _ _).symm

end

/-- From equal arguments the kernel's and the reference's input projection of the odd layer end with the same eight arrays. -/
theorem odd_in : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Reference5Ideal.In.part_q (oddProj m c), fun c => Cert.Reference5Ideal.In.part_kc (oddProj m c), fun c => Cert.Reference5Ideal.In.part_vc (oddProj m c), fun c => Cert.Reference5Ideal.In.part_ksl (oddProj m c), fun c => Cert.Reference5Ideal.In.part_vsl (oddProj m c), fun c => Cert.Reference5Ideal.In.part_kw (oddProj m c), fun c => Cert.Reference5Ideal.In.part_vw (oddProj m c), fun c => Cert.Reference5Ideal.In.part_gates (oddProj m c), ?_, ?_⟩
  · refine (θ_run (Cert.Kernel5Ideal.defs (F := Ideal)) _ _).mono (fun r h c => ⟨?_, ?_, ?_, ?_, ?_, ?_, ?_, ?_, ?_, ?_, ?_, ?_⟩) (Cert.Kernel5Ideal.Gen.run_main m g)
    · exact ((h c).2 Cert.Kernel5Ideal.main_v18 (Pipeline.mem_restRefs_of _ (by decide) (by decide))).trans (odd_q m c)
    · exact ((h c).2 Cert.Kernel5Ideal.main_v23 (Pipeline.mem_restRefs_of _ (by decide) (by decide))).trans (odd_kc m c)
    · exact ((h c).2 Cert.Kernel5Ideal.main_v24 (Pipeline.mem_restRefs_of _ (by decide) (by decide))).trans (odd_vc m c)
    · exact ((h c).2 Cert.Kernel5Ideal.main_v19 (Pipeline.mem_restRefs_of _ (by decide) (by decide))).trans (odd_ksl m c)
    · exact ((h c).2 Cert.Kernel5Ideal.main_v21 (Pipeline.mem_restRefs_of _ (by decide) (by decide))).trans (odd_vsl m c)
    · exact ((h c).2 Cert.Kernel5Ideal.main_v20 (Pipeline.mem_restRefs_of _ (by decide) (by decide))).trans (odd_kw m c)
    · exact ((h c).2 Cert.Kernel5Ideal.main_v22 (Pipeline.mem_restRefs_of _ (by decide) (by decide))).trans (odd_vw m c)
    · exact ((h c).2 Cert.Kernel5Ideal.main_v25 (Pipeline.mem_restRefs_of _ (by decide) (by decide))).trans (odd_gates m c)
    · exact ((h c).2 Cert.Kernel5Ideal.main_arg0 (Pipeline.mem_restRefs_of _ (by decide) (by decide))).trans (Cert.Kernel5Ideal.Gen.W_main_arg0 m _ c)
    · exact ((h c).2 Cert.Kernel5Ideal.main_arg1 (Pipeline.mem_restRefs_of _ (by decide) (by decide))).trans (Cert.Kernel5Ideal.Gen.W_main_arg1 m _ c)
    · exact ((h c).2 Cert.Kernel5Ideal.main_arg2 (Pipeline.mem_restRefs_of _ (by decide) (by decide))).trans (Cert.Kernel5Ideal.Gen.W_main_arg2 m _ c)
    · exact ((h c).2 Cert.Kernel5Ideal.main_arg3 (Pipeline.mem_restRefs_of _ (by decide) (by decide))).trans (Cert.Kernel5Ideal.Gen.W_main_arg3 m _ c)
  · refine (θ_run (Cert.Reference5Ideal.defs (F := Ideal)) _ _).mono (fun r h c => ?_) (Cert.Reference5Ideal.Value.run m' g')
    obtain ⟨h0, h1, h2, h3⟩ := hagree c
    have hp : oddProj m c = Cert.Reference5Ideal.In.proj (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
        (m' ((c.tc : Thread Cert.Reference5Ideal.nD Cert.Reference5Ideal.τ).loc Cert.Reference5Ideal.main_arg3)) := by
      rw [h0, h1, h2, h3]
      rfl
    beta_reduce
    rw [hp]
    exact h c

end Cert.Proof

end
-- ==== Proof.EvenIn.lean ====
/- The even layer's input projection: the norm, its modulation and the product with the regrouped columns of the weight
   are the reference's, column group by column group; the scores' factor 1/8 goes through the sum. -/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Consts
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384
set_option maxHeartbeats 1000000

noncomputable section

namespace Cert.Kernel6Ideal.In

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin grid0.N, win0_0.index t = ![t.val / 5, 0] := by decide +kernel
theorem idx1 : ∀ t : Fin grid0.N, win0_1.index t = ![0, 0] := by decide +kernel
theorem idx2 : ∀ t : Fin grid0.N, win0_2.index t = ![t.val / 40, 0, 0] := by decide +kernel
theorem idx3 : ∀ t : Fin grid0.N, win0_3.index t = ![t.val / 40, 0, 0] := by decide +kernel
theorem idx4 : ∀ t : Fin grid0.N, win0_4.index t = ![0, t.val % 5] := by decide +kernel
theorem idx5 : ∀ t : Fin grid0.N, win0_5.index t = ![t.val / 5, t.val % 5] := by decide +kernel
theorem pt_lt (t : Fin cfg0.N) : t.val < 80 := t.isLt

/-- The residual stream, the modulation, the gain and the weight, as the program is given them. -/
abbrev x (c : Dev nD) : FVec Ideal S2x8192x2048 .f32 := m ((c : Thread nD τ).loc main_arg0)
abbrev md (c : Dev nD) : FVec Ideal S2x6144 .f32 := m ((c : Thread nD τ).loc main_arg1)
abbrev g (c : Dev nD) : FVec Ideal S2048 .f32 := m ((c : Thread nD τ).loc main_arg2)
abbrev w (c : Dev nD) : FVec Ideal S2048x4608 .f32 := m ((c : Thread nD τ).loc main_arg3)

/-- A row of 16384 is one of 2 sequences and one of 8192 positions. -/
abbrev seqOf (t : Fin 16384) : Fin 2 := ⟨t.val / 8192, by omega⟩
abbrev posOf (t : Fin 16384) : Fin 8192 := ⟨t.val % 8192, by omega⟩

/-- One row's norm, scaled and shifted. -/
def modded (x : Fin 2048 → EReal) (g sc sh : EReal) (d : Fin 2048) : EReal :=
  x d * Ideal.rsqrt (Ideal.div (∑ k, x k * x k) (Ideal.ofBits .f32 0x45000000#32) + Ideal.ofBits .f32 0x358637BD#32) * g
    * (1 + sc) + sh

/-- The normed and modulated activation of a row. -/
def act (x : FVec Ideal S2x8192x2048 .f32) (md : FVec Ideal S2x6144 .f32) (g : FVec Ideal S2048 .f32) (t : Fin 16384) (d : Fin 2048) : EReal :=
  modded (fun k => x (ix3 (seqOf t) (posOf t) k)) (g (ix1 d)) (md (ix2 (seqOf t) ⟨2048 + d.val, by omega⟩)) (md (ix2 (seqOf t) ⟨d.val, by omega⟩)) d

theorem pay1_apply (x : Vec Ideal S1024x2048 .f32) (g : Vec Ideal S1x2048 .f32) (sc sh : Vec Ideal S1x1x2048 .f32) (r : Fin 1024) (d : Fin 2048) :
    k0_pay1 x g sc sh (ix2 r d) = modded (fun k => x (ix2 r k)) (g (ix2 0 d)) (sc (ix3 0 0 d)) (sh (ix3 0 0 d)) d := by
  pointwise [k0_pay1]
  rfl

theorem pay2_apply (h : Vec Ideal S1024x2048 .bf16) (w : Vec Ideal S2048x1024 .bf16) (r : Fin 1024) (d : Fin 1024) :
    k0_pay2 h w (ix2 r d) = (∑ k : Fin 2048, h (ix2 r k) * w (ix2 k d) : EReal) := by
  pointwise [k0_pay2]

theorem iblk0 (t : Fin cfg0.N) (p : Fin 1024) (k : Fin 2048) (h) :
    iblk m c 0 t (ix2 p k) = (x m c (ix3 (seqOf ⟨t.val / 5 * 1024 + p.val, h⟩) (posOf ⟨t.val / 5 * 1024 + p.val, h⟩) k) : EReal) := by
  have e : iblk m c 0 t (ix2 p k) = V m c main_v0 (ix2 ⟨t.val / 5 * 1024 + p.val, h⟩ k) := by
    blk_ext [iblk, idx0 t]
  rw [e]
  unfold V
  after_reads_at

theorem iblk1 (t : Fin cfg0.N) (d : Fin 2048) : iblk m c 1 t (ix2 0 d) = (g m c (ix1 d) : EReal) := by
  have e : iblk m c 1 t (ix2 0 d) = V m c main_v27 (ix2 0 d) := by
    blk_ext [iblk, idx1 t]
  rw [e]
  unfold V
  after_reads_at

theorem iblk2 (t : Fin cfg0.N) (d : Fin 2048) (h) (h') :
    iblk m c 2 t (ix3 0 0 d) = (md m c (ix2 ⟨t.val / 40, h⟩ ⟨2048 + d.val, h'⟩) : EReal) := by
  have e : iblk m c 2 t (ix3 0 0 d) = V m c main_v28 (ix3 ⟨t.val / 40, h⟩ 0 d) := by
    blk_ext [iblk, idx2 t]
  rw [e]
  unfold V
  after_reads_at

theorem iblk3 (t : Fin cfg0.N) (d : Fin 2048) (h) (h') :
    iblk m c 3 t (ix3 0 0 d) = (md m c (ix2 ⟨t.val / 40, h⟩ ⟨d.val, h'⟩) : EReal) := by
  have e : iblk m c 3 t (ix3 0 0 d) = V m c main_v29 (ix3 ⟨t.val / 40, h⟩ 0 d) := by
    blk_ext [iblk, idx3 t]
  rw [e]
  unfold V
  after_reads_at

theorem iblk4 (t : Fin cfg0.N) (k : Fin 2048) (d : Fin 1024) (h) :
    iblk m c 4 t (ix2 k d) = (V m c main_v26 (ix2 k ⟨t.val % 5 * 1024 + d.val, h⟩) : EReal) := by
  blk_ext [iblk, idx4 t]

/-- The first product of a block of rows norms them. -/
theorem first (t : Fin cfg0.N) (p : Fin 1024) (k : Fin 2048) (h) :
    k0_pay1 (iblk m c 0 t) (iblk m c 1 t) (iblk m c 2 t) (iblk m c 3 t) (ix2 p k)
      = act (x m c) (md m c) (g m c) ⟨t.val / 5 * 1024 + p.val, h⟩ k := by
  have ht := pt_lt t
  have hs : seqOf ⟨t.val / 5 * 1024 + p.val, h⟩ = ⟨t.val / 40, by omega⟩ := Fin.ext (by
    show (t.val / 5 * 1024 + p.val) / 8192 = t.val / 40
    omega)
  rw [pay1_apply, iblk1, iblk2 m c t k (by omega) (by omega), iblk3 m c t k (by omega) (by omega), act]
  simp only [iblk0 m c t p _ h, hs]

/-- After every point the scratch holds the block's normed and modulated rows. -/
theorem scratch (n : ℕ) : ∀ (hn : n < cfg0.N) (p : Fin 1024) (k : Fin 2048) (h : n / 5 * 1024 + p.val < 16384),
    (outsAt0 m c n hn).2 (ix2 p k) = act (x m c) (md m c) (g m c) ⟨n / 5 * 1024 + p.val, h⟩ k := by
  induction n with
  | zero =>
    intro hn p k h
    rw [show outsAt0 m c 0 hn = _ from outsAt0_A m c ⟨0, hn⟩ rfl]
    unfold sout0_A_0
    frame_out
    exact first m c ⟨0, hn⟩ p k h
  | succ n ih =>
    intro hn p k h
    by_cases h3 : (n + 1) % 5 = 0
    · rw [show outsAt0 m c (n + 1) hn = _ from outsAt0_A m c ⟨n + 1, hn⟩ h3]
      unfold sout0_A_0
      frame_out
      exact first m c ⟨n + 1, hn⟩ p k h
    · rw [show outsAt0 m c (n + 1) hn = _ from outsAt0_B m c ⟨n + 1, hn⟩ h3]
      have e : n / 5 = (n + 1) / 5 := by omega
      refine (ih (Nat.lt_of_succ_lt hn) p k (by omega)).trans ?_
      simp only [e]

/-- Every point's block of the result. -/
theorem block (t : Fin cfg0.N) (p : Fin 1024) (d : Fin 1024) (h) (h') :
    (outsAt0 m c t.val t.isLt).1 (ix2 p d)
      = (∑ k : Fin 2048, act (x m c) (md m c) (g m c) ⟨t.val / 5 * 1024 + p.val, h⟩ k * V m c main_v26 (ix2 k ⟨t.val % 5 * 1024 + d.val, h'⟩) : EReal) := by
  by_cases h3 : t.val % 5 = 0
  · rw [outsAt0_A m c t h3]
    unfold out0_A_5
    frame_out
    rw [pay2_apply]
    simp only [first m c t p _ h, iblk4 m c t _ d h']
  · rw [outsAt0_B m c t h3]
    unfold out0_B_5
    frame_out
    rw [pay2_apply]
    have e : (t.val - 1) / 5 = t.val / 5 := by omega
    have hs := fun k => scratch m c (t.val - 1) (Nat.lt_of_le_of_lt (Nat.sub_le _ _) t.isLt) p k (by omega)
    simp only [e] at hs
    erw [Memref.IsWhole.read_unread]
    simp only [hs, iblk4 m c t _ d h']

/-- The whole product, in the kernel's order of the columns. -/
def prod (c : Dev nD) : FVec Ideal S16384x5120 .f32 := fun i =>
  (∑ k : Fin 2048, act (x m c) (md m c) (g m c) (i 0) k * V m c main_v26 (ix2 k (i 1)) : EReal)

theorem arr_prod : (dats m 0 c).arrAt 5 cfg0.N = prod m c := by
  refine (dats m 0 c).arrAt_eq_of_covers 5 _ (by decide +kernel) fun t _ y => ?_
  blk_simp
  have h0 := pt_lt t
  rw [after0_5]
  idx_vars y
  have he : ((View.whole main_v30).slice (win0_5.rect t)).emb (ix2 y0 y1)
      = ix2 ⟨t.val / 5 * 1024 + y0.val, by omega⟩ ⟨t.val % 5 * 1024 + y1.val, by omega⟩ := by
    blk_ext [idx5 t]
  rw [he]
  exact block m c t y0 y1 _ _

/-! The kernel's columns are the weight's, in another order: which each group is. -/

theorem col_qa (k : Fin 2048) (a : Fin 2) (b : Fin 8) (e : Fin 64) : V m c main_v26 (ix2 k ⟨b.val * 128 + a.val * 64 + e.val, by omega⟩)
    = (w m c (ix2 k ⟨0 + (a.val * 512 + b.val * 64 + e.val), by omega⟩) * Ideal.ofBits .f32 0x3E000000#32 : EReal) := by
  unfold V
  after_reads_at
  rw [dif_pos (by omega)]
  after_reads_at

theorem col_ka (k : Fin 2048) (a : Fin 2) (b : Fin 8) (e : Fin 64) : V m c main_v26 (ix2 k ⟨1024 + (b.val * 128 + a.val * 64 + e.val), by omega⟩)
    = (w m c (ix2 k ⟨1024 + (a.val * 512 + b.val * 64 + e.val), by omega⟩) : EReal) := by
  unfold V
  after_reads_at
  rw [dif_pos (by omega)]
  after_reads_at

theorem col_va (k : Fin 2048) (d : Fin 1024) : V m c main_v26 (ix2 k ⟨3584 + (d.val), by omega⟩)
    = (w m c (ix2 k ⟨2048 + (d.val), by omega⟩) : EReal) := by
  unfold V
  after_reads_at
  rw [dif_neg (by omega), dif_neg (by omega), dif_neg (by omega), dif_neg (by omega), dif_pos (by omega)]
  simp only [show 3584 + d.val - 1024 - 1024 - 1024 - 512 = d.val by omega]
  after_reads_at

theorem col_qs (k : Fin 2048) (d : Fin 1024) : V m c main_v26 (ix2 k ⟨2048 + (d.val), by omega⟩)
    = (w m c (ix2 k ⟨3072 + (d.val), by omega⟩) * Ideal.ofBits .f32 0x3E000000#32 : EReal) := by
  unfold V
  after_reads_at
  rw [dif_neg (by omega), dif_neg (by omega), dif_pos (by omega)]
  simp only [show 2048 + d.val - 1024 - 1024 = d.val by omega]
  after_reads_at

theorem col_ks (k : Fin 2048) (b : Fin 4) (e : Fin 64) : V m c main_v26 (ix2 k ⟨3072 + (b.val * 128 + e.val), by omega⟩)
    = (w m c (ix2 k ⟨4096 + (b.val * 64 + e.val), by omega⟩) : EReal) := by
  unfold V
  after_reads_at
  rw [dif_neg (by omega), dif_neg (by omega), dif_neg (by omega), dif_pos (by omega)]
  simp only [show 3072 + (b.val * 128 + e.val) - 1024 - 1024 - 1024 = b.val * 128 + e.val by omega]
  after_reads_at

theorem col_vs (k : Fin 2048) (b : Fin 4) (e : Fin 64) : V m c main_v26 (ix2 k ⟨4608 + (b.val * 128 + e.val), by omega⟩)
    = (w m c (ix2 k ⟨4352 + (b.val * 64 + e.val), by omega⟩) : EReal) := by
  unfold V
  after_reads_at
  rw [dif_neg (by omega), dif_neg (by omega), dif_neg (by omega), dif_neg (by omega), dif_neg (by omega)]
  simp only [show 4608 + (b.val * 128 + e.val) - 1024 - 1024 - 1024 - 512 - 1024 = b.val * 128 + e.val by omega]
  after_reads_at

/-- What the lines after the kernel read: its result. -/
theorem tail_prod : Pipeline.withArrays (cfgs 0).spec c (V0 m c) (fun w => (dats m 0 c).arrAt w (cfgs 0).N) (Proc.tc.devRef main_v30) = prod m c :=
  (Pipeline.withArrays_arr spec0 launch0.win.arr_inj c (V0 m c) _ 5).trans (arr_prod m c)

/-- A column of the product of the activations with the weight. -/
def group (c : Dev nD) (o : ℕ) (t : Fin 16384) (d : ℕ) (h : o + d < 4608) : EReal :=
  ∑ k : Fin 2048, act (x m c) (md m c) (g m c) t k * w m c (ix2 k ⟨o + d, h⟩)

/-- A nonnegative real factor goes out of a sum of extended reals. -/
theorem sum_factor (n : ℕ) (f : Fin n → EReal) (s : EReal) (h0 : 0 ≤ s) (h1 : s ≠ ⊤) : ∑ k, f k * s = (∑ k, f k) * s := by
  suffices ∀ S : Finset (Fin n), ∑ k ∈ S, f k * s = (∑ k ∈ S, f k) * s from this Finset.univ
  intro S
  induction S using Finset.induction_on with
  | empty => simp
  | insert k S hk ih => rw [Finset.sum_insert hk, Finset.sum_insert hk, ih, EReal.right_distrib_of_nonneg_of_ne_top h0 h1]

/-- The factor 1/8 on the columns is the factor 1/8 on the product. -/
theorem sum_eighth (f h : Fin 2048 → EReal) : ∑ k, f k * (h k * Ideal.ofBits .f32 0x3E000000#32)
    = (∑ k, f k * h k) * Ideal.ofBits .f32 0x3E000000#32 := by
  simp only [← mul_assoc]
  refine sum_factor _ _ _ ?_ ?_
  · rw [Cert.Consts.eighth]
    exact_mod_cast (by norm_num : (0 : ℝ) ≤ 1 / 8)
  · rw [Cert.Consts.eighth]
    exact EReal.coe_ne_top _

theorem res_qa (t : Fin 16384) (a : Fin 2) (b : Fin 8) (e : Fin 64) :
    Pipeline.afterTail₀ cfgs (dats m) 0 (V0 m) [hostOps1] c main_v38 (ix4 t a b e)
      = (group m c 0 t (a.val * 512 + b.val * 64 + e.val) (by omega) * Ideal.ofBits .f32 0x3E000000#32 : EReal) := by
  unfold Pipeline.afterTail₀
  after_reads_at
  rw [tail_prod]
  have hc := fun k => col_qa m c k a b e
  simp only [Nat.zero_add] at hc
  simp only [prod, ix2_0, ix2_1, hc, group, sum_eighth, Nat.zero_add]

theorem res_ka (t : Fin 16384) (a : Fin 2) (b : Fin 8) (e : Fin 64) :
    Pipeline.afterTail₀ cfgs (dats m) 0 (V0 m) [hostOps1] c main_v40 (ix4 t a b e)
      = group m c 1024 t (a.val * 512 + b.val * 64 + e.val) (by omega) := by
  unfold Pipeline.afterTail₀
  after_reads_at
  rw [tail_prod]
  have hc := fun k => col_ka m c k a b e
  simp only [prod, ix2_0, ix2_1, hc, group, Nat.zero_add]

theorem res_va (t : Fin 16384) (d : Fin 1024) :
    Pipeline.afterTail₀ cfgs (dats m) 0 (V0 m) [hostOps1] c main_v35 (ix2 t d)
      = group m c 2048 t (d.val) (by omega) := by
  unfold Pipeline.afterTail₀
  after_reads_at
  rw [tail_prod]
  have hc := fun k => col_va m c k d
  simp only [prod, ix2_0, ix2_1, hc, group, Nat.zero_add]

theorem res_qs (t : Fin 16384) (d : Fin 1024) :
    Pipeline.afterTail₀ cfgs (dats m) 0 (V0 m) [hostOps1] c main_v33 (ix2 t d)
      = (group m c 3072 t (d.val) (by omega) * Ideal.ofBits .f32 0x3E000000#32 : EReal) := by
  unfold Pipeline.afterTail₀
  after_reads_at
  rw [tail_prod]
  have hc := fun k => col_qs m c k d
  simp only [prod, ix2_0, ix2_1, hc, group, sum_eighth, Nat.zero_add]

theorem res_ks (t : Fin 16384) (b : Fin 4) (e : Fin 64) :
    Pipeline.afterTail₀ cfgs (dats m) 0 (V0 m) [hostOps1] c main_v43 (ix3 t b e)
      = group m c 4096 t (b.val * 64 + e.val) (by omega) := by
  unfold Pipeline.afterTail₀
  after_reads_at
  rw [tail_prod]
  have hc := fun k => col_ks m c k b e
  simp only [prod, ix2_0, ix2_1, hc, group, Nat.zero_add]

theorem res_vs (t : Fin 16384) (b : Fin 4) (e : Fin 64) :
    Pipeline.afterTail₀ cfgs (dats m) 0 (V0 m) [hostOps1] c main_v46 (ix3 t b e)
      = group m c 4352 t (b.val * 64 + e.val) (by omega) := by
  unfold Pipeline.afterTail₀
  after_reads_at
  rw [tail_prod]
  have hc := fun k => col_vs m c k b e
  simp only [prod, ix2_0, ix2_1, hc, group, Nat.zero_add]

end Cert.Kernel6Ideal.In

namespace Cert.Reference6Ideal.In

open Cert.Reference6Ideal Cert.Reference6Ideal.Gen Idealize.ShloMosaic Idealize.ShloMosaic.TcCoe Idealize.SL.Sem

/-- The reference's product. -/
def proj (x : FVec Ideal S2x8192x2048 .f32) (md : FVec Ideal S2x6144 .f32) (g : FVec Ideal S2048 .f32) (w : FVec Ideal S2048x4608 .f32) :
    FVec Ideal S2x8192x4608 .f32 :=
  Host.dotGeneral dot_S2x8192x2048_S2048x4608_S2x8192x4608_2_0_01_1_n_n none (addf (mulf (mulf (mulf x
    (broadcastInDim S2x8192x2048 ![0, 1, 2] bcast_S2x8192x1_S2x8192x2048_0_1_2 (Host.rsqrt (addf (Host.divf
      (broadcastInDim S2x8192x1 ![0, 1] bcast_S2x8192_S2x8192x1_0_1 (Host.reduceAdd (mulf x x) (constant S_ .f32 0x00000000#32) reducesTo_S2x8192x2048_S2x8192_d2 h_S_))
      (broadcastInDim S2x8192x1 ![] bcast_S_S2x8192x1 (constant S_ .f32 0x45000000#32)))
      (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 g)))
    (broadcastInDim S2x8192x2048 ![0, 1, 2] bcast_S2x1x2048_S2x8192x2048_0_1_2 (addf (broadcastInDim S2x1x2048 ![] bcast_S_S2x1x2048 (constant S_ .f32 0x3F800000#32))
      (extractStridedSlice S2x1x2048 ![0, 0, 2048] (broadcastInDim S2x1x6144 ![0, 2] bcast_S2x6144_S2x1x6144_0_2 md) slices_S2x1x6144_S2x1x2048_0_0_2048))))
    (broadcastInDim S2x8192x2048 ![0, 1, 2] bcast_S2x1x2048_S2x8192x2048_0_1_2
      (extractStridedSlice S2x1x2048 ![0, 0, 0] (broadcastInDim S2x1x6144 ![0, 2] bcast_S2x6144_S2x1x6144_0_2 md) slices_S2x1x6144_S2x1x2048_0_0_0))) w

open Cert.Kernel6Ideal.In in
theorem proj_apply (x : FVec Ideal S2x8192x2048 .f32) (md : FVec Ideal S2x6144 .f32) (g : FVec Ideal S2048 .f32) (w : FVec Ideal S2048x4608 .f32)
    (b : Fin 2) (s : Fin 8192) (n : Fin 4608) :
    proj x md g w (ix3 b s n) = (∑ k : Fin 2048, modded (fun j => x (ix3 b s j)) (g (ix1 k)) (md (ix2 b ⟨2048 + k.val, by omega⟩))
      (md (ix2 b ⟨k.val, by omega⟩)) k * w (ix2 k n) : EReal) := by
  pointwise [proj]
  rfl

def part_qa (P : FVec Ideal S2x8192x4608 .f32) : FVec Ideal S16384x2x8x64 .f32 :=
  mulf (shapeCast _ (extractStridedSlice S2x8192x1024 ![0, 0, 0] P slices_S2x8192x4608_S2x8192x1024_0_0_0) shapeCasts_S2x8192x1024_S16384x2x8x64)
    (broadcastInDim S16384x2x8x64 ![] bcast_S_S16384x2x8x64 (constant S_ .f32 0x3E000000#32))

theorem part_qa_apply (P : FVec Ideal S2x8192x4608 .f32) (t : Fin 16384) (a : Fin 2) (b : Fin 8) (e : Fin 64) :
    part_qa P (ix4 t a b e) = (P (ix3 (Cert.Kernel6Ideal.In.seqOf t) (Cert.Kernel6Ideal.In.posOf t) ⟨0 + (a.val * 512 + b.val * 64 + e.val), by omega⟩) * Ideal.ofBits .f32 0x3E000000#32 : EReal) := by
  pointwise [part_qa]

def part_ka (P : FVec Ideal S2x8192x4608 .f32) : FVec Ideal S16384x2x8x64 .f32 :=
  shapeCast _ (extractStridedSlice S2x8192x1024 ![0, 0, 1024] P slices_S2x8192x4608_S2x8192x1024_0_0_1024) shapeCasts_S2x8192x1024_S16384x2x8x64

theorem part_ka_apply (P : FVec Ideal S2x8192x4608 .f32) (t : Fin 16384) (a : Fin 2) (b : Fin 8) (e : Fin 64) :
    part_ka P (ix4 t a b e) = P (ix3 (Cert.Kernel6Ideal.In.seqOf t) (Cert.Kernel6Ideal.In.posOf t) ⟨1024 + (a.val * 512 + b.val * 64 + e.val), by omega⟩) := by
  pointwise [part_ka]

def part_va (P : FVec Ideal S2x8192x4608 .f32) : FVec Ideal S16384x1024 .f32 :=
  shapeCast _ (extractStridedSlice S2x8192x1024 ![0, 0, 2048] P slices_S2x8192x4608_S2x8192x1024_0_0_2048) shapeCasts_S2x8192x1024_S16384x1024

theorem part_va_apply (P : FVec Ideal S2x8192x4608 .f32) (t : Fin 16384) (d : Fin 1024) :
    part_va P (ix2 t d) = P (ix3 (Cert.Kernel6Ideal.In.seqOf t) (Cert.Kernel6Ideal.In.posOf t) ⟨2048 + (d.val), by omega⟩) := by
  pointwise [part_va]

def part_qs (P : FVec Ideal S2x8192x4608 .f32) : FVec Ideal S16384x1024 .f32 :=
  mulf (shapeCast _ (extractStridedSlice S2x8192x1024 ![0, 0, 3072] P slices_S2x8192x4608_S2x8192x1024_0_0_3072) shapeCasts_S2x8192x1024_S16384x1024)
    (broadcastInDim S16384x1024 ![] bcast_S_S16384x1024 (constant S_ .f32 0x3E000000#32))

theorem part_qs_apply (P : FVec Ideal S2x8192x4608 .f32) (t : Fin 16384) (d : Fin 1024) :
    part_qs P (ix2 t d) = (P (ix3 (Cert.Kernel6Ideal.In.seqOf t) (Cert.Kernel6Ideal.In.posOf t) ⟨3072 + (d.val), by omega⟩) * Ideal.ofBits .f32 0x3E000000#32 : EReal) := by
  pointwise [part_qs]

def part_ks (P : FVec Ideal S2x8192x4608 .f32) : FVec Ideal S16384x4x64 .f32 :=
  shapeCast _ (extractStridedSlice S2x8192x256 ![0, 0, 4096] P slices_S2x8192x4608_S2x8192x256_0_0_4096) shapeCasts_S2x8192x256_S16384x4x64

theorem part_ks_apply (P : FVec Ideal S2x8192x4608 .f32) (t : Fin 16384) (b : Fin 4) (e : Fin 64) :
    part_ks P (ix3 t b e) = P (ix3 (Cert.Kernel6Ideal.In.seqOf t) (Cert.Kernel6Ideal.In.posOf t) ⟨4096 + (b.val * 64 + e.val), by omega⟩) := by
  pointwise [part_ks]

def part_vs (P : FVec Ideal S2x8192x4608 .f32) : FVec Ideal S16384x4x64 .f32 :=
  shapeCast _ (extractStridedSlice S2x8192x256 ![0, 0, 4352] P slices_S2x8192x4608_S2x8192x256_0_0_4352) shapeCasts_S2x8192x256_S16384x4x64

theorem part_vs_apply (P : FVec Ideal S2x8192x4608 .f32) (t : Fin 16384) (b : Fin 4) (e : Fin 64) :
    part_vs P (ix3 t b e) = P (ix3 (Cert.Kernel6Ideal.In.seqOf t) (Cert.Kernel6Ideal.In.posOf t) ⟨4352 + (b.val * 64 + e.val), by omega⟩) := by
  pointwise [part_vs]

end Cert.Reference6Ideal.In

namespace Cert.Proof

open Idealize.ShloMosaic Idealize.ShloMosaic.TcCoe Idealize.SL.Sem

theorem even_reference_frame : Cert.quiescent_Reference6Ideal (hReference6Ideal := Cert.Reference6Ideal.Gen.facts) :=
  fun m ρ _ => (θ_run (Cert.Reference6Ideal.defs (F := Ideal)) _ _).mono
    (fun r h => ⟨fun c => (h c).2.2.2.2.2.2, sem_eq_zero_of_no_sems (by decide) r.2⟩) (Cert.Reference6Ideal.Value.run m ρ)

section
open Cert.Kernel6Ideal Cert.Kernel6Ideal.Gen Cert.Kernel6Ideal.In
variable (m : (ℓ : Loc nD τ sig) → Buf (Elt Ideal) ℓ) (c : Dev nD)

/-- The reference's product from the kernel's arguments. -/
def evenProj : FVec Ideal Cert.Reference6Ideal.S2x8192x4608 .f32 := Cert.Reference6Ideal.In.proj (x m c) (md m c) (g m c) (w m c)

theorem evenProj_apply (o : ℕ) (t : Fin 16384) (d : ℕ) (h : o + d < 4608) :
    group m c o t d h = evenProj m c (ix3 (seqOf t) (posOf t) ⟨o + d, h⟩) :=
  (Cert.Reference6Ideal.In.proj_apply _ _ _ _ _ _ _).symm

theorem even_qa : Pipeline.afterTail₀ cfgs (dats m) 0 (V0 m) [hostOps1] c main_v38 = Cert.Reference6Ideal.In.part_qa (evenProj m c) := by
  funext y
  idx_vars y
  rw [res_qa, evenProj_apply]
  exact (Cert.Reference6Ideal.In.part_qa_apply _ _ _ _ _).symm

theorem even_ka : Pipeline.afterTail₀ cfgs (dats m) 0 (V0 m) [hostOps1] c main_v40 = Cert.Reference6Ideal.In.part_ka (evenProj m c) := by
  funext y
  idx_vars y
  rw [res_ka, evenProj_apply]
  exact (Cert.Reference6Ideal.In.part_ka_apply _ _ _ _ _).symm

theorem even_va : Pipeline.afterTail₀ cfgs (dats m) 0 (V0 m) [hostOps1] c main_v35 = Cert.Reference6Ideal.In.part_va (evenProj m c) := by
  funext y
  idx_vars y
  rw [res_va, evenProj_apply]
  exact (Cert.Reference6Ideal.In.part_va_apply _ _ _).symm

theorem even_qs : Pipeline.afterTail₀ cfgs (dats m) 0 (V0 m) [hostOps1] c main_v33 = Cert.Reference6Ideal.In.part_qs (evenProj m c) := by
  funext y
  idx_vars y
  rw [res_qs, evenProj_apply]
  exact (Cert.Reference6Ideal.In.part_qs_apply _ _ _).symm

theorem even_ks : Pipeline.afterTail₀ cfgs (dats m) 0 (V0 m) [hostOps1] c main_v43 = Cert.Reference6Ideal.In.part_ks (evenProj m c) := by
  funext y
  idx_vars y
  rw [res_ks, evenProj_apply]
  exact (Cert.Reference6Ideal.In.part_ks_apply _ _ _ _).symm

theorem even_vs : Pipeline.afterTail₀ cfgs (dats m) 0 (V0 m) [hostOps1] c main_v46 = Cert.Reference6Ideal.In.part_vs (evenProj m c) := by
  funext y
  idx_vars y
  rw [res_vs, evenProj_apply]
  exact (Cert.Reference6Ideal.In.part_vs_apply _ _ _ _).symm

end

/-- From equal arguments the kernel's and the reference's input projection of the even layer end with the same six arrays. -/
theorem even_in : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Reference6Ideal.In.part_qa (evenProj m c), fun c => Cert.Reference6Ideal.In.part_ka (evenProj m c), fun c => Cert.Reference6Ideal.In.part_va (evenProj m c), fun c => Cert.Reference6Ideal.In.part_qs (evenProj m c), fun c => Cert.Reference6Ideal.In.part_ks (evenProj m c), fun c => Cert.Reference6Ideal.In.part_vs (evenProj m c), ?_, ?_⟩
  · refine (θ_run (Cert.Kernel6Ideal.defs (F := Ideal)) _ _).mono (fun r h c => ⟨?_, ?_, ?_, ?_, ?_, ?_, ?_, ?_, ?_, ?_⟩) (Cert.Kernel6Ideal.Gen.run_main m g)
    · exact ((h c).2 Cert.Kernel6Ideal.main_v38 (Pipeline.mem_restRefs_of _ (by decide) (by decide))).trans (even_qa m c)
    · exact ((h c).2 Cert.Kernel6Ideal.main_v40 (Pipeline.mem_restRefs_of _ (by decide) (by decide))).trans (even_ka m c)
    · exact ((h c).2 Cert.Kernel6Ideal.main_v35 (Pipeline.mem_restRefs_of _ (by decide) (by decide))).trans (even_va m c)
    · exact ((h c).2 Cert.Kernel6Ideal.main_v33 (Pipeline.mem_restRefs_of _ (by decide) (by decide))).trans (even_qs m c)
    · exact ((h c).2 Cert.Kernel6Ideal.main_v43 (Pipeline.mem_restRefs_of _ (by decide) (by decide))).trans (even_ks m c)
    · exact ((h c).2 Cert.Kernel6Ideal.main_v46 (Pipeline.mem_restRefs_of _ (by decide) (by decide))).trans (even_vs m c)
    · exact ((h c).2 Cert.Kernel6Ideal.main_arg0 (Pipeline.mem_restRefs_of _ (by decide) (by decide))).trans (Cert.Kernel6Ideal.Gen.W_main_arg0 m _ c)
    · exact ((h c).2 Cert.Kernel6Ideal.main_arg1 (Pipeline.mem_restRefs_of _ (by decide) (by decide))).trans (Cert.Kernel6Ideal.Gen.W_main_arg1 m _ c)
    · exact ((h c).2 Cert.Kernel6Ideal.main_arg2 (Pipeline.mem_restRefs_of _ (by decide) (by decide))).trans (Cert.Kernel6Ideal.Gen.W_main_arg2 m _ c)
    · exact ((h c).2 Cert.Kernel6Ideal.main_arg3 (Pipeline.mem_restRefs_of _ (by decide) (by decide))).trans (Cert.Kernel6Ideal.Gen.W_main_arg3 m _ c)
  · refine (θ_run (Cert.Reference6Ideal.defs (F := Ideal)) _ _).mono (fun r h c => ?_) (Cert.Reference6Ideal.Value.run m' g')
    obtain ⟨h0, h1, h2, h3⟩ := hagree c
    have hp : evenProj m c = Cert.Reference6Ideal.In.proj (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2))
        (m' ((c.tc : Thread Cert.Reference6Ideal.nD Cert.Reference6Ideal.τ).loc Cert.Reference6Ideal.main_arg3)) := by
      rw [h0, h1, h2, h3]
      rfl
    beta_reduce
    rw [hp]
    exact h c

end Cert.Proof

end
-- ==== Proof.PeerFrame.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The run of the product-key query projection, over any float values. The grid is 16 row blocks by 2 column blocks;
at a row block's first column block the body normalises and modulates its 1024 rows, writes them to the carried scratch
and to the second result's block, and at every point it multiplies the scratch by the point's weight block. The second
result's block is written at the first column block and written back after the second, untouched in between: what the
body finds in it there is what the point before left. -/

@[expose] public section

set_option maxRecDepth 16384

noncomputable section

namespace Cert.Kernel3Ideal.Peer

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: the second grid coordinate is zero. -/
abbrev cond (i : grid0.Coords) : Prop :=
  (Scalar.cmpi .ne (Scalar.extui (Scalar.cmpi .eq (BitVec.ofNat 32 (i 1).val) 0#32)) 0#32) = 1#1

/-- It is taken at the even points. -/
theorem hcond : ∀ t : Fin cfg0.N, cond (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond, e0, e1]
    word_cmp
   : ∀ t : Fin grid0.N, cond (grid0.coords t) ↔ t.val % 2 = 0)

/-- Views through which the results' blocks and the scratch are read back. -/
abbrev VO5 : View sig .tc .vmem S1024x1024 .bf16 := (Memref.whole cc0_stg5_0 : Memref sig .tc .vmem S1024x1024 .bf16).view
abbrev VO6 : View sig .tc .vmem S1024x2048 .bf16 := (Memref.whole cc0_stg6_0 : Memref sig .tc .vmem S1024x2048 .bf16).view
abbrev scM : Memref sig .tc .vmem S1024x2048 .bf16 := Memref.whole cc0_scratch0
abbrev VS : View sig .tc .vmem S1024x2048 .bf16 := scM.view

/-- Each window's staging memref at a point, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2048 .bf16 := win0_6.stage (cfg0.slots t 6)
abbrev hs0_6 (t : Fin cfg0.N) : (ms0_6 t).IsWhole := hstage0_6 ((cfg0.slots t 6).cast nbuf0_6)

/-- The region's invariant at the launch: the scratch at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## One run of the body, on any whole memrefs -/

section run

variable (c : Dev nD) (i : grid0.Coords)
  {arg2 : Memref sig .tc .vmem S1024x2048 .f32} (h2 : arg2.IsWhole)
  {arg3 : Memref sig .tc .vmem S1x2048 .f32} (h3 : arg3.IsWhole)
  {arg4 : Memref sig .tc .vmem S1x1x2048 .f32} (h4 : arg4.IsWhole)
  {arg5 : Memref sig .tc .vmem S1x1x2048 .f32} (h5 : arg5.IsWhole)
  {arg6 : Memref sig .tc .vmem S2048x1024 .bf16} (h6 : arg6.IsWhole)
  {arg7 : Memref sig .tc .vmem S1024x1024 .bf16} (h7 : arg7.IsWhole)
  {arg8 : Memref sig .tc .vmem S1024x2048 .bf16} (h8 : arg8.IsWhole)
  {arg9 : Memref sig .tc .vmem S1024x2048 .bf16} (h9 : arg9.IsWhole)

set_option maxHeartbeats 1000000 in
/-- At a first column block: the pieces the run writes to the two results' blocks and to the scratch, with the run. -/
noncomputable def runA (hc : cond i) (x0 : Vec F S1024x2048 .f32) (x1 : Vec F S1x2048 .f32) (x2 : Vec F S1x1x2048 .f32) (x3 : Vec F S1x1x2048 .f32) (x4 : Vec F S2048x1024 .bf16) :
    Σ' (L5 : List (View.Piece (Elt F) S1024x1024 .bf16)) (L6 : List (View.Piece (Elt F) S1024x2048 .bf16)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0_norm_mod_matmul i arg2 h2 arg3 h3 arg4 h4 arg5 h5 arg6 h6 arg7 h7 arg8 h8 arg9 h9) K } := by
  refine ⟨?_, ?_, ?_, fun E K => ?run⟩
  case run =>
    simp only [cc0_norm_mod_matmul_eq_skeleton]; unfold cc0_norm_mod_matmul_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := h2.eq_unread hf2; obtain rfl := h3.eq_unread hf3; obtain rfl := h4.eq_unread hf4; obtain rfl := h5.eq_unread hf5; obtain rfl := h6.eq_unread hf6
    sl_exec (disch := first | sl_exact hc)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]; · iexists _; iexact H8
    iexists _; iexact H9

set_option maxHeartbeats 1000000 in
/-- At a second column block: the pieces written to the first result's block; the second result's block and the
    scratch are kept. -/
noncomputable def runB (hc : ¬cond i) (x0 : Vec F S1024x2048 .f32) (x1 : Vec F S1x2048 .f32) (x2 : Vec F S1x1x2048 .f32) (x3 : Vec F S1x1x2048 .f32) (x4 : Vec F S2048x1024 .bf16) (x6 : Vec F S1024x2048 .bf16) (s0 : Vec F S1024x2048 .bf16) :
    { L5 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare s0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare x6 ∗ owns (c : Thread nD τ) arg9 fullShare s0) -∗ K ⟨⟩))
          ⊢ wp frame (wpE (defs₀ (F := F)) Variants.none c none) E (cc0_norm_mod_matmul i arg2 h2 arg3 h3 arg4 h4 arg5 h5 arg6 h6 arg7 h7 arg8 h8 arg9 h9) K } := by
  refine ⟨?_, fun E K => ?run⟩
  case run =>
    simp only [cc0_norm_mod_matmul_eq_skeleton]; unfold cc0_norm_mod_matmul_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := h2.eq_unread hf2; obtain rfl := h3.eq_unread hf3; obtain rfl := h4.eq_unread hf4; obtain rfl := h5.eq_unread hf5; obtain rfl := h6.eq_unread hf6; obtain rfl := h8.eq_unread hf8; obtain rfl := h9.eq_unread hf9
    sl_exec (disch := first | sl_exact hc)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    isplitl [H8]
    · iexists _; isplitr; · ipureintro; exact h8.read_unread _
      iexact H8
    iexists _; isplitr; · ipureintro; exact h9.read_unread _
    iexact H9

/-- The first result's block at a first column block: the pieces cover it, -/
theorem outA_cover (hc : cond i) (x0 : Vec F S1024x2048 .f32) (x1 : Vec F S1x2048 .f32) (x2 : Vec F S1x1x2048 .f32) (x3 : Vec F S1x1x2048 .f32) (x4 : Vec F S2048x1024 .bf16) (y : S1024x1024.Idx) :
    ∃ pc ∈ (runA c i h2 h3 h4 h5 h6 h7 h8 h9 hc x0 x1 x2 x3 x4).1, y ∈ pc.1.set :=
  View.cover_of_tiledL (runA c i h2 h3 h4 h5 h6 h7 h8 h9 hc x0 x1 x2 x3 x4).1 S1024x1024.size (by sl_kernel_rfl) y

/-- and what they leave. -/
def outA (hc : cond i) (x0 : Vec F S1024x2048 .f32) (x1 : Vec F S1x2048 .f32) (x2 : Vec F S1x1x2048 .f32) (x3 : Vec F S1x1x2048 .f32) (x4 : Vec F S2048x1024 .bf16) : Vec F S1024x1024 .bf16 :=
  VO5.read (Elt F) (VO5.writes (Elt F) VO5.junk (runA c i h2 h3 h4 h5 h6 h7 h8 h9 hc x0 x1 x2 x3 x4).1)

/-- The second result's block at a first column block: the pieces cover it, -/
theorem hidA_cover (hc : cond i) (x0 : Vec F S1024x2048 .f32) (x1 : Vec F S1x2048 .f32) (x2 : Vec F S1x1x2048 .f32) (x3 : Vec F S1x1x2048 .f32) (x4 : Vec F S2048x1024 .bf16) (y : S1024x2048.Idx) :
    ∃ pc ∈ (runA c i h2 h3 h4 h5 h6 h7 h8 h9 hc x0 x1 x2 x3 x4).2.1, y ∈ pc.1.set :=
  View.cover_of_tiledL (runA c i h2 h3 h4 h5 h6 h7 h8 h9 hc x0 x1 x2 x3 x4).2.1 S1024x2048.size (by sl_kernel_rfl) y

/-- and what they leave. -/
def hidA (hc : cond i) (x0 : Vec F S1024x2048 .f32) (x1 : Vec F S1x2048 .f32) (x2 : Vec F S1x1x2048 .f32) (x3 : Vec F S1x1x2048 .f32) (x4 : Vec F S2048x1024 .bf16) : Vec F S1024x2048 .bf16 :=
  VO6.read (Elt F) (VO6.writes (Elt F) VO6.junk (runA c i h2 h3 h4 h5 h6 h7 h8 h9 hc x0 x1 x2 x3 x4).2.1)

/-- The scratch at a first column block: the pieces cover it, -/
theorem scrA_cover (hc : cond i) (x0 : Vec F S1024x2048 .f32) (x1 : Vec F S1x2048 .f32) (x2 : Vec F S1x1x2048 .f32) (x3 : Vec F S1x1x2048 .f32) (x4 : Vec F S2048x1024 .bf16) (y : S1024x2048.Idx) :
    ∃ pc ∈ (runA c i h2 h3 h4 h5 h6 h7 h8 h9 hc x0 x1 x2 x3 x4).2.2.1, y ∈ pc.1.set :=
  View.cover_of_tiledL (runA c i h2 h3 h4 h5 h6 h7 h8 h9 hc x0 x1 x2 x3 x4).2.2.1 S1024x2048.size (by sl_kernel_rfl) y

/-- and what they leave. -/
def scrA (hc : cond i) (x0 : Vec F S1024x2048 .f32) (x1 : Vec F S1x2048 .f32) (x2 : Vec F S1x1x2048 .f32) (x3 : Vec F S1x1x2048 .f32) (x4 : Vec F S2048x1024 .bf16) : Vec F S1024x2048 .bf16 :=
  VS.read (Elt F) (VS.writes (Elt F) VS.junk (runA c i h2 h3 h4 h5 h6 h7 h8 h9 hc x0 x1 x2 x3 x4).2.2.1)

/-- The first result's block at a second column block: the pieces cover it, -/
theorem outB_cover (hc : ¬cond i) (x0 : Vec F S1024x2048 .f32) (x1 : Vec F S1x2048 .f32) (x2 : Vec F S1x1x2048 .f32) (x3 : Vec F S1x1x2048 .f32) (x4 : Vec F S2048x1024 .bf16) (x6 : Vec F S1024x2048 .bf16) (s0 : Vec F S1024x2048 .bf16) (y : S1024x1024.Idx) :
    ∃ pc ∈ (runB c i h2 h3 h4 h5 h6 h7 h8 h9 hc x0 x1 x2 x3 x4 x6 s0).1, y ∈ pc.1.set :=
  View.cover_of_tiledL (runB c i h2 h3 h4 h5 h6 h7 h8 h9 hc x0 x1 x2 x3 x4 x6 s0).1 S1024x1024.size (by sl_kernel_rfl) y

/-- and what they leave. -/
def outB (hc : ¬cond i) (x0 : Vec F S1024x2048 .f32) (x1 : Vec F S1x2048 .f32) (x2 : Vec F S1x1x2048 .f32) (x3 : Vec F S1x1x2048 .f32) (x4 : Vec F S2048x1024 .bf16) (x6 : Vec F S1024x2048 .bf16) (s0 : Vec F S1024x2048 .bf16) : Vec F S1024x1024 .bf16 :=
  VO5.read (Elt F) (VO5.writes (Elt F) VO5.junk (runB c i h2 h3 h4 h5 h6 h7 h8 h9 hc x0 x1 x2 x3 x4 x6 s0).1)

end run

variable (m : (ℓ : Loc nD τ sig) → Buf (Elt F) ℓ) (ρ : Dev nD → PrngReg)

/-! ## What the blocks and the scratch hold after each point -/

/-- The first result's block, the second result's block and the scratch after the body at point `n`. -/
def after (c : Dev nD) : (n : ℕ) → n < cfg0.N → Vec F S1024x1024 .bf16 × Vec F S1024x2048 .bf16 × Vec F S1024x2048 .bf16
  | 0, hn => (outA c (grid0.coords ⟨0, hn⟩) (hs0_0 ⟨0, hn⟩) (hs0_1 ⟨0, hn⟩) (hs0_2 ⟨0, hn⟩) (hs0_3 ⟨0, hn⟩) (hs0_4 ⟨0, hn⟩) (hs0_5 ⟨0, hn⟩) (hs0_6 ⟨0, hn⟩) (Memref.isWhole_whole cc0_scratch0) ((hcond ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
        hidA c (grid0.coords ⟨0, hn⟩) (hs0_0 ⟨0, hn⟩) (hs0_1 ⟨0, hn⟩) (hs0_2 ⟨0, hn⟩) (hs0_3 ⟨0, hn⟩) (hs0_4 ⟨0, hn⟩) (hs0_5 ⟨0, hn⟩) (hs0_6 ⟨0, hn⟩) (Memref.isWhole_whole cc0_scratch0) ((hcond ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩),
        scrA c (grid0.coords ⟨0, hn⟩) (hs0_0 ⟨0, hn⟩) (hs0_1 ⟨0, hn⟩) (hs0_2 ⟨0, hn⟩) (hs0_3 ⟨0, hn⟩) (hs0_4 ⟨0, hn⟩) (hs0_5 ⟨0, hn⟩) (hs0_6 ⟨0, hn⟩) (Memref.isWhole_whole cc0_scratch0) ((hcond ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 2 = 0 then
      (outA c (grid0.coords ⟨n + 1, hn⟩) (hs0_0 ⟨n + 1, hn⟩) (hs0_1 ⟨n + 1, hn⟩) (hs0_2 ⟨n + 1, hn⟩) (hs0_3 ⟨n + 1, hn⟩) (hs0_4 ⟨n + 1, hn⟩) (hs0_5 ⟨n + 1, hn⟩) (hs0_6 ⟨n + 1, hn⟩) (Memref.isWhole_whole cc0_scratch0) ((hcond ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
        hidA c (grid0.coords ⟨n + 1, hn⟩) (hs0_0 ⟨n + 1, hn⟩) (hs0_1 ⟨n + 1, hn⟩) (hs0_2 ⟨n + 1, hn⟩) (hs0_3 ⟨n + 1, hn⟩) (hs0_4 ⟨n + 1, hn⟩) (hs0_5 ⟨n + 1, hn⟩) (hs0_6 ⟨n + 1, hn⟩) (Memref.isWhole_whole cc0_scratch0) ((hcond ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩),
        scrA c (grid0.coords ⟨n + 1, hn⟩) (hs0_0 ⟨n + 1, hn⟩) (hs0_1 ⟨n + 1, hn⟩) (hs0_2 ⟨n + 1, hn⟩) (hs0_3 ⟨n + 1, hn⟩) (hs0_4 ⟨n + 1, hn⟩) (hs0_5 ⟨n + 1, hn⟩) (hs0_6 ⟨n + 1, hn⟩) (Memref.isWhole_whole cc0_scratch0) ((hcond ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (outB c (grid0.coords ⟨n + 1, hn⟩) (hs0_0 ⟨n + 1, hn⟩) (hs0_1 ⟨n + 1, hn⟩) (hs0_2 ⟨n + 1, hn⟩) (hs0_3 ⟨n + 1, hn⟩) (hs0_4 ⟨n + 1, hn⟩) (hs0_5 ⟨n + 1, hn⟩) (hs0_6 ⟨n + 1, hn⟩) (Memref.isWhole_whole cc0_scratch0) (fun h => h0 ((hcond ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (after c n (Nat.lt_of_succ_lt hn)).2.1 (after c n (Nat.lt_of_succ_lt hn)).2.2,
        (after c n (Nat.lt_of_succ_lt hn)).2.1, (after c n (Nat.lt_of_succ_lt hn)).2.2)

/-- At a first column block. -/
theorem after_A (c : Dev nD) (t : Fin cfg0.N) (h0 : t.val % 2 = 0) :
    after m c t.val t.isLt = (outA c (grid0.coords t) (hs0_0 t) (hs0_1 t) (hs0_2 t) (hs0_3 t) (hs0_4 t) (hs0_5 t) (hs0_6 t) (Memref.isWhole_whole cc0_scratch0) ((hcond t).mpr h0) (iblk m c 0 t) (iblk m c 1 t) (iblk m c 2 t) (iblk m c 3 t) (iblk m c 4 t),
        hidA c (grid0.coords t) (hs0_0 t) (hs0_1 t) (hs0_2 t) (hs0_3 t) (hs0_4 t) (hs0_5 t) (hs0_6 t) (Memref.isWhole_whole cc0_scratch0) ((hcond t).mpr h0) (iblk m c 0 t) (iblk m c 1 t) (iblk m c 2 t) (iblk m c 3 t) (iblk m c 4 t),
        scrA c (grid0.coords t) (hs0_0 t) (hs0_1 t) (hs0_2 t) (hs0_3 t) (hs0_4 t) (hs0_5 t) (hs0_6 t) (Memref.isWhole_whole cc0_scratch0) ((hcond t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- At a second column block, over what the point before left. -/
theorem after_B (c : Dev nD) (t : Fin cfg0.N) (h0 : ¬t.val % 2 = 0) :
    after m c t.val t.isLt = (outB c (grid0.coords t) (hs0_0 t) (hs0_1 t) (hs0_2 t) (hs0_3 t) (hs0_4 t) (hs0_5 t) (hs0_6 t) (Memref.isWhole_whole cc0_scratch0) (fun h => h0 ((hcond t).mp h)) (iblk m c 0 t) (iblk m c 1 t) (iblk m c 2 t) (iblk m c 3 t) (iblk m c 4 t) (after m c (t.val - 1) (Nat.lt_of_le_of_lt (Nat.sub_le _ _) t.isLt)).2.1 (after m c (t.val - 1) (Nat.lt_of_le_of_lt (Nat.sub_le _ _) t.isLt)).2.2,
        (after m c (t.val - 1) (Nat.lt_of_le_of_lt (Nat.sub_le _ _) t.isLt)).2.1, (after m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position `n`: at the start the launch's, then the scratch at what the point before left. -/
def Inv (c : Dev nD) : (n : ℕ) → n ≤ cfg0.N → sProp 𝕄
  | 0, _ => Pipeline.ΦA spec0 c
  | n + 1, hn => iprop(iprop(owns (c : Thread nD τ) scM fullShare ((after m c n hn).2.2)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) scM fullShare ((after m c n hn).2.2)) ∗ (∃ r, prngReg c r)) := rfl

theorem Inv_pos (c : Dev nD) (n : ℕ) (h : n ≤ cfg0.N) (hz : n ≠ 0) :
    Inv m c n h = iprop(iprop(owns (c : Thread nD τ) scM fullShare ((after m c (n - 1) (by omega)).2.2)) ∗ (∃ r, prngReg c r)) := by
  cases n with
  | zero => exact absurd rfl hz
  | succ n => rfl

/-! ## The proof data -/

/-- The arrays as the region finds them, each input's block kept, the results' blocks at `after`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (after m c t.val t.isLt).1
    | ⟨6, _⟩ => (after m c t.val t.isLt).2.1
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (after m c t.val t.isLt).1 := by dsimp only [dats]
theorem after0_6 (c : Dev nD) (t : Fin cfg0.N) : (dats m 0 c).after 6 t = (after m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The second result's block is stored at a row block's first column block. -/
theorem live6 (t : Fin cfg0.N) (h0 : t.val % 2 = 0) : cfg0.idle 6 (cfg0.grid.coords t) = false := by
  show (!(k0_cond1 (grid0.coords t) == 1#1)) = false
  rw [show k0_cond1 (grid0.coords t) = 1#1 from (hcond t).mpr h0]
  rfl

/-- What the region asks of it after a point is `after` everywhere: where it is not stored it is written back. -/
theorem leaves6 (c : Dev nD) (t : Fin cfg0.N) :
    owns (c : Thread nD τ) (ms0_6 t) fullShare ((dats m 0 c).after 6 t) ⊢ ((dats m 0 c).leavesExact 6 t : sProp 𝕄) := by
  unfold Dat.leavesExact
  by_cases h0 : t.val % 2 = 0
  · rw [live6 t h0]
  · have hf : (cfg0.win 6).flush t = true := (flush0_6 t).mpr (by omega)
    cases cfg0.idle 6 (cfg0.grid.coords t)
    · exact .rfl
    · rw [hf]

/-- At a second column block the second result's block still holds what the point before left in it. -/
theorem before0_6 (c : Dev nD) (t : Fin cfg0.N) (h0 : ¬t.val % 2 = 0) (d) :
    (dats m 0 c).before 6 t d = (after m c (t.val - 1) (Nat.lt_of_le_of_lt (Nat.sub_le _ _) t.isLt)).2.1 := by
  have hfl : (cfg0.win 6).flush ⟨t.val - 1, Nat.lt_of_le_of_lt (Nat.sub_le _ _) t.isLt⟩ = false := by
    rw [← Bool.not_eq_true, flush0_6]
    show ¬(t.val - 1) % 2 = 1
    omega
  rw [(dats m 0 c).before_of_pos 6 t (by omega) ((cfg0.win 6).fetch_out rfl t) d, hfl, if_neg Bool.false_ne_true]
  unfold Dat.left
  rw [live6 _ (show (t.val - 1) % 2 = 0 by omega)]
  show (dats m 0 c).kept 6 _ d = _
  unfold Dat.kept
  rw [Pipeline.fill_of_clip_none 6 _ (fun _ => rfl) d ((dats m 0 c).after 6 _), Pipeline.Window.fill_cut, after0_6]

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.succ = Inv m c (t.val + 1) t.isLt from rfl, Inv_succ]
  have hN : t.val < 32 := lt_of_lt_of_eq t.isLt (show cfg0.N = 32 from N_0)
  by_cases h0 : t.val % 2 = 0
  · by_cases hz : t.val = 0
    · rw [Inv_castSucc m c t, Inv_zero m c _ _ hz, PhiA_eq]
      rw [after_A m c t h0]
      unfold outA hidA scrA; (try dsimp only)
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) (hs0_0 t) (hs0_1 t) (hs0_2 t) (hs0_3 t) (hs0_4 t) (hs0_5 t) (hs0_6 t) (Memref.isWhole_whole cc0_scratch0) ((hcond t).mpr h0) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, ⟨%e5, H5⟩, ⟨%e6, H6⟩, ⟨%es, HS⟩⟩
      isplitl [HS Hg]
      · isplitl [HS]
        · unfold owns; iexists _; isplitr
          swap; · iexact HS
          ipureintro; exact View.read_writes_of_cover _ _ _ _ _ (scrA_cover c (grid0.coords t) (hs0_0 t) (hs0_1 t) (hs0_2 t) (hs0_3 t) (hs0_4 t) (hs0_5 t) (hs0_6 t) (Memref.isWhole_whole cc0_scratch0) _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (outA_cover c (grid0.coords t) (hs0_0 t) (hs0_1 t) (hs0_2 t) (hs0_3 t) (hs0_4 t) (hs0_5 t) (hs0_6 t) (Memref.isWhole_whole cc0_scratch0) _ _ _ _ _ _)
      unfold owns; iexists _; isplitr
      swap; · iexact H6
      ipureintro; exact View.read_writes_of_cover _ _ _ _ _ (hidA_cover c (grid0.coords t) (hs0_0 t) (hs0_1 t) (hs0_2 t) (hs0_3 t) (hs0_4 t) (hs0_5 t) (hs0_6 t) (Memref.isWhole_whole cc0_scratch0) _ _ _ _ _ _)
    · rw [Inv_castSucc m c t, Inv_pos m c _ _ hz]
      rw [after_A m c t h0]
      unfold outA hidA scrA; (try dsimp only)
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) (hs0_0 t) (hs0_1 t) (hs0_2 t) (hs0_3 t) (hs0_4 t) (hs0_5 t) (hs0_6 t) (Memref.isWhole_whole cc0_scratch0) ((hcond t).mpr h0) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexists _; iexact HS
      iintro ⟨H0, H1, H2, H3, H4, ⟨%e5, H5⟩, ⟨%e6, H6⟩, ⟨%es, HS⟩⟩
      isplitl [HS Hg]
      · isplitl [HS]
        · unfold owns; iexists _; isplitr
          swap; · iexact HS
          ipureintro; exact View.read_writes_of_cover _ _ _ _ _ (scrA_cover c (grid0.coords t) (hs0_0 t) (hs0_1 t) (hs0_2 t) (hs0_3 t) (hs0_4 t) (hs0_5 t) (hs0_6 t) (Memref.isWhole_whole cc0_scratch0) _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (outA_cover c (grid0.coords t) (hs0_0 t) (hs0_1 t) (hs0_2 t) (hs0_3 t) (hs0_4 t) (hs0_5 t) (hs0_6 t) (Memref.isWhole_whole cc0_scratch0) _ _ _ _ _ _)
      unfold owns; iexists _; isplitr
      swap; · iexact H6
      ipureintro; exact View.read_writes_of_cover _ _ _ _ _ (hidA_cover c (grid0.coords t) (hs0_0 t) (hs0_1 t) (hs0_2 t) (hs0_3 t) (hs0_4 t) (hs0_5 t) (hs0_6 t) (Memref.isWhole_whole cc0_scratch0) _ _ _ _ _ _)
  · by_cases hz : t.val = 0
    · exfalso; omega
    · simp only [before0_6 m c t h0]
      rw [Inv_castSucc m c t, Inv_pos m c _ _ hz]
      rw [after_B m c t h0]
      unfold outB; (try dsimp only)
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) (hs0_0 t) (hs0_1 t) (hs0_2 t) (hs0_3 t) (hs0_4 t) (hs0_5 t) (hs0_6 t) (Memref.isWhole_whole cc0_scratch0) (fun h => h0 ((hcond t).mp h)) (iblk m c 0 t) (iblk m c 1 t) (iblk m c 2 t) (iblk m c 3 t) (iblk m c 4 t) _ _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, ⟨%e5, H5⟩, H6, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (outB_cover c (grid0.coords t) (hs0_0 t) (hs0_1 t) (hs0_2 t) (hs0_3 t) (hs0_4 t) (hs0_5 t) (hs0_6 t) (Memref.isWhole_whole cc0_scratch0) _ _ _ _ _ _ _ _)
      iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => sep_mono .rfl (sep_mono .rfl (sep_mono .rfl (sep_mono .rfl
    (sep_mono .rfl (sep_mono .rfl (sep_mono .rfl (sep_mono .rfl (leaves6 m c t))))))))

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 32 := N_0; omega), PhiA_eq]
  iintro ⟨HS, Hg⟩
  isplitl [HS]
  · iexists _; iexact HS
  iexact Hg

/-! ## The run and the frame -/

set_option backward.isDefEq.respectTransparency.types false in
/-- Every fair run ends, with every array of the pipeline at what the proof data makes of it and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame, at any float values: every fair run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Kernel3Ideal.Peer

end
-- ==== Proof.PeerIn.lean ====
/- The query projection of the product-key retrieval: the norm, its modulation and the product with the query weight are
   the reference's, and so is the normed and modulated activation the kernel returns beside it. -/
module

public import proofs.«01_k».proof.Defs
public import proofs.«01_k».proof.Proof.OddIn
public import proofs.«01_k».proof.Proof.PeerFrame
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384
set_option maxHeartbeats 1000000

noncomputable section

namespace Cert.Kernel3Ideal.Peer

open Cert.Kernel3Ideal Cert.Kernel3Ideal.Gen Idealize.ShloMosaic Idealize.ShloMosaic.TcCoe Idealize.SL.Sem
open Idealize.ShloMosaic.Pipeline (Dat)
open Cert.Kernel5Ideal.In (seqOf posOf modded act)

variable (m : (ℓ : Loc nD τ sig) → Buf (Elt Ideal) ℓ) (c : Dev nD)

theorem idx0 : ∀ t : Fin grid0.N, win0_0.index t = ![t.val / 2, 0] := by decide +kernel
theorem idx1 : ∀ t : Fin grid0.N, win0_1.index t = ![0, 0] := by decide +kernel
theorem idx2 : ∀ t : Fin grid0.N, win0_2.index t = ![t.val / 16, 0, 0] := by decide +kernel
theorem idx3 : ∀ t : Fin grid0.N, win0_3.index t = ![t.val / 16, 0, 0] := by decide +kernel
theorem idx4 : ∀ t : Fin grid0.N, win0_4.index t = ![0, t.val % 2] := by decide +kernel
theorem idx5 : ∀ t : Fin grid0.N, win0_5.index t = ![t.val / 2, t.val % 2] := by decide +kernel
theorem idx6 : ∀ t : Fin grid0.N, win0_6.index t = ![t.val / 2, 0] := by decide +kernel
theorem pt_lt (t : Fin cfg0.N) : t.val < 32 := t.isLt

/-- The residual stream, the modulation, the gain and the weight, as the program is given them. -/
abbrev x (c : Dev nD) : FVec Ideal S2x8192x2048 .f32 := m ((c : Thread nD τ).loc main_arg0)
abbrev md (c : Dev nD) : FVec Ideal S2x6144 .f32 := m ((c : Thread nD τ).loc main_arg1)
abbrev g (c : Dev nD) : FVec Ideal S2048 .f32 := m ((c : Thread nD τ).loc main_arg2)
abbrev w (c : Dev nD) : FVec Ideal S2048x2048 .f32 := m ((c : Thread nD τ).loc main_arg3)

theorem pay1_apply (x : Vec Ideal S1024x2048 .f32) (g : Vec Ideal S1x2048 .f32) (sc sh : Vec Ideal S1x1x2048 .f32) (r : Fin 1024) (d : Fin 2048) :
    k0_pay1 x g sc sh (ix2 r d) = modded (fun k => x (ix2 r k)) (g (ix2 0 d)) (sc (ix3 0 0 d)) (sh (ix3 0 0 d)) d := by
  pointwise [k0_pay1]
  rfl

theorem pay2_eq (x : Vec Ideal S1024x2048 .f32) (g : Vec Ideal S1x2048 .f32) (sc sh : Vec Ideal S1x1x2048 .f32) (r : Fin 1024) (d : Fin 2048) :
    k0_pay2 x g sc sh (ix2 r d) = k0_pay1 x g sc sh (ix2 r d) := by
  pointwise [k0_pay2]

theorem pay3_apply (h : Vec Ideal S1024x2048 .bf16) (w : Vec Ideal S2048x1024 .bf16) (r : Fin 1024) (d : Fin 1024) :
    k0_pay3 h w (ix2 r d) = (∑ k : Fin 2048, h (ix2 r k) * w (ix2 k d) : EReal) := by
  pointwise [k0_pay3]

theorem iblk0 (t : Fin cfg0.N) (p : Fin 1024) (k : Fin 2048) (h) :
    iblk m c 0 t (ix2 p k) = (x m c (ix3 (seqOf ⟨t.val / 2 * 1024 + p.val, h⟩) (posOf ⟨t.val / 2 * 1024 + p.val, h⟩) k) : EReal) := by
  have e : iblk m c 0 t (ix2 p k) = V m c main_v0 (ix2 ⟨t.val / 2 * 1024 + p.val, h⟩ k) := by
    blk_ext [iblk, idx0 t]
  rw [e]
  unfold V
  after_reads_at

theorem iblk1 (t : Fin cfg0.N) (d : Fin 2048) : iblk m c 1 t (ix2 0 d) = (g m c (ix1 d) : EReal) := by
  have e : iblk m c 1 t (ix2 0 d) = V m c main_v4 (ix2 0 d) := by
    blk_ext [iblk, idx1 t]
  rw [e]
  unfold V
  after_reads_at

theorem iblk2 (t : Fin cfg0.N) (d : Fin 2048) (h) (h') :
    iblk m c 2 t (ix3 0 0 d) = (md m c (ix2 ⟨t.val / 16, h⟩ ⟨2048 + d.val, h'⟩) : EReal) := by
  have e : iblk m c 2 t (ix3 0 0 d) = V m c main_v5 (ix3 ⟨t.val / 16, h⟩ 0 d) := by
    blk_ext [iblk, idx2 t]
  rw [e]
  unfold V
  after_reads_at

theorem iblk3 (t : Fin cfg0.N) (d : Fin 2048) (h) (h') :
    iblk m c 3 t (ix3 0 0 d) = (md m c (ix2 ⟨t.val / 16, h⟩ ⟨d.val, h'⟩) : EReal) := by
  have e : iblk m c 3 t (ix3 0 0 d) = V m c main_v6 (ix3 ⟨t.val / 16, h⟩ 0 d) := by
    blk_ext [iblk, idx3 t]
  rw [e]
  unfold V
  after_reads_at

theorem iblk4 (t : Fin cfg0.N) (k : Fin 2048) (d : Fin 1024) (h) :
    iblk m c 4 t (ix2 k d) = (w m c (ix2 k ⟨t.val % 2 * 1024 + d.val, h⟩) : EReal) := by
  have e : iblk m c 4 t (ix2 k d) = V m c main_v3 (ix2 k ⟨t.val % 2 * 1024 + d.val, h⟩) := by
    blk_ext [iblk, idx4 t]
  rw [e]
  unfold V
  after_reads_at

/-- The first product of a block of rows norms them. -/
theorem first (t : Fin cfg0.N) (p : Fin 1024) (k : Fin 2048) (h) :
    k0_pay1 (iblk m c 0 t) (iblk m c 1 t) (iblk m c 2 t) (iblk m c 3 t) (ix2 p k)
      = act (x m c) (md m c) (g m c) ⟨t.val / 2 * 1024 + p.val, h⟩ k := by
  have ht := pt_lt t
  have hs : seqOf ⟨t.val / 2 * 1024 + p.val, h⟩ = ⟨t.val / 16, by omega⟩ := Fin.ext (by
    show (t.val / 2 * 1024 + p.val) / 8192 = t.val / 16
    omega)
  rw [pay1_apply, iblk1, iblk2 m c t k (by omega) (by omega), iblk3 m c t k (by omega) (by omega), act]
  simp only [iblk0 m c t p _ h, hs]

/-- After every point the second result's block and the scratch hold the row block's normed and modulated rows. -/
theorem hidden (n : ℕ) : ∀ (hn : n < cfg0.N) (p : Fin 1024) (k : Fin 2048) (h : n / 2 * 1024 + p.val < 16384),
    (after m c n hn).2.1 (ix2 p k) = act (x m c) (md m c) (g m c) ⟨n / 2 * 1024 + p.val, h⟩ k
    ∧ (after m c n hn).2.2 (ix2 p k) = act (x m c) (md m c) (g m c) ⟨n / 2 * 1024 + p.val, h⟩ k := by
  have even : ∀ (t : Fin cfg0.N) (_ : t.val % 2 = 0) (p : Fin 1024) (k : Fin 2048) (h : t.val / 2 * 1024 + p.val < 16384),
      (after m c t.val t.isLt).2.1 (ix2 p k) = act (x m c) (md m c) (g m c) ⟨t.val / 2 * 1024 + p.val, h⟩ k
      ∧ (after m c t.val t.isLt).2.2 (ix2 p k) = act (x m c) (md m c) (g m c) ⟨t.val / 2 * 1024 + p.val, h⟩ k := by
    intro t h2 p k h
    rw [after_A m c t h2]
    constructor
    · unfold hidA
      frame_out
      exact first m c t p k h
    · unfold scrA
      frame_out
      exact (pay2_eq _ _ _ _ p k).trans (first m c t p k h)
  induction n with
  | zero => exact fun hn p k h => even ⟨0, hn⟩ rfl p k h
  | succ n ih =>
    intro hn p k h
    by_cases h2 : (n + 1) % 2 = 0
    · exact even ⟨n + 1, hn⟩ h2 p k h
    · rw [show after m c (n + 1) hn = _ from after_B m c ⟨n + 1, hn⟩ h2]
      have e : n / 2 = (n + 1) / 2 := by omega
      have := ih (Nat.lt_of_succ_lt hn) p k (by omega)
      simp only [e] at this
      exact this

/-- Every point's block of the first result. -/
theorem block (t : Fin cfg0.N) (p : Fin 1024) (d : Fin 1024) (h) (h') :
    (after m c t.val t.isLt).1 (ix2 p d)
      = (∑ k : Fin 2048, act (x m c) (md m c) (g m c) ⟨t.val / 2 * 1024 + p.val, h⟩ k * w m c (ix2 k ⟨t.val % 2 * 1024 + d.val, h'⟩) : EReal) := by
  by_cases h2 : t.val % 2 = 0
  · rw [after_A m c t h2]
    unfold outA
    frame_out
    rw [pay3_apply]
    simp only [pay2_eq, first m c t p _ h, iblk4 m c t _ d h']
  · rw [after_B m c t h2]
    unfold outB
    frame_out
    rw [pay3_apply]
    have e : (t.val - 1) / 2 = t.val / 2 := by omega
    have hs := fun k => (hidden m c (t.val - 1) (Nat.lt_of_le_of_lt (Nat.sub_le _ _) t.isLt) p k (by omega)).2
    simp only [e] at hs
    erw [Memref.IsWhole.read_unread]
    simp only [hs, iblk4 m c t _ d h']

/-- The two results: the queries and the activations. -/
def query (c : Dev nD) : FVec Ideal S16384x2048 .bf16 := fun i =>
  (∑ k : Fin 2048, act (x m c) (md m c) (g m c) (i 0) k * w m c (ix2 k (i 1)) : EReal)
def acts (c : Dev nD) : FVec Ideal S16384x2048 .bf16 := fun i => act (x m c) (md m c) (g m c) (i 0) (i 1)

theorem arr_query : (dats m 0 c).arrAt 5 cfg0.N = query m c := by
  refine (dats m 0 c).arrAt_eq_of_covers 5 _ (by decide +kernel) fun t _ y => ?_
  blk_simp
  have h0 := pt_lt t
  rw [after0_5]
  idx_vars y
  have he : ((View.whole main_v7_0).slice (win0_5.rect t)).emb (ix2 y0 y1)
      = ix2 ⟨t.val / 2 * 1024 + y0.val, by omega⟩ ⟨t.val % 2 * 1024 + y1.val, by omega⟩ := by
    blk_ext [idx5 t]
  rw [he]
  exact block m c t y0 y1 _ _

theorem arr_acts : (dats m 0 c).arrAt 6 cfg0.N = acts m c := by
  refine (dats m 0 c).arrAt_eq_of_covers 6 _ (by decide +kernel) fun t _ y => ?_
  blk_simp
  have h0 := pt_lt t
  rw [after0_6]
  idx_vars y
  have he : ((View.whole main_v7_1).slice (win0_6.rect t)).emb (ix2 y0 y1)
      = ix2 ⟨t.val / 2 * 1024 + y0.val, by omega⟩ y1 := by
    blk_ext [idx6 t]
  rw [he]
  exact (hidden m c t.val t.isLt y0 y1 _).1

end Cert.Kernel3Ideal.Peer

namespace Cert.Reference3Ideal.Peer

open Cert.Reference3Ideal Cert.Reference3Ideal.Gen Idealize.ShloMosaic Idealize.ShloMosaic.TcCoe Idealize.SL.Sem
open Cert.Kernel5Ideal.In (seqOf posOf modded)

/-- The reference's normed and modulated activations, -/
def normed (x : FVec Ideal S2x8192x2048 .f32) (md : FVec Ideal S2x6144 .f32) (g : FVec Ideal S2048 .f32) : FVec Ideal S2x8192x2048 .f32 :=
  addf (mulf (mulf (mulf x
    (broadcastInDim S2x8192x2048 ![0, 1, 2] bcast_S2x8192x1_S2x8192x2048_0_1_2 (Host.rsqrt (addf (Host.divf
      (broadcastInDim S2x8192x1 ![0, 1] bcast_S2x8192_S2x8192x1_0_1 (Host.reduceAdd (mulf x x) (constant S_ .f32 0x00000000#32) reducesTo_S2x8192x2048_S2x8192_d2 h_S_))
      (broadcastInDim S2x8192x1 ![] bcast_S_S2x8192x1 (constant S_ .f32 0x45000000#32)))
      (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 g)))
    (broadcastInDim S2x8192x2048 ![0, 1, 2] bcast_S2x1x2048_S2x8192x2048_0_1_2 (addf (broadcastInDim S2x1x2048 ![] bcast_S_S2x1x2048 (constant S_ .f32 0x3F800000#32))
      (extractStridedSlice S2x1x2048 ![0, 0, 2048] (broadcastInDim S2x1x6144 ![0, 2] bcast_S2x6144_S2x1x6144_0_2 md) slices_S2x1x6144_S2x1x2048_0_0_2048))))
    (broadcastInDim S2x8192x2048 ![0, 1, 2] bcast_S2x1x2048_S2x8192x2048_0_1_2
      (extractStridedSlice S2x1x2048 ![0, 0, 0] (broadcastInDim S2x1x6144 ![0, 2] bcast_S2x6144_S2x1x6144_0_2 md) slices_S2x1x6144_S2x1x2048_0_0_0))

theorem normed_apply (x : FVec Ideal S2x8192x2048 .f32) (md : FVec Ideal S2x6144 .f32) (g : FVec Ideal S2048 .f32)
    (b : Fin 2) (s : Fin 8192) (k : Fin 2048) :
    normed x md g (ix3 b s k) = modded (fun j => x (ix3 b s j)) (g (ix1 k)) (md (ix2 b ⟨2048 + k.val, by omega⟩)) (md (ix2 b ⟨k.val, by omega⟩)) k := by
  pointwise [normed]
  rfl

/-- as a result, -/
def acts (h : FVec Ideal S2x8192x2048 .f32) : FVec Ideal S16384x2048 .bf16 :=
  truncf .bf16 (shapeCast _ h shapeCasts_S2x8192x2048_S16384x2048) bitsLt_bf16_f32

theorem acts_apply (h : FVec Ideal S2x8192x2048 .f32) (t : Fin 16384) (d : Fin 2048) : acts h (ix2 t d) = h (ix3 (seqOf t) (posOf t) d) := by
  pointwise [acts]

/-- and its queries. -/
def query (h : FVec Ideal S2x8192x2048 .f32) (w : FVec Ideal S2048x2048 .f32) : FVec Ideal S16384x2048 .bf16 :=
  truncf .bf16 (shapeCast _ (Host.dotGeneral dot_S2x8192x2048_S2048x2048_S2x8192x2048_2_0_01_1_n_n none h w) shapeCasts_S2x8192x2048_S16384x2048) bitsLt_bf16_f32

theorem query_apply (h : FVec Ideal S2x8192x2048 .f32) (w : FVec Ideal S2048x2048 .f32) (t : Fin 16384) (d : Fin 2048) :
    query h w (ix2 t d) = (∑ k : Fin 2048, h (ix3 (seqOf t) (posOf t) k) * w (ix2 k d) : EReal) := by
  pointwise [query]

end Cert.Reference3Ideal.Peer

namespace Cert.Proof

open Idealize.ShloMosaic Idealize.ShloMosaic.TcCoe Idealize.SL.Sem

theorem peer_reference_frame : Cert.quiescent_Reference3Ideal (hReference3Ideal := Cert.Reference3Ideal.Gen.facts) :=
  fun m ρ _ => (θ_run (Cert.Reference3Ideal.defs (F := Ideal)) _ _).mono
    (fun r h => ⟨fun c => (h c).2.2, sem_eq_zero_of_no_sems (by decide) r.2⟩) (Cert.Reference3Ideal.Value.run m ρ)

/-- The two printings of the kernel are one text, so at the machine's words they are one program: their bodies agree, -/
theorem peer_body : @Cert.Kernel3.defs₀ Bits _ Cert.Kernel3.Gen.facts = @Cert.Kernel3Ideal.defs₀ Bits _ Cert.Kernel3Ideal.Gen.facts := by
  unfold Cert.Kernel3.defs₀ Cert.Kernel3Ideal.defs₀
  refine congrArg (Defs.onTc (τ := Cert.Kernel3.τ)) ?_
  funext l a
  match l, a with
  | 0, (t, s) => rfl

/-- and so do the launches around them. -/
theorem peer_defs : @Cert.Kernel3.defs Bits _ Cert.Kernel3.Gen.facts = @Cert.Kernel3Ideal.defs Bits _ Cert.Kernel3Ideal.Gen.facts := by
  unfold Cert.Kernel3.defs Cert.Kernel3Ideal.defs
  exact congrArg (Pipeline.defs (Cert.Kernel3.pcfgs (F := Bits))) peer_body

/-- The frame over the machine's words is the one proved over any float. -/
theorem peer_frame : Cert.quiescent_Kernel3 (hKernel3 := Cert.Kernel3.Gen.facts) := by
  intro m ρ _
  have h := Cert.Kernel3Ideal.Peer.frame (F := Bits) m ρ
  rw [← peer_defs] at h
  exact h

section
open Cert.Kernel3Ideal Cert.Kernel3Ideal.Gen Cert.Kernel3Ideal.Peer
variable (m : (ℓ : Loc nD τ sig) → Buf (Elt Ideal) ℓ) (c : Dev nD)

/-- The reference's activations from the kernel's arguments. -/
def peerActs : FVec Ideal Cert.Reference3Ideal.S2x8192x2048 .f32 := Cert.Reference3Ideal.Peer.normed (x m c) (md m c) (g m c)

theorem peer_acts : (dats m 0 c).arrAt 6 cfg0.N = Cert.Reference3Ideal.Peer.acts (peerActs m c) := by
  rw [arr_acts]
  funext y
  idx_vars y
  refine Eq.trans ?_ (Cert.Reference3Ideal.Peer.acts_apply _ _ _).symm
  exact (Cert.Reference3Ideal.Peer.normed_apply _ _ _ _ _ _).symm

theorem peer_query : (dats m 0 c).arrAt 5 cfg0.N = Cert.Reference3Ideal.Peer.query (peerActs m c) (w m c) := by
  rw [arr_query]
  funext y
  idx_vars y
  refine Eq.trans ?_ (Cert.Reference3Ideal.Peer.query_apply _ _ _ _).symm
  unfold peerActs
  simp only [Cert.Reference3Ideal.Peer.normed_apply]
  rfl

end

/-- From equal arguments the kernel's and the reference's query projection end with the same queries and activations. -/
theorem peer_in : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Reference3Ideal.Peer.query (peerActs m c) (Cert.Kernel3Ideal.Peer.w m c), fun c => Cert.Reference3Ideal.Peer.acts (peerActs m c), ?_, ?_⟩
  · refine (θ_run (Cert.Kernel3Ideal.defs (F := Ideal)) _ _).mono (fun r h c => ⟨((h c).1 5).trans (peer_query m c), ((h c).1 6).trans (peer_acts m c), ?_, ?_, ?_, ?_⟩) (Cert.Kernel3Ideal.Peer.run_main m g)
    · exact ((h c).2 Cert.Kernel3Ideal.main_arg0 (Pipeline.mem_restRefs_of _ (by decide) (by decide))).trans (Cert.Kernel3Ideal.Gen.V_main_arg0 m c)
    · exact ((h c).2 Cert.Kernel3Ideal.main_arg1 (Pipeline.mem_restRefs_of _ (by decide) (by decide))).trans (Cert.Kernel3Ideal.Gen.V_main_arg1 m c)
    · exact ((h c).2 Cert.Kernel3Ideal.main_arg2 (Pipeline.mem_restRefs_of _ (by decide) (by decide))).trans (Cert.Kernel3Ideal.Gen.V_main_arg2 m c)
    · exact ((h c).2 Cert.Kernel3Ideal.main_arg3 (Pipeline.mem_restRefs_of _ (by decide) (by decide))).trans (Cert.Kernel3Ideal.Gen.V_main_arg3 m c)
  · refine (θ_run (Cert.Reference3Ideal.defs (F := Ideal)) _ _).mono (fun r h c => ?_) (Cert.Reference3Ideal.Value.run m' g')
    obtain ⟨h0, h1, h2, h3⟩ := hagree c
    have hp : peerActs m c = Cert.Reference3Ideal.Peer.normed (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) := by
      rw [h0, h1, h2]
      rfl
    have hw : Cert.Kernel3Ideal.Peer.w m c = m' ((c.tc : Thread Cert.Reference3Ideal.nD Cert.Reference3Ideal.τ).loc Cert.Reference3Ideal.main_arg3) := by
      rw [h3]
    beta_reduce
    rw [hp, hw]
    exact h c

end Cert.Proof

end
-- ==== Proof.Masked.lean ====
/- A softmax over the extended reals whose rows may have no admitted key, and whose scores may be infinite: one sweep
   with a running maximum against the row taken at once. A score that is not admitted is `-∞`. The sweep works on scores
   before their scale `σ`, the row after it. No program is mentioned here. -/
module

public import proofs.«01_k».proof.Proof.Softmax
public import Idealize.ShloMosaic.PureOps.Ideal
public import Idealize.ShloMosaic.PureOps.Ideal.Laws

@[expose] public section

noncomputable section

namespace Cert.Masked

open Idealize.ShloMosaic

variable (σ : ℝ)

/-- The exponential of a scaled score. -/
def ex (x : EReal) : EReal := Ideal.exp (x * (σ : EReal))

variable {σ}

theorem ex_coe (x : ℝ) : ex σ (x : EReal) = ((Real.exp (x * σ) : ℝ) : EReal) := by
  rw [ex, ← EReal.coe_mul, Ideal.exp_coe]

theorem ex_bot (hσ : 0 < σ) : ex σ ⊥ = 0 := by
  rw [ex, EReal.bot_mul_coe_of_pos hσ]
  simp

/-- The power of two of a score times the scale over `log 2`. -/
theorem exp2_eq (hσ : 0 < σ) (x : EReal) : Ideal.exp2 (x * ((σ * (Real.log 2)⁻¹ : ℝ) : EReal)) = ex σ x := by
  have h2 : 0 < Real.log 2 := Real.log_pos (by norm_num)
  have hc : 0 < σ * (Real.log 2)⁻¹ := mul_pos hσ (inv_pos.2 h2)
  induction x with
  | bot => rw [ex_bot hσ, EReal.bot_mul_coe_of_pos hc]; simp
  | top => rw [ex, EReal.top_mul_coe_of_pos hc, EReal.top_mul_coe_of_pos hσ]; simp
  | coe x =>
    rw [ex_coe, ← EReal.coe_mul, Ideal.exp2_coe]
    change (((2 : ℝ) ^ (x * (σ * (Real.log 2)⁻¹)) : ℝ) : EReal) = _
    rw [Real.rpow_def_of_pos (by norm_num)]
    congr 2
    field_simp

/-- The maximum that is subtracted: zero where no key was admitted. -/
def safe (m : EReal) : EReal := if m = ⊥ then 0 else m

/-- No exponent is positive: the exponential is a real number between zero and one. -/
theorem ex_real (hσ : 0 < σ) {s m : EReal} (h : s ≤ m) : ∃ r : ℝ, 0 ≤ r ∧ ex σ (s - safe m) = (r : EReal) := by
  induction s with
  | bot => exact ⟨0, le_rfl, by rw [EReal.bot_sub, ex_bot hσ]; rfl⟩
  | top =>
    have : m = ⊤ := top_le_iff.1 h
    subst this
    exact ⟨0, le_rfl, by rw [safe, if_neg (by simp), EReal.sub_top, ex_bot hσ]; rfl⟩
  | coe s =>
    induction m with
    | bot => exact absurd (le_bot_iff.1 h) (EReal.coe_ne_bot s)
    | top => exact ⟨0, le_rfl, by rw [safe, if_neg (by simp), EReal.sub_top, ex_bot hσ]; rfl⟩
    | coe m => exact ⟨_, (Real.exp_pos _).le, by rw [safe, if_neg (EReal.coe_ne_bot m), ← EReal.coe_sub, ex_coe]⟩

/-- The shift from one maximum to a larger one. -/
theorem shift (hσ : 0 < σ) {s m m' : EReal} (h : s ≤ m) (h' : m ≤ m') : ex σ (m - safe m') * ex σ (s - safe m) = ex σ (s - safe m') := by
  induction s with
  | bot => rw [EReal.bot_sub, EReal.bot_sub, ex_bot hσ, mul_zero]
  | top =>
    have e1 : m = ⊤ := top_le_iff.1 h
    subst e1
    have e2 : m' = ⊤ := top_le_iff.1 h'
    subst e2
    rw [safe, if_neg (by simp), EReal.sub_top, ex_bot hσ, mul_zero]
  | coe s =>
    induction m' with
    | bot => exact absurd (le_bot_iff.1 (h.trans h')) (EReal.coe_ne_bot s)
    | top => rw [show safe ⊤ = ⊤ from if_neg (by simp), EReal.sub_top, EReal.sub_top, ex_bot hσ, zero_mul]
    | coe m' =>
      induction m with
      | bot => exact absurd (le_bot_iff.1 h) (EReal.coe_ne_bot s)
      | top => exact absurd (top_le_iff.1 h') (EReal.coe_ne_top m')
      | coe m =>
        rw [safe, safe, if_neg (EReal.coe_ne_bot m), if_neg (EReal.coe_ne_bot m'), ← EReal.coe_sub, ← EReal.coe_sub, ← EReal.coe_sub,
          ex_coe, ex_coe, ex_coe, ← EReal.coe_mul, ← Real.exp_add]
        congr 2
        ring

/-- A real factor that is not negative moves into a sum. -/
theorem mul_sum {ι : Type*} (t : Finset ι) (f : ι → EReal) (r : ℝ) (hr : 0 ≤ r) : (r : EReal) * ∑ i ∈ t, f i = ∑ i ∈ t, (r : EReal) * f i := by
  classical
  induction t using Finset.induction_on with
  | empty => simp
  | insert a t ha ih =>
    rw [Finset.sum_insert ha, Finset.sum_insert ha, EReal.left_distrib_of_nonneg_of_ne_top (EReal.coe_nonneg.2 hr) (EReal.coe_ne_top r), ih]

/-- The maximum of the first `n` scores. -/
def peak (s : ℕ → EReal) (n : ℕ) : EReal := (Finset.range n).sup s

theorem le_peak (s : ℕ → EReal) {n j : ℕ} (h : j < n) : s j ≤ peak s n := Finset.le_sup (Finset.mem_range.2 h)

/-- `n` more scores. -/
theorem peak_add (s : ℕ → EReal) (k n : ℕ) : peak s (k + n) = max (peak s k) (Finset.univ.fold max ⊥ fun j : Fin n => s (k + j.val)) := by
  apply le_antisymm
  · refine Finset.sup_le fun j hj => ?_
    have hj := Finset.mem_range.1 hj
    rcases Nat.lt_or_ge j k with h | h
    · exact le_max_of_le_left (le_peak s h)
    · refine le_max_of_le_right (Finset.le_fold_max _ |>.2 (Or.inr ⟨⟨j - k, by omega⟩, Finset.mem_univ _, ?_⟩))
      show s j ≤ s (k + (j - k))
      rw [Nat.add_sub_cancel' h]
  · refine max_le (Finset.sup_mono (Finset.range_subset_range.2 (by omega))) (Finset.fold_max_le _ |>.2 ⟨bot_le, fun j _ => ?_⟩)
    exact le_peak s (by omega)

/-- Scores that are not admitted do not change the maximum. -/
theorem peak_eq (s : ℕ → EReal) (n N : ℕ) (h : n ≤ N) (hs : ∀ j, n ≤ j → s j = ⊥) : peak s n = Finset.univ.fold max ⊥ fun j : Fin N => s j.val := by
  obtain ⟨k, rfl⟩ := Nat.exists_eq_add_of_le h
  have h0 := peak_add s 0 (n + k)
  simp only [Nat.zero_add] at h0
  rw [show peak s 0 = ⊥ from rfl, max_eq_right bot_le] at h0
  rw [← h0, peak_add]
  symm
  refine max_eq_left ?_
  refine Finset.fold_max_le _ |>.2 ⟨bot_le, fun j _ => ?_⟩
  rw [hs _ (Nat.le_add_right n _)]
  exact bot_le

/-- What a running row holds after the first `n` keys: their maximum, and over it the sum of their weights and the
    weighted sum of their values. -/
structure Run (s v : ℕ → EReal) (n : ℕ) (σ : ℝ) (m l a : EReal) : Prop where
  max : m = peak s n
  sum : l = ∑ j ∈ Finset.range n, ex σ (s j - safe m)
  acc : a = ∑ j ∈ Finset.range n, ex σ (s j - safe m) * v j

theorem run_start (s v : ℕ → EReal) : Run s v 0 σ ⊥ 0 0 := ⟨rfl, by simp, by simp⟩

/-- `n` more keys. -/
theorem run_step (hσ : 0 < σ) (s v : ℕ → EReal) (k n : ℕ) {m l a : EReal} (h : Run s v k σ m l a) {m' : EReal}
    (hm : m' = Max.max m (Finset.univ.fold Max.max ⊥ fun j : Fin n => s (k + j.val))) :
    Run s v (k + n) σ m' (ex σ (m - safe m') * l + ∑ j : Fin n, ex σ (s (k + j.val) - safe m'))
      (ex σ (m - safe m') * a + ∑ j : Fin n, ex σ (s (k + j.val) - safe m') * v (k + j.val)) := by
  have hle : m ≤ m' := hm ▸ le_max_left _ _
  obtain ⟨r, hr, hα⟩ := ex_real hσ hle
  refine ⟨by rw [hm, peak_add, h.max], ?_, ?_⟩
  · rw [Finset.sum_range_add, Finset.sum_range (fun x => ex σ (s (k + x) - safe m')), h.sum]
    congr 1
    rw [hα, mul_sum _ _ r hr]
    refine Finset.sum_congr rfl fun j hj => ?_
    rw [← hα, shift hσ (h.max ▸ le_peak s (Finset.mem_range.1 hj)) hle]
  · rw [Finset.sum_range_add, Finset.sum_range (fun x => ex σ (s (k + x) - safe m') * v (k + x)), h.acc]
    congr 1
    rw [hα, mul_sum _ _ r hr]
    refine Finset.sum_congr rfl fun j hj => ?_
    rw [← hα, ← mul_assoc, shift hσ (h.max ▸ le_peak s (Finset.mem_range.1 hj)) hle]

/-- The maximum of scaled scores is the scaled maximum. -/
theorem fold_scale (hσ : 0 < σ) {N : ℕ} (s : Fin N → EReal) :
    (Finset.univ.fold max ⊥ fun j => s j * (σ : EReal)) = (Finset.univ.fold max ⊥ s) * (σ : EReal) := by
  have hmono : Monotone fun x : EReal => x * (σ : EReal) := fun a b h => mul_le_mul_of_nonneg_right h (EReal.coe_nonneg.2 hσ.le)
  have := Finset.fold_hom (op := (max : EReal → EReal → EReal)) (op' := max) (m := fun x : EReal => x * (σ : EReal)) (s := Finset.univ) (f := s) (b := ⊥)
    (fun a b => hmono.map_max)
  rw [EReal.bot_mul_coe_of_pos hσ] at this
  exact this

/-- The row taken at once: each key's exponential over the sum of them, kept away from zero, times its value. -/
def whole {N : ℕ} (t v : Fin N → EReal) (g eps : EReal) : EReal :=
  ∑ j, v j * Ideal.div (Ideal.exp (t j - g)) (max (∑ i, Ideal.exp (t i - g)) eps)

/-- The end of the sweep is the row taken at once, whose subtracted maximum is guarded against infinities. -/
theorem run_end (hσ : 0 < σ) (s v : ℕ → EReal) (n N : ℕ) (hn : n ≤ N) (hs : ∀ j, n ≤ j → s j = ⊥) {m l a : EReal} (h : Run s v n σ m l a)
    {eps : EReal} (e : ℝ) (he : eps = (e : EReal)) (hpos : 0 < e) (g M : EReal)
    (hM : M = Finset.univ.fold max ⊥ fun j : Fin N => s j.val * (σ : EReal)) (hg : g = if max M (-M) < ⊤ then M else 0) :
    Ideal.div a (max l eps) = whole (fun j : Fin N => s j.val * (σ : EReal)) (fun j => v j.val) g eps := by
  have hMm : M = m * (σ : EReal) := by rw [hM, fold_scale hσ (fun j : Fin N => s j.val), ← peak_eq s n N hn hs, h.max]
  have hsm : ∀ j : Fin N, s j.val ≤ m := fun j => by
    rcases Nat.lt_or_ge j.val n with hj | hj
    · exact h.max ▸ le_peak s hj
    · rw [hs _ hj]; exact bot_le
  -- the sums run over the whole row
  have hl : l = ∑ j : Fin N, ex σ (s j.val - safe m) := by
    rw [h.sum, ← Finset.sum_range (fun j => ex σ (s j - safe m))]
    refine Finset.sum_subset (Finset.range_subset_range.2 hn) fun j _ hj => ?_
    rw [hs j (not_lt.1 fun hlt => hj (Finset.mem_range.2 hlt)), EReal.bot_sub, ex_bot hσ]
  have ha : a = ∑ j : Fin N, ex σ (s j.val - safe m) * v j.val := by
    rw [h.acc, ← Finset.sum_range (fun j => ex σ (s j - safe m) * v j)]
    refine Finset.sum_subset (Finset.range_subset_range.2 hn) fun j _ hj => ?_
    rw [hs j (not_lt.1 fun hlt => hj (Finset.mem_range.2 hlt)), EReal.bot_sub, ex_bot hσ, zero_mul]
  by_cases hm : m = ⊤
  · -- some score is `+∞`: both give zero
    subst hm
    have hz : ∀ j : Fin N, ex σ (s j.val - safe ⊤) = 0 := fun j => by rw [show safe ⊤ = ⊤ from if_neg (by simp), EReal.sub_top, ex_bot hσ]
    have hg0 : g = 0 := by rw [hg, hMm, EReal.top_mul_coe_of_pos hσ]; simp
    have hN : ∃ j : Fin N, s j.val = ⊤ := by
      by_contra hne
      push Not at hne
      have : peak s n < ⊤ := Finset.sup_lt_iff bot_lt_top |>.2 fun j hj => lt_top_iff_ne_top.2 (hne ⟨j, lt_of_lt_of_le (Finset.mem_range.1 hj) hn⟩)
      rw [← h.max] at this
      exact lt_irrefl _ this
    obtain ⟨j₀, hj₀⟩ := hN
    have hS : (∑ i : Fin N, Ideal.exp (s i.val * (σ : EReal) - g)) = ⊤ := by
      refine top_le_iff.1 ?_
      have h1 : Ideal.exp (s j₀.val * (σ : EReal) - g) = ⊤ := by rw [hj₀, hg0, EReal.top_mul_coe_of_pos hσ]; simp
      rw [← h1]
      refine Finset.single_le_sum (f := fun i : Fin N => Ideal.exp (s i.val * (σ : EReal) - g)) (fun i _ => ?_) (Finset.mem_univ j₀)
      generalize s i.val * (σ : EReal) - g = x
      induction x with
      | bot => simp
      | top => simp
      | coe x => rw [Ideal.exp_coe]; exact EReal.coe_nonneg.2 (Real.exp_pos x).le
    rw [whole, hS, ha, hl]
    simp only [hz, zero_mul, Finset.sum_const_zero]
    rw [he, max_eq_right (EReal.coe_nonneg.2 hpos.le), Ideal.div_coe hpos.ne', zero_mul, max_eq_left le_top]
    symm
    refine Finset.sum_eq_zero fun j _ => ?_
    rw [Ideal.div, if_neg (by simp), EReal.inv_top, mul_zero, mul_zero]
  · -- no score is `+∞`: the sums are real, and the shift is the same
    have hg' : g = safe m * (σ : EReal) := by
      rw [hg, hMm]
      induction m with
      | top => exact absurd rfl hm
      | bot => rw [EReal.bot_mul_coe_of_pos hσ, safe]; simp
      | coe m =>
        rw [safe, if_neg (EReal.coe_ne_bot m), if_pos]
        rw [← EReal.coe_mul, ← EReal.coe_neg, ← EReal.coe_strictMono.monotone.map_max]
        exact EReal.coe_lt_top _
    have hsafe : ∃ x : ℝ, safe m = (x : EReal) := by
      induction m with
      | top => exact absurd rfl hm
      | bot => exact ⟨0, by rw [safe, if_pos rfl]; rfl⟩
      | coe m => exact ⟨m, if_neg (EReal.coe_ne_bot m)⟩
    obtain ⟨x, hx⟩ := hsafe
    have hterm : ∀ j : Fin N, Ideal.exp (s j.val * (σ : EReal) - g) = ex σ (s j.val - safe m) := by
      intro j
      rw [ex, hg', hx]
      congr 1
      generalize s j.val = y
      induction y with
      | bot => rw [EReal.bot_sub, EReal.bot_mul_coe_of_pos hσ, EReal.bot_sub]
      | top => rw [EReal.top_sub_coe, EReal.top_mul_coe_of_pos hσ, ← EReal.coe_mul, EReal.top_sub_coe]
      | coe y => rw [← EReal.coe_sub, ← EReal.coe_mul, ← EReal.coe_mul, ← EReal.coe_mul, ← EReal.coe_sub]; congr 1; ring
    choose r hr0 hr using fun j : Fin N => ex_real hσ (hsm j)
    have hsum : l = ((∑ j : Fin N, r j : ℝ) : EReal) := by
      rw [hl]
      simp only [hr]
      exact Cert.Softmax.coe_sum _ _
    have hD : max l eps = ((max (∑ j : Fin N, r j) e : ℝ) : EReal) := by
      rw [hsum, he, EReal.coe_strictMono.monotone.map_max]
    have hDpos : 0 < max (∑ j : Fin N, r j) e := lt_max_of_lt_right hpos
    rw [whole]
    simp only [hterm]
    rw [← hl, hD, Ideal.div_coe hDpos.ne', ha, mul_comm, mul_sum _ _ _ (one_div_nonneg.2 hDpos.le)]
    refine Finset.sum_congr rfl fun j _ => ?_
    rw [Ideal.div_coe hDpos.ne', mul_comm (v j.val), mul_comm _ ((ex σ _) * _), mul_right_comm]

end Cert.Masked

end
-- ==== Proof.SelectedPayloads.lean ====
/- What the selected branch's arithmetic gives at an index: the stacked queries, one key block's masked scores, the running
   maximum, sum and weighted values of a row, and the last division. -/
module

public import proofs.«01_k».proof.Proof.Gen.Kernel7Ideal.Value
public import proofs.«01_k».proof.Proof.Consts
public import proofs.«01_k».proof.Proof.Masked
public import Idealize.ShloMosaic.Lib.Pipeline.ValueKit
public import Idealize.ShloMosaic.Lib.Pointwise
public import Idealize.ShloMosaic.Lib.Tactic.WordOmega

@[expose] public section

set_option maxRecDepth 16384

noncomputable section

namespace Cert.Kernel7Ideal.Sel

open Cert.Kernel7Ideal Cert.Kernel7Ideal.Gen Idealize.ShloMosaic Idealize.ShloMosaic.TcCoe Idealize.SL.Sem Cert.Masked

theorem select_ofBool {α : Type} (p : Prop) [Decidable p] (x y : α) : Scalar.select (BitVec.ofBool (decide p)) x y = if p then x else y := by
  by_cases h : p <;> simp [h, Scalar.select]

/-- The word of a key's block in its piece, by the floor division's text. -/
theorem blockWord : ∀ y : Fin 1024, Scalar.select (IntOp.andi
      (IntOp.cmpi CmpIPredicate.ne
        (IntOp.subi (BitVec.setWidth 32 (IntOp.cmpi CmpIPredicate.sgt (BitVec.ofNat 32 y.val) 0#32)) (BitVec.setWidth 32 (IntOp.cmpi CmpIPredicate.slt (BitVec.ofNat 32 y.val) 0#32)))
        (Scalar.subi (Scalar.extui (Scalar.cmpi .sgt 64#32 0#32)) (Scalar.extui (Scalar.cmpi .slt 64#32 0#32))))
      (IntOp.cmpi CmpIPredicate.ne (IntOp.remsi ArithUnit.vector (BitVec.ofNat 32 y.val) 64#32) 0#32))
    (IntOp.subi (IntOp.divsi ArithUnit.vector (BitVec.ofNat 32 y.val) 64#32) 1#32)
    (IntOp.divsi ArithUnit.vector (BitVec.ofNat 32 y.val) 64#32) = BitVec.ofNat 32 (y.val / 64) := by decide +kernel

/-- The comparison of a key's block with a block of the selection, as words. -/
theorem block_word (s : Fin 128) (d k : Nat) (hd : d < 16) (hk : k < 8) :
    IntOp.cmpi CmpIPredicate.eq (IntOp.subi (BitVec.ofNat 32 s.val) (BitVec.ofNat 32 d)) (Scalar.muli (Scf.iv 0#32 1#32 k) 16#32)
      = BitVec.ofBool (decide (s.val = 16 * k + d)) := by
  have h : ∀ (s : Fin 128) (d : Fin 16) (k : Fin 8), IntOp.cmpi CmpIPredicate.eq (IntOp.subi (BitVec.ofNat 32 s.val) (BitVec.ofNat 32 d.val)) (Scalar.muli (Scf.iv 0#32 1#32 k.val) 16#32)
      = BitVec.ofBool (decide (s.val = 16 * k.val + d.val)) := by decide +kernel
  exact h s ⟨d, hd⟩ ⟨k, hk⟩

/-- The causal comparison of a key with a query, as words. -/
theorem causal_word (j : Fin 1024) (p : Fin 128) (e k : Nat) (he : e < 64) (hk : k < 8) :
    IntOp.cmpi CmpIPredicate.sle (IntOp.subi (BitVec.ofNat 32 j.val) (BitVec.ofNat 32 p.val)) (Scalar.subi (BitVec.ofNat 32 (128 * e)) (Scalar.muli (Scf.iv 0#32 1#32 k) 1024#32))
      = BitVec.ofBool (decide (1024 * k + j.val ≤ 128 * e + p.val)) := by
  have hj := j.isLt
  have hp := p.isLt
  have h1 : (IntOp.subi (BitVec.ofNat 32 j.val) (BitVec.ofNat 32 p.val)).toInt = (j.val : Int) - p.val := by
    show (BitVec.ofNat 32 j.val - BitVec.ofNat 32 p.val).toInt = _
    rw [BitVec.toInt_sub, BitVec.toInt_ofNat', BitVec.toInt_ofNat']
    simp only [Int.bmod]
    omega
  have h2 : (Scalar.subi (BitVec.ofNat 32 (128 * e)) (Scalar.muli (Scf.iv 0#32 1#32 k) 1024#32)).toInt = (128 * e : Int) - 1024 * k := by
    have hw : ∀ k : Fin 8, Scalar.muli (Scf.iv 0#32 1#32 k.val) 1024#32 = BitVec.ofNat 32 (1024 * k.val) := by decide +kernel
    rw [hw ⟨k, hk⟩]
    show (BitVec.ofNat 32 (128 * e) - BitVec.ofNat 32 (1024 * k)).toInt = _
    rw [BitVec.toInt_sub, BitVec.toInt_ofNat', BitVec.toInt_ofNat']
    simp only [Int.bmod]
    omega
  show BitVec.ofBool (BitVec.sle _ _) = _
  rw [BitVec.sle_eq_decide, h1, h2]
  exact congrArg BitVec.ofBool (decide_eq_decide.2 (by omega))

/-- The named scale. -/
theorem named_c : Named.named (F := Ideal) κ "c" (φ := .f32) 0x3E0293EE#32 = (((11863283 / 134217728) * (Real.log 2)⁻¹ : ℝ) : EReal) :=
  IdealRules.named_const.ideal_named_scalar κ "c" _ _ rfl

/-- The selection's block less the key's block in its piece, as words. -/
def blkOff : IVec S128x1024 32 :=
  k0_pay34 (iota .tc S128x1024 32 [0] iota_S128x1024_d0_w32) (iota .tc S128x1024 32 [1] iota_S128x1024_d1_w32) 64#32 k0_pay32 k0_pay33 (Scalar.cmpi .sgt 64#32 0#32)

theorem blkOff_apply (s : Fin 128) (y : Fin 1024) : blkOff (ix2 s y) = IntOp.subi (BitVec.ofNat 32 s.val) (BitVec.ofNat 32 (y.val / 64)) := by
  rw [← blockWord y]
  pointwise [blkOff, k0_pay34, k0_pay32, k0_pay33]

theorem pay17_apply (i : grid0.Coords) (k : Fin (k0_t1_loop i).trips) (e : Nat) (he : e < 64) (hk : k.val < 8)
    (qq : FVec Ideal S1024x128 .bf16) (sel : FVec Ideal S128x128 .bf16) (K : Vec Ideal S1024x128 .bf16) (g : Fin 8) (p : Fin 128) (j : Fin 1024) :
    k0_pay17 i (BitVec.ofNat 32 (128 * e)) qq sel blkOff k0_pay35 0#32 1#32 k K (ix2 ⟨g.val * 128 + p.val, by omega⟩ j)
      = if Ideal.ofBits .f32 0x3F000000#32 < sel (ix2 p ⟨16 * k.val + j.val / 64, by omega⟩) ∧ 1024 * k.val + j.val ≤ 128 * e + p.val
        then ∑ l : Fin 128, qq (ix2 ⟨g.val * 128 + p.val, by omega⟩ l) * K (ix2 j l) else ⊥ := by
  pointwise [k0_pay17, k0_pay35]
  rw [Cert.Consts.neg_inf]
  have hsum : (∑ x : Fin 128, Scalar.select (IntOp.cmpi CmpIPredicate.eq (blkOff (ix2 x j)) (Scalar.muli (Scf.iv 0#32 1#32 k.val) 16#32)) (sel (ix2 p x)) (0 : EReal))
      = sel (ix2 p ⟨16 * k.val + j.val / 64, by omega⟩) := by
    have hj : j.val / 64 < 16 := by omega
    simp only [blkOff_apply, block_word _ _ _ hj hk, select_ofBool]
    rw [Finset.sum_eq_single ⟨16 * k.val + j.val / 64, by omega⟩ (fun x _ hx => if_neg fun h => hx (Fin.ext h)) (fun h => absurd (Finset.mem_univ _) h)]
    exact if_pos rfl
  rw [hsum, causal_word j p e k.val he hk]
  have hand : ∀ a b : Prop, ∀ (_ : Decidable a) (_ : Decidable b), IntOp.andi (BitVec.ofBool (decide a)) (BitVec.ofBool (decide b)) = BitVec.ofBool (decide (a ∧ b)) := by
    intro a b _ _
    by_cases ha : a <;> by_cases hb : b <;> simp [ha, hb, IntOp.andi]
  rw [hand, select_ofBool]

theorem pay18_apply (i : grid0.Coords) (k : Fin (k0_t1_loop i).trips) (q0 c0 c1 : BitVec 32) (qq : FVec Ideal S1024x128 .bf16) (sel : FVec Ideal S128x128 .bf16)
    (b o : IVec S128x1024 32) (m : FVec Ideal S1024x1 .f32) (K : Vec Ideal S1024x128 .bf16) (r : Fin 1024) :
    k0_pay18 i q0 qq sel b o c0 c1 k m K (ix2 r 0) = max (m (ix2 r 0)) (Finset.univ.fold max ⊥ fun j : Fin 1024 => k0_pay17 i q0 qq sel b o c0 c1 k K (ix2 r j)) := by
  pointwise [k0_pay18]
  rw [Cert.Consts.neg_inf]

theorem pay19_apply (i : grid0.Coords) (k : Fin (k0_t1_loop i).trips) (q0 c0 c1 : BitVec 32) (qq : FVec Ideal S1024x128 .bf16) (sel : FVec Ideal S128x128 .bf16)
    (b o : IVec S128x1024 32) (m : FVec Ideal S1024x1 .f32) (K : Vec Ideal S1024x128 .bf16) (r : Fin 1024) :
    k0_pay19 i q0 qq sel b o c0 c1 k m K (ix2 r 0) = safe (k0_pay18 i q0 qq sel b o c0 c1 k m K (ix2 r 0)) := by
  pointwise [k0_pay19]
  rw [Cert.Consts.neg_inf, safe]

theorem pay20_apply (i : grid0.Coords) (k : Fin (k0_t1_loop i).trips) (q0 c0 c1 : BitVec 32) (qq : FVec Ideal S1024x128 .bf16) (sel : FVec Ideal S128x128 .bf16)
    (b o : IVec S128x1024 32) (m : FVec Ideal S1024x1 .f32) (K : Vec Ideal S1024x128 .bf16) (r : Fin 1024) :
    k0_pay20 i q0 qq sel b o c0 c1 k m K (ix2 r 0) = ex (11863283 / 134217728) (m (ix2 r 0) - k0_pay19 i q0 qq sel b o c0 c1 k m K (ix2 r 0)) := by
  rw [← exp2_eq (by norm_num)]
  pointwise [k0_pay20]
  rw [named_c]
  rfl

theorem pay2_apply (l α : FVec Ideal S1024x1 .f32) (x y : FVec Ideal S1024x1024 .f32) (r : Fin 1024) :
    k0_pay2 l α x y (ix2 r 0) = α (ix2 r 0) * l (ix2 r 0) + ∑ j : Fin 1024, Ideal.exp2 (x (ix2 r j) * y (ix2 r j)) := by
  pointwise [k0_pay2, k0_pay1]
  rfl

theorem pay3_apply (a : FVec Ideal S1024x128 .f32) (V : FVec Ideal S1024x128 .bf16) (α : FVec Ideal S1024x1 .f32) (x y : FVec Ideal S1024x1024 .f32) (r : Fin 1024) (d : Fin 128) :
    k0_pay3 a V α x y (ix2 r d) = α (ix2 r 0) * a (ix2 r d) + ∑ j : Fin 1024, Ideal.exp2 (x (ix2 r j) * y (ix2 r j)) * V (ix2 j d) := by
  pointwise [k0_pay3, k0_pay1]
  rfl

theorem weight_apply (i : grid0.Coords) (k : Fin (k0_t1_loop i).trips) (q0 c0 c1 : BitVec 32) (qq : FVec Ideal S1024x128 .bf16) (sel : FVec Ideal S128x128 .bf16)
    (b o : IVec S128x1024 32) (m : FVec Ideal S1024x1 .f32) (K : Vec Ideal S1024x128 .bf16) (r j : Fin 1024) :
    Ideal.exp2 (k0_pay21 i q0 qq sel b o c0 c1 k m K (ix2 r j) * k0_pay22 (F := Ideal) (ix2 r j))
      = ex (11863283 / 134217728) (k0_pay17 i q0 qq sel b o c0 c1 k K (ix2 r j) - k0_pay19 i q0 qq sel b o c0 c1 k m K (ix2 r 0)) := by
  rw [← exp2_eq (by norm_num)]
  pointwise [k0_pay21, k0_pay22]
  rw [named_c]

theorem pay7_apply (l : FVec Ideal S1024x1 .f32) (a : FVec Ideal S1024x128 .f32) (r : Fin 1024) (d : Fin 128) :
    k0_pay7 l a (ix2 r d) = Ideal.div (a (ix2 r d)) (max (l (ix2 r 0)) (Ideal.ofBits .f32 0x0DA24260#32)) := by
  pointwise [k0_pay7]

theorem pay16_apply (V : Vec Ideal S1024x128 .bf16) (j : Fin 1024) (d : Fin 128) : k0_pay16 V (ix2 j d) = V (ix2 j d) := by
  pointwise [k0_pay16]

theorem pay31_apply (x : Vec Ideal S1x1x128x128 .bf16) (p s : Fin 128) : k0_pay31 x (ix2 p s) = x (ix4 0 0 p s) := by
  pointwise [k0_pay31]

end Cert.Kernel7Ideal.Sel

end
-- ==== Proof.SelectedQueries.lean ====
/- The selected branch's queries, stacked head above head: what the stack holds at an index. -/
module

public import proofs.«01_k».proof.Proof.Gen.Kernel7Ideal.Value
public import proofs.«01_k».proof.Proof.Consts
public import proofs.«01_k».proof.Proof.Masked
public import Idealize.ShloMosaic.Lib.Pipeline.ValueKit
public import Idealize.ShloMosaic.Lib.Pointwise
public import Idealize.ShloMosaic.Lib.Pipeline.Value

@[expose] public section

set_option maxRecDepth 16384

noncomputable section

namespace Cert.Kernel7Ideal.Sel

open Cert.Kernel7Ideal Cert.Kernel7Ideal.Gen Idealize.ShloMosaic Idealize.ShloMosaic.TcCoe Idealize.SL.Sem Cert.Masked

/-- The stacked queries: head `g`'s rows are the block's lanes from `128 g`. -/
def stacked (x : Vec Ideal S128x1024 .bf16) : FVec Ideal S1024x128 .bf16 :=
  k0_pay30 (View.ld x (Rect.unit (s := S128x1024) ![0, 0] S128x128.size inb_S128x1024_S128x128_0_0))
    (View.ld x (Rect.unit (s := S128x1024) ![0, 128] S128x128.size inb_S128x1024_S128x128_0_128))
    (View.ld x (Rect.unit (s := S128x1024) ![0, 256] S128x128.size inb_S128x1024_S128x128_0_256))
    (View.ld x (Rect.unit (s := S128x1024) ![0, 384] S128x128.size inb_S128x1024_S128x128_0_384))
    (View.ld x (Rect.unit (s := S128x1024) ![0, 512] S128x128.size inb_S128x1024_S128x128_0_512))
    (View.ld x (Rect.unit (s := S128x1024) ![0, 640] S128x128.size inb_S128x1024_S128x128_0_640))
    (View.ld x (Rect.unit (s := S128x1024) ![0, 768] S128x128.size inb_S128x1024_S128x128_0_768))
    (View.ld x (Rect.unit (s := S128x1024) ![0, 896] S128x128.size inb_S128x1024_S128x128_0_896))

/-- The eight groups of lanes that are stacked. -/
def pieces (x : Vec Ideal S128x1024 .bf16) : Fin 8 → FVec Ideal S128x128 .bf16 :=
  ![shapeCast S128x128 (View.ld x (Rect.unit (s := S128x1024) ![0, 0] S128x128.size inb_S128x1024_S128x128_0_0)) shapeCasts_S128x128_S128x128,
    shapeCast S128x128 (View.ld x (Rect.unit (s := S128x1024) ![0, 128] S128x128.size inb_S128x1024_S128x128_0_128)) shapeCasts_S128x128_S128x128,
    shapeCast S128x128 (View.ld x (Rect.unit (s := S128x1024) ![0, 256] S128x128.size inb_S128x1024_S128x128_0_256)) shapeCasts_S128x128_S128x128,
    shapeCast S128x128 (View.ld x (Rect.unit (s := S128x1024) ![0, 384] S128x128.size inb_S128x1024_S128x128_0_384)) shapeCasts_S128x128_S128x128,
    shapeCast S128x128 (View.ld x (Rect.unit (s := S128x1024) ![0, 512] S128x128.size inb_S128x1024_S128x128_0_512)) shapeCasts_S128x128_S128x128,
    shapeCast S128x128 (View.ld x (Rect.unit (s := S128x1024) ![0, 640] S128x128.size inb_S128x1024_S128x128_0_640)) shapeCasts_S128x128_S128x128,
    shapeCast S128x128 (View.ld x (Rect.unit (s := S128x1024) ![0, 768] S128x128.size inb_S128x1024_S128x128_0_768)) shapeCasts_S128x128_S128x128,
    shapeCast S128x128 (View.ld x (Rect.unit (s := S128x1024) ![0, 896] S128x128.size inb_S128x1024_S128x128_0_896)) shapeCasts_S128x128_S128x128]

theorem piece_0 (x : Vec Ideal S128x1024 .bf16) (p l : Fin 128) : pieces x 0 (ix2 p l) = x (ix2 p ⟨0 + l.val, by omega⟩) := by
  show shapeCast S128x128 (View.ld x (Rect.unit (s := S128x1024) ![0, 0] S128x128.size inb_S128x1024_S128x128_0_0)) shapeCasts_S128x128_S128x128 (ix2 p l) = _
  pointwise

theorem piece_1 (x : Vec Ideal S128x1024 .bf16) (p l : Fin 128) : pieces x 1 (ix2 p l) = x (ix2 p ⟨128 + l.val, by omega⟩) := by
  show shapeCast S128x128 (View.ld x (Rect.unit (s := S128x1024) ![0, 128] S128x128.size inb_S128x1024_S128x128_0_128)) shapeCasts_S128x128_S128x128 (ix2 p l) = _
  pointwise

theorem piece_2 (x : Vec Ideal S128x1024 .bf16) (p l : Fin 128) : pieces x 2 (ix2 p l) = x (ix2 p ⟨256 + l.val, by omega⟩) := by
  show shapeCast S128x128 (View.ld x (Rect.unit (s := S128x1024) ![0, 256] S128x128.size inb_S128x1024_S128x128_0_256)) shapeCasts_S128x128_S128x128 (ix2 p l) = _
  pointwise

theorem piece_3 (x : Vec Ideal S128x1024 .bf16) (p l : Fin 128) : pieces x 3 (ix2 p l) = x (ix2 p ⟨384 + l.val, by omega⟩) := by
  show shapeCast S128x128 (View.ld x (Rect.unit (s := S128x1024) ![0, 384] S128x128.size inb_S128x1024_S128x128_0_384)) shapeCasts_S128x128_S128x128 (ix2 p l) = _
  pointwise

theorem piece_4 (x : Vec Ideal S128x1024 .bf16) (p l : Fin 128) : pieces x 4 (ix2 p l) = x (ix2 p ⟨512 + l.val, by omega⟩) := by
  show shapeCast S128x128 (View.ld x (Rect.unit (s := S128x1024) ![0, 512] S128x128.size inb_S128x1024_S128x128_0_512)) shapeCasts_S128x128_S128x128 (ix2 p l) = _
  pointwise

theorem piece_5 (x : Vec Ideal S128x1024 .bf16) (p l : Fin 128) : pieces x 5 (ix2 p l) = x (ix2 p ⟨640 + l.val, by omega⟩) := by
  show shapeCast S128x128 (View.ld x (Rect.unit (s := S128x1024) ![0, 640] S128x128.size inb_S128x1024_S128x128_0_640)) shapeCasts_S128x128_S128x128 (ix2 p l) = _
  pointwise

theorem piece_6 (x : Vec Ideal S128x1024 .bf16) (p l : Fin 128) : pieces x 6 (ix2 p l) = x (ix2 p ⟨768 + l.val, by omega⟩) := by
  show shapeCast S128x128 (View.ld x (Rect.unit (s := S128x1024) ![0, 768] S128x128.size inb_S128x1024_S128x128_0_768)) shapeCasts_S128x128_S128x128 (ix2 p l) = _
  pointwise

theorem piece_7 (x : Vec Ideal S128x1024 .bf16) (p l : Fin 128) : pieces x 7 (ix2 p l) = x (ix2 p ⟨896 + l.val, by omega⟩) := by
  show shapeCast S128x128 (View.ld x (Rect.unit (s := S128x1024) ![0, 896] S128x128.size inb_S128x1024_S128x128_0_896)) shapeCasts_S128x128_S128x128 (ix2 p l) = _
  pointwise

theorem stacked_eq (x : Vec Ideal S128x1024 .bf16) :
    stacked x = concatenate S1024x128 0 (List.ofFn fun n : Fin 8 => (⟨S128x128, pieces x n⟩ : (s : Shape) × FVec Ideal s .bf16))
      concatenates_S128x128_S128x128_S128x128_S128x128_S128x128_S128x128_S128x128_S128x128_S1024x128_d0 := rfl

theorem stacked_piece (x : Vec Ideal S128x1024 .bf16) (g : Fin 8) (p l : Fin 128) :
    stacked x (ix2 ⟨g.val * 128 + p.val, by omega⟩ l) = pieces x g (ix2 p l) := by
  rw [stacked_eq]
  refine concatenate_ofFn_apply (t := S1024x128) (s₁ := S128x128) 0 (pieces x) _ rfl 128 rfl _ g ?_ (ix2 p l) ?_ ?_
  · show (g.val * 128 + p.val) / 128 = g.val
    omega
  · show p.val = (g.val * 128 + p.val) % 128
    omega
  · intro b hb
    match b with
    | ⟨0, _⟩ => exact absurd rfl hb
    | ⟨1, _⟩ => rfl

theorem stacked_apply (x : Vec Ideal S128x1024 .bf16) (g : Fin 8) (p l : Fin 128) :
    stacked x (ix2 ⟨g.val * 128 + p.val, by omega⟩ l) = x (ix2 p ⟨128 * g.val + l.val, by omega⟩) := by
  rw [stacked_piece]
  match g with
  | ⟨0, _⟩ => exact piece_0 x p l
  | ⟨1, _⟩ => exact piece_1 x p l
  | ⟨2, _⟩ => exact piece_2 x p l
  | ⟨3, _⟩ => exact piece_3 x p l
  | ⟨4, _⟩ => exact piece_4 x p l
  | ⟨5, _⟩ => exact piece_5 x p l
  | ⟨6, _⟩ => exact piece_6 x p l
  | ⟨7, _⟩ => exact piece_7 x p l

end Cert.Kernel7Ideal.Sel

end
-- ==== Proof.SelectedLoop.lean ====
/- The selected branch's loop over key pieces, and what one grid point writes. -/
module

public import proofs.«01_k».proof.Proof.SelectedPayloads
public import proofs.«01_k».proof.Proof.SelectedQueries

@[expose] public section

set_option maxRecDepth 16384

noncomputable section

namespace Cert.Kernel7Ideal.Sel

open Cert.Kernel7Ideal Cert.Kernel7Ideal.Gen Idealize.ShloMosaic Idealize.ShloMosaic.TcCoe Idealize.SL.Sem Cert.Masked

/-- The loop runs over the key pieces up to the one of the last query. -/
theorem trips1 (i : grid0.Coords) : (k0_t1_loop i).trips = (i 2).val / 8 + 1 := by
  have h : ∀ a : Fin 64, (k0_t1_loop (fun j => match j with | ⟨0, _⟩ => (0 : Fin 2) | ⟨1, _⟩ => (0 : Fin 2) | ⟨2, _⟩ => a)).trips = a.val / 8 + 1 := by
    decide +kernel
  exact h (i 2)

/-- The second loop, for pieces that do not divide, never runs. -/
theorem trips2 (i : grid0.Coords) : (k0_t2_loop i).trips = 0 := by
  have h : ∀ a : Fin 64, (k0_t2_loop (fun j => match j with | ⟨0, _⟩ => (0 : Fin 2) | ⟨1, _⟩ => (0 : Fin 2) | ⟨2, _⟩ => a)).trips = 0 := by
    decide +kernel
  exact h (i 2)

theorem coord2_lt (i : grid0.Coords) : (i 2).val < 64 := (i 2).isLt

theorem off1 (i : grid0.Coords) (k : Fin (k0_t1_loop i).trips) : k0_off1 i k = ![1024 * k.val, 0] := by
  have h : ∀ a : Fin 8, (Scalar.indexCast (Scalar.muli (Scf.iv (0#32) 1#32 a.val) 1024#32)).toNat = 1024 * a.val := by decide +kernel
  have hk : k.val < 8 := by have h1 := k.isLt; have h2 := trips1 i; have h3 := coord2_lt i; omega
  have h' := h ⟨k.val, hk⟩
  unfold k0_off1
  funext a
  match a with
  | ⟨0, _⟩ => exact h'
  | ⟨1, _⟩ => rfl

/-- One piece of keys or values read out of the whole array. -/
theorem ld_apply (x : Vec Ideal S8192x128 .bf16) (off : Fin 2 → Nat) (k : Nat) (ho : off = ![1024 * k, 0]) (hb : ∀ a, off a + S1024x128.size a ≤ S8192x128.size a)
    (j : Fin 1024) (l : Fin 128) (hj : 1024 * k + j.val < 8192) :
    View.ld x (Rect.unit (s := S8192x128) off S1024x128.size hb) (ix2 j l) = x (ix2 ⟨1024 * k + j.val, hj⟩ l) := by
  subst ho
  pointwise

/-- The masked score, not yet scaled, that query `p` of block `e` has in head `g` with key `j`: `-∞` where the key's block
    is not selected or the key comes after the query. -/
def score (x0 : Vec Ideal S128x1024 .bf16) (x1 : Vec Ideal S8192x128 .bf16) (x3 : Vec Ideal S1x1x128x128 .bf16) (e : Nat) (g : Fin 8) (p : Fin 128) (j : Nat) : EReal :=
  if h : j < 8192 then
    (if Ideal.ofBits .f32 0x3F000000#32 < x3 (ix4 0 0 p ⟨j / 64, by omega⟩) ∧ j ≤ 128 * e + p.val
      then ∑ l : Fin 128, x0 (ix2 p ⟨128 * g.val + l.val, by omega⟩) * x1 (ix2 ⟨j, h⟩ l) else ⊥)
  else ⊥

/-- Coordinate `d` of the value of key `j`. -/
def value (x2 : Vec Ideal S8192x128 .bf16) (d : Fin 128) (j : Nat) : EReal := if h : j < 8192 then x2 (ix2 ⟨j, h⟩ d) else 0

variable (c : Dev nD) (i : grid0.Coords) (arg3 : Memref sig .tc .vmem S128x1024 .bf16) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S1x1x128x128 .bf16) (harg6 : arg6.IsWhole) (arg7 : Memref sig .tc .vmem S128x1024 .f32) (harg7 : arg7.IsWhole)

/-- The state after `k` key pieces, from the blocks staged for a grid point. -/
abbrev st (q0 : BitVec 32) (x0 : Vec Ideal S128x1024 .bf16) (x1 x2 : Vec Ideal S8192x128 .bf16) (x3 : Vec Ideal S1x1x128x128 .bf16) (k : Nat) :
    FVec Ideal S1024x1 .f32 × FVec Ideal S1024x1 .f32 × FVec Ideal S1024x128 .f32 :=
  st_k0_t1 Variants.none c none i arg3 harg3 arg4 harg4 arg5 harg5 arg6 harg6 arg7 harg7 q0 (stacked x0) (k0_pay31 x3) blkOff k0_pay35 0#32
    (harg4.unread x1) (harg5.unread x2) (k0_pay36, k0_pay37, k0_pay38) k

/-- One more piece of keys. -/
theorem st_succ (q0 : BitVec 32) (x0 : Vec Ideal S128x1024 .bf16) (x1 x2 : Vec Ideal S8192x128 .bf16) (x3 : Vec Ideal S1x1x128x128 .bf16) (k : Fin (k0_t1_loop i).trips) :
    st c i arg3 harg3 arg4 harg4 arg5 harg5 arg6 harg6 arg7 harg7 q0 x0 x1 x2 x3 (k.val + 1)
      = let s := st c i arg3 harg3 arg4 harg4 arg5 harg5 arg6 harg6 arg7 harg7 q0 x0 x1 x2 x3 k.val
        let K := View.ld x1 (Rect.unit (s := S8192x128) (k0_off1 i k) S1024x128.size (k0_off1_inb i k))
        let V := View.ld x2 (Rect.unit (s := S8192x128) (k0_off1 i k) S1024x128.size (k0_off1_inb i k))
        let α := k0_pay20 i q0 (stacked x0) (k0_pay31 x3) blkOff k0_pay35 0#32 1#32 k s.1 K
        let d := k0_pay21 i q0 (stacked x0) (k0_pay31 x3) blkOff k0_pay35 0#32 1#32 k s.1 K
        (k0_pay18 i q0 (stacked x0) (k0_pay31 x3) blkOff k0_pay35 0#32 1#32 k s.1 K, k0_pay2 s.2.1 α d k0_pay22, k0_pay3 s.2.2 (k0_pay16 V) α d k0_pay22) := by
  unfold st
  rw [st_k0_t1_succ]
  unfold tripR_k0_t1 trip_k0_t1
  simp only []
  unfold trip_k0_t1.sl.r trip_k0_t1.sl.r_1 trip_k0_t1.sl.r_2 trip_k0_t1.sl.r_3
  simp only [View.readAt_eq_ld, harg4.read_unread, harg5.read_unread]
  try rfl

/-- After `k` key pieces a row's state stands for the first `1024 k` keys. -/
theorem st_run (e : Nat) (he : e = (i 2).val) (x0 : Vec Ideal S128x1024 .bf16) (x1 x2 : Vec Ideal S8192x128 .bf16) (x3 : Vec Ideal S1x1x128x128 .bf16)
    (g : Fin 8) (p d : Fin 128) (k : Nat) (hk : k ≤ (k0_t1_loop i).trips) :
    Run (score x0 x1 x3 e g p) (value x2 d) (1024 * k) (11863283 / 134217728)
      ((st c i arg3 harg3 arg4 harg4 arg5 harg5 arg6 harg6 arg7 harg7 (BitVec.ofNat 32 (128 * e)) x0 x1 x2 x3 k).1 (ix2 ⟨g.val * 128 + p.val, by omega⟩ 0))
      ((st c i arg3 harg3 arg4 harg4 arg5 harg5 arg6 harg6 arg7 harg7 (BitVec.ofNat 32 (128 * e)) x0 x1 x2 x3 k).2.1 (ix2 ⟨g.val * 128 + p.val, by omega⟩ 0))
      ((st c i arg3 harg3 arg4 harg4 arg5 harg5 arg6 harg6 arg7 harg7 (BitVec.ofNat 32 (128 * e)) x0 x1 x2 x3 k).2.2 (ix2 ⟨g.val * 128 + p.val, by omega⟩ d)) := by
  have h64 := coord2_lt i
  rw [← he] at h64
  induction k with
  | zero =>
    rw [show (st c i arg3 harg3 arg4 harg4 arg5 harg5 arg6 harg6 arg7 harg7 (BitVec.ofNat 32 (128 * e)) x0 x1 x2 x3 0) = (k0_pay36, k0_pay37, k0_pay38) from rfl]
    have h2 : k0_pay36 (F := Ideal) (ix2 ⟨g.val * 128 + p.val, by omega⟩ 0) = (⊥ : EReal) := by pointwise [k0_pay36]; exact Cert.Consts.neg_inf
    have h3 : k0_pay37 (F := Ideal) (ix2 ⟨g.val * 128 + p.val, by omega⟩ 0) = (0 : EReal) := by pointwise [k0_pay37]
    have h4 : k0_pay38 (F := Ideal) (ix2 ⟨g.val * 128 + p.val, by omega⟩ d) = (0 : EReal) := by pointwise [k0_pay38]
    simp only []
    rw [h2, h3, h4]
    exact run_start _ _
  | succ k ih =>
    have hlt : k < (k0_t1_loop i).trips := hk
    have h8 : k < 8 := by have h2 := trips1 i; omega
    have ih := ih hlt.le
    have hs := st_succ c i arg3 harg3 arg4 harg4 arg5 harg5 arg6 harg6 arg7 harg7 (BitVec.ofNat 32 (128 * e)) x0 x1 x2 x3 ⟨k, hlt⟩
    simp only [] at hs
    rw [hs]
    simp only []
    have hK : ∀ (j : Fin 1024), k0_pay17 i (BitVec.ofNat 32 (128 * e)) (stacked x0) (k0_pay31 x3) blkOff k0_pay35 0#32 1#32 ⟨k, hlt⟩
        (View.ld x1 (Rect.unit (s := S8192x128) (k0_off1 i ⟨k, hlt⟩) S1024x128.size (k0_off1_inb i ⟨k, hlt⟩))) (ix2 ⟨g.val * 128 + p.val, by omega⟩ j)
        = score x0 x1 x3 e g p (1024 * k + j.val) := by
      intro j
      rw [pay17_apply i ⟨k, hlt⟩ e h64 h8, score, dif_pos (by omega), pay31_apply]
      have hd : (⟨16 * k + j.val / 64, by omega⟩ : Fin 128) = ⟨(1024 * k + j.val) / 64, by omega⟩ := Fin.ext (by show 16 * k + j.val / 64 = (1024 * k + j.val) / 64; omega)
      simp only [hd]
      congr 1
      refine Finset.sum_congr rfl fun l _ => ?_
      rw [ld_apply x1 _ k (off1 i _) _ j l (by omega), stacked_apply]
    have hV : ∀ (j : Fin 1024), k0_pay16 (View.ld x2 (Rect.unit (s := S8192x128) (k0_off1 i ⟨k, hlt⟩) S1024x128.size (k0_off1_inb i ⟨k, hlt⟩))) (ix2 j d)
        = value x2 d (1024 * k + j.val) := by
      intro j
      rw [pay16_apply, ld_apply x2 _ k (off1 i _) _ j d (by omega), value, dif_pos]
    rw [pay2_apply, pay3_apply, pay20_apply, Nat.mul_succ]
    simp only [weight_apply, pay19_apply, hK, hV]
    refine run_step (by norm_num) _ _ _ _ ih ?_
    rw [pay18_apply]
    simp only [hK]

end Cert.Kernel7Ideal.Sel

end
-- ==== Proof.SelectedBlock.lean ====
/- What one grid point of the selected branch writes. -/
module

public import proofs.«01_k».proof.Proof.SelectedLoop
public import proofs.«01_k».proof.Proof.Gen.Kernel7Ideal.Value

@[expose] public section

set_option maxRecDepth 16384

noncomputable section

namespace Cert.Kernel7Ideal.Sel

open Cert.Kernel7Ideal Cert.Kernel7Ideal.Gen Idealize.ShloMosaic Idealize.ShloMosaic.TcCoe Idealize.SL.Sem Cert.Masked

/-- The normalised rows laid out again as one row per query, head beside head. -/
def unstacked (l : FVec Ideal S1024x1 .f32) (a : FVec Ideal S1024x128 .f32) (y : S128x1024.Idx) : EReal :=
  k0_pay7 l a (ix2 ⟨(y 1).val / 128 * 128 + (y 0).val, by have h1 : (y 1).val < 1024 := (y 1).isLt; have h0 : (y 0).val < 128 := (y 0).isLt; omega⟩
    ⟨(y 1).val % 128, by omega⟩)

/-- The eight stores together write the unstacked rows. -/
theorem canon_eq (l : FVec Ideal S1024x1 .f32) (a : FVec Ideal S1024x128 .f32) (y : S128x1024.Idx) :
    View.canon (Val := Elt Ideal) (e := .f32)
      [⟨Rect.unit (s := S128x1024) ![0, 896] ![128, 128] inb_S128x1024_S128x128_0_896, k0_pay15 l a⟩,
        ⟨Rect.unit (s := S128x1024) ![0, 768] ![128, 128] inb_S128x1024_S128x128_0_768, k0_pay14 l a⟩,
        ⟨Rect.unit (s := S128x1024) ![0, 640] ![128, 128] inb_S128x1024_S128x128_0_640, k0_pay13 l a⟩,
        ⟨Rect.unit (s := S128x1024) ![0, 512] ![128, 128] inb_S128x1024_S128x128_0_512, k0_pay12 l a⟩,
        ⟨Rect.unit (s := S128x1024) ![0, 384] ![128, 128] inb_S128x1024_S128x128_0_384, k0_pay11 l a⟩,
        ⟨Rect.unit (s := S128x1024) ![0, 256] ![128, 128] inb_S128x1024_S128x128_0_256, k0_pay10 l a⟩,
        ⟨Rect.unit (s := S128x1024) ![0, 128] ![128, 128] inb_S128x1024_S128x128_0_128, k0_pay9 l a⟩,
        ⟨Rect.unit (s := S128x1024) ![0, 0] ![128, 128] inb_S128x1024_S128x128_0_0, k0_pay8 l a⟩] y = unstacked l a y := by
  refine View.canon_apply_of_pieces (Val := Elt Ideal) (e := .f32) (S := S128x1024) (unstacked l a) _ ?_ y (View.cover_of_tiled _ ![128, 128] rfl y)
  simp only [List.mem_cons, List.not_mem_nil, or_false, forall_eq_or_imp, forall_eq]
  have key : ∀ (o : Nat) (ho : o < 8) (off : Fin 2 → Nat) (hoff : off = ![0, 128 * o]) (hb : ∀ a, off a + (![128, 128] : Fin 2 → Nat) a ≤ S128x1024.size a)
      (x : (Rect.unit (s := S128x1024) off ![128, 128] hb).shape.Idx) (u v : Fin 128), x = ix2 u v →
      unstacked l a ((Rect.unit (s := S128x1024) off ![128, 128] hb).emb x) = k0_pay7 l a (ix2 ⟨o * 128 + u.val, by omega⟩ v) := by
    intro o ho off hoff hb x u v hx
    subst hoff hx
    have e0 : ((Rect.unit (s := S128x1024) ![0, 128 * o] ![128, 128] hb).emb (ix2 u v) 0).val = u.val := by
      rw [Rect.emb_apply]; show 0 + 1 * u.val = u.val; omega
    have e1 : ((Rect.unit (s := S128x1024) ![0, 128 * o] ![128, 128] hb).emb (ix2 u v) 1).val = 128 * o + v.val := by
      rw [Rect.emb_apply]; show 128 * o + 1 * v.val = _; omega
    unfold unstacked
    congr 1
    congr 1
    · exact Fin.ext (by show _ / 128 * 128 + _ = o * 128 + u.val; rw [e0, e1]; have := v.isLt; omega)
    · exact Fin.ext (by show _ % 128 = v.val; rw [e1]; have := v.isLt; omega)
  refine ⟨?_, ?_, ?_, ?_, ?_, ?_, ?_, ?_⟩ <;> intro x <;> idx_vars x
  · rw [key 7 (by norm_num) _ rfl _ _ x0 x1 rfl]; pointwise [k0_pay15]
  · rw [key 6 (by norm_num) _ rfl _ _ x0 x1 rfl]; pointwise [k0_pay14]
  · rw [key 5 (by norm_num) _ rfl _ _ x0 x1 rfl]; pointwise [k0_pay13]
  · rw [key 4 (by norm_num) _ rfl _ _ x0 x1 rfl]; pointwise [k0_pay12]
  · rw [key 3 (by norm_num) _ rfl _ _ x0 x1 rfl]; pointwise [k0_pay11]
  · rw [key 2 (by norm_num) _ rfl _ _ x0 x1 rfl]; pointwise [k0_pay10]
  · rw [key 1 (by norm_num) _ rfl _ _ x0 x1 rfl]; pointwise [k0_pay9]
  · rw [key 0 (by norm_num) _ rfl _ _ x0 x1 rfl]; pointwise [k0_pay8]

variable (c : Dev nD) (i : grid0.Coords) (arg3 : Memref sig .tc .vmem S128x1024 .bf16) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S1x1x128x128 .bf16) (harg6 : arg6.IsWhole) (arg7 : Memref sig .tc .vmem S128x1024 .f32) (harg7 : arg7.IsWhole)

/-- The written block over the state that the loop leaves. -/
theorem out_eq (x0 : Vec Ideal S128x1024 .bf16) (x1 x2 : Vec Ideal S8192x128 .bf16) (x3 : Vec Ideal S1x1x128x128 .bf16) (y : S128x1024.Idx) :
    out0_A_4 (F := Ideal) c i arg3 harg3 arg4 harg4 arg5 harg5 arg6 harg6 arg7 harg7 x0 x1 x2 x3 y
      = let s := st c i arg3 harg3 arg4 harg4 arg5 harg5 arg6 harg6 arg7 harg7 (BitVec.ofNat 32 (128 * (i 2).val)) x0 x1 x2 x3 ((i 2).val / 8 + 1)
        unstacked s.2.1 s.2.2 y := by
  have key : ∃ (q0 w : BitVec 32) (n1 n2 : Nat), q0 = BitVec.ofNat 32 (128 * (i 2).val) ∧ n1 = (i 2).val / 8 + 1 ∧ n2 = 0 ∧
      out0_A_4 (F := Ideal) c i arg3 harg3 arg4 harg4 arg5 harg5 arg6 harg6 arg7 harg7 x0 x1 x2 x3 y
        = let s1 := st c i arg3 harg3 arg4 harg4 arg5 harg5 arg6 harg6 arg7 harg7 q0 x0 x1 x2 x3 n1
          let s := st_k0_t2 Variants.none c none i arg3 harg3 arg4 harg4 arg5 harg5 arg6 harg6 arg7 harg7 q0 (stacked x0) (k0_pay31 x3) blkOff k0_pay35 w
            (harg4.unread x1) (harg5.unread x2) s1 n2
          unstacked s.2.1 s.2.2 y := by
    frame_out
    rw [canon_eq]
    refine ⟨_, _, _, _, ?_, ?_, ?_, rfl⟩
    · clear x0 x1 x2 x3
      generalize i 2 = a
      revert a
      change ∀ a : Fin 64, _
      decide +kernel
    · exact trips1 i
    · exact trips2 i
  obtain ⟨q0, w, n1, n2, rfl, rfl, rfl, h⟩ := key
  exact h

/-- The floor under a row's sum is a positive number. -/
theorem floor_pos : ∃ e : ℝ, Ideal.ofBits .f32 0x0DA24260#32 = (e : EReal) ∧ 0 < e := by
  refine ⟨10633824 * 2 ^ (-123 : ℤ), ?_, by positivity⟩
  simp [Ideal.ofBits, Ideal.ieee, -EReal.coe_mul]

/-- What a grid point writes for head `g` of query `p`: the attention over the keys that are in selected blocks and not
    after the query. -/
theorem out_apply (x0 : Vec Ideal S128x1024 .bf16) (x1 x2 : Vec Ideal S8192x128 .bf16) (x3 : Vec Ideal S1x1x128x128 .bf16) (p d : Fin 128) (g : Fin 8)
    (G M : EReal) (hM : M = Finset.univ.fold max ⊥ fun j : Fin 8192 => score x0 x1 x3 (i 2).val g p j.val * ((11863283 / 134217728 : ℝ) : EReal))
    (hG : G = if max M (-M) < ⊤ then M else 0) :
    out0_A_4 (F := Ideal) c i arg3 harg3 arg4 harg4 arg5 harg5 arg6 harg6 arg7 harg7 x0 x1 x2 x3 (ix2 p ⟨128 * g.val + d.val, by omega⟩)
      = Masked.whole (fun j : Fin 8192 => score x0 x1 x3 (i 2).val g p j.val * ((11863283 / 134217728 : ℝ) : EReal)) (fun j => value x2 d j.val) G
          (Ideal.ofBits .f32 0x0DA24260#32) := by
  have h64 := coord2_lt i
  rw [out_eq]
  simp only []
  unfold unstacked
  have e0 : (⟨(128 * g.val + d.val) / 128 * 128 + p.val, by omega⟩ : Fin 1024) = ⟨g.val * 128 + p.val, by omega⟩ := Fin.ext (by show _ / 128 * 128 + _ = g.val * 128 + p.val; omega)
  have e1 : (⟨(128 * g.val + d.val) % 128, by omega⟩ : Fin 128) = d := Fin.ext (by show _ % 128 = d.val; omega)
  show k0_pay7 _ _ (ix2 (⟨(128 * g.val + d.val) / 128 * 128 + p.val, _⟩ : Fin 1024) (⟨(128 * g.val + d.val) % 128, _⟩ : Fin 128)) = _
  rw [e0, e1, pay7_apply]
  obtain ⟨e, he, hp⟩ := floor_pos
  have run := st_run c i arg3 harg3 arg4 harg4 arg5 harg5 arg6 harg6 arg7 harg7 _ rfl x0 x1 x2 x3 g p d ((i 2).val / 8 + 1) (by rw [trips1])
  refine run_end (by norm_num) _ _ _ 8192 (by omega) (fun j hj => ?_) run _ he hp G M hM hG
  unfold score
  split
  · rw [if_neg]
    rintro ⟨_, h⟩
    have := p.isLt
    omega
  · rfl

end Cert.Kernel7Ideal.Sel

end
-- ==== Proof.SelectedRef.lean ====
/- The selected branch's reference read off stage by stage: the scores, the mask, the softmax with its guards and the
   weighted sum of the values. Each stage is read at an index; `res_eq` says that the reference's result is the stages one
   after the other, and `result_apply` gives it at a position as the guarded masked softmax. -/
module

public import proofs.«01_k».proof.Proof.Gen.Reference7Ideal.Run
public import proofs.«01_k».proof.Proof.Consts
public import proofs.«01_k».proof.Proof.Masked
public import Idealize.ShloMosaic.Lib.Pointwise
public import Idealize.ShloMosaic.Lib.Tactic.CleanTypes
public import Idealize.ShloMosaic.Lib.Tactic.WordOmega

@[expose] public section

set_option maxRecDepth 16384

noncomputable section

namespace Cert.Reference7Ideal.Sel

open Cert.Reference7Ideal Cert.Reference7Ideal.Gen Cert.Reference7Ideal.Value Idealize.ShloMosaic Idealize.ShloMosaic.TcCoe Idealize.SL.Sem

/-- Scaled scores `[batch, query, group, head, key]`. -/
def scores (q : FVec Ideal S16384x2048 .f32) (k : FVec Ideal S16384x256 .f32) : FVec Ideal S2x8192x2x8x8192 .f32 :=
  mulf (transpose S2x8192x2x8x8192 [0, 3, 1, 4, 2] (Host.dotGeneral dot_S2x8192x2x128_S2x8192x2x8x128_S2x2x8192x8192x8_3_4_1_13_02_02 none
      (shapeCast S2x8192x2x128 k shapeCasts_S16384x256_S2x8192x2x128) (shapeCast S2x8192x2x8x128 q shapeCasts_S16384x2048_S2x8192x2x8x128))
      transposes_S2x2x8192x8192x8_S2x8192x2x8x8192_0_3_1_4_2)
    (broadcastInDim S2x8192x2x8x8192 ![] bcast_S_S2x8192x2x8x8192 (constant S_ .f32 0x3DB504F3#32))

/-- Which keys lie in a selected block, `[batch, query, group, 1, key]`. -/
def picked (x : FVec Ideal S2x2x8192x128 .f32) : IVec S2x8192x2x1x8192 1 :=
  broadcastInDim S2x8192x2x1x8192 ![0, 1, 2, 4] bcast_S2x8192x2x8192_S2x8192x2x1x8192_0_1_2_4
    (transpose S2x8192x2x8192 [0, 2, 1, 3] (shapeCast S2x2x8192x8192 (broadcastInDim S2x2x8192x128x64 ![0, 1, 2, 3] bcast_S2x2x8192x128_S2x2x8192x128x64_0_1_2_3
      (cmpf .ogt x (broadcastInDim S2x2x8192x128 ![] bcast_S_S2x2x8192x128 (constant S_ .f32 0x3F000000#32)))) shapeCasts_S2x2x8192x128x64_S2x2x8192x8192)
      transposes_S2x2x8192x8192_S2x8192x2x8192_0_2_1_3)

/-- Which keys do not come after the query. -/
def causal : IVec S2x8192x2x1x8192 1 :=
  broadcastInDim S2x8192x2x1x8192 ![0, 1, 2, 3, 4] bcast_S1x8192x1x1x8192_S2x8192x2x1x8192_0_1_2_3_4
    (broadcastInDim S1x8192x1x1x8192 ![1, 4] bcast_S8192x8192_S1x8192x1x1x8192_1_4
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))

/-- Scores with every key at `-∞` that is not selected or comes after the query. -/
def masked (x : FVec Ideal S2x2x8192x128 .f32) (s : FVec Ideal S2x8192x2x8x8192 .f32) : FVec Ideal S2x8192x2x8x8192 .f32 :=
  select (broadcastInDim S2x8192x2x8x8192 ![0, 1, 2, 3, 4] bcast_S2x8192x2x1x8192_S2x8192x2x8x8192_0_1_2_3_4 (andi (picked x) causal)) s
    (broadcastInDim S2x8192x2x8x8192 ![] bcast_S_S2x8192x2x8x8192 (id (constant S_ .f32 0xFF800000#32)))

/-- Each row's largest score. -/
def rowMax (s : FVec Ideal S2x8192x2x8x8192 .f32) : FVec Ideal S2x8192x2x8x1 .f32 :=
  broadcastInDim S2x8192x2x8x1 ![0, 1, 2, 3] bcast_S2x8192x2x8_S2x8192x2x8x1_0_1_2_3
    (Host.reduce FloatOps.maximumf s (constant S_ .f32 0xFF800000#32) reducesTo_S2x8192x2x8x8192_S2x8192x2x8_d4 h_S_)

/-- The largest score where it is finite, zero elsewhere. -/
def guarded (x : FVec Ideal S2x8192x2x8x1 .f32) : FVec Ideal S2x8192x2x8x1 .f32 :=
  select (cmpf .olt (Host.absf x) (broadcastInDim S2x8192x2x8x1 ![] bcast_S_S2x8192x2x8x1 (constant S_ .f32 0x7F800000#32))) x
    (broadcastInDim S2x8192x2x8x1 ![] bcast_S_S2x8192x2x8x1 (id (constant S_ .f32 0x00000000#32)))

/-- The exponentials of the scores taken off the guarded maximum. -/
def expo (s : FVec Ideal S2x8192x2x8x8192 .f32) (x : FVec Ideal S2x8192x2x8x1 .f32) : FVec Ideal S2x8192x2x8x8192 .f32 :=
  Host.exp (subf s (broadcastInDim S2x8192x2x8x8192 ![0, 1, 2, 3, 4] bcast_S2x8192x2x8x1_S2x8192x2x8x8192_0_1_2_3_4 x))

/-- Each row divided by its sum, the sum kept above a small floor. -/
def normed (e : FVec Ideal S2x8192x2x8x8192 .f32) : FVec Ideal S2x8192x2x8x8192 .f32 :=
  Host.divf e (broadcastInDim S2x8192x2x8x8192 ![0, 1, 2, 3, 4] bcast_S2x8192x2x8x1_S2x8192x2x8x8192_0_1_2_3_4
    (maximumf (broadcastInDim S2x8192x2x8x1 ![0, 1, 2, 3] bcast_S2x8192x2x8_S2x8192x2x8x1_0_1_2_3
        (Host.reduceAdd e (constant S_ .f32 0x00000000#32) reducesTo_S2x8192x2x8x8192_S2x8192x2x8_d4 h_S_))
      (broadcastInDim S2x8192x2x8x1 ![] bcast_S_S2x8192x2x8x1 (constant S_ .f32 0x0DA24260#32))))

/-- The weighted sum of the values, one row per token. -/
def summed (v : FVec Ideal S16384x256 .f32) (a : FVec Ideal S2x8192x2x8x8192 .f32) : FVec Ideal S16384x2048 .f32 :=
  shapeCast S16384x2048 (transpose S2x8192x2x8x128 [0, 3, 1, 4, 2]
    (Host.dotGeneral dot_S2x8192x2x128_S2x8192x2x8x8192_S2x2x128x8192x8_1_4_3_13_02_02 none (shapeCast S2x8192x2x128 v shapeCasts_S16384x256_S2x8192x2x128) a)
    transposes_S2x2x128x8192x8_S2x8192x2x8x128_0_3_1_4_2) shapeCasts_S2x8192x2x8x128_S16384x2048

/-- The whole reference. -/
def result (q : FVec Ideal S16384x2048 .f32) (k v : FVec Ideal S16384x256 .f32) (x : FVec Ideal S2x2x8192x128 .f32) : FVec Ideal S16384x2048 .f32 :=
  summed v (normed (expo (masked x (scores q k)) (guarded (rowMax (masked x (scores q k))))))

theorem res_eq (m : (ℓ : Loc nD τ sig) → Buf (Elt Ideal) ℓ) (c : Dev nD) :
    res_out0 m c = result (m ((c.tc : Thread nD τ).loc main_arg0)) (m ((c.tc : Thread nD τ).loc main_arg1)) (m ((c.tc : Thread nD τ).loc main_arg2))
      (m ((c.tc : Thread nD τ).loc main_arg3)) := by
  unfold res_out0 res_main_v41
  rfl

theorem scores_apply (q : FVec Ideal S16384x2048 .f32) (k : FVec Ideal S16384x256 .f32) (b h : Fin 2) (g : Fin 8) (t j : Fin 8192) :
    scores q k (ix5 b t h g j) = (∑ l : Fin 128, k (ix2 ⟨b.val * 8192 + j.val, by omega⟩ ⟨h.val * 128 + l.val, by omega⟩)
      * q (ix2 ⟨b.val * 8192 + t.val, by omega⟩ ⟨h.val * 1024 + g.val * 128 + l.val, by omega⟩)) * Ideal.ofBits .f32 0x3DB504F3#32 := by
  pointwise [scores]

theorem picked_apply (x : FVec Ideal S2x2x8192x128 .f32) (b h : Fin 2) (t j : Fin 8192) :
    picked x (ix5 b t h 0 j) = BitVec.ofBool (decide (Ideal.ofBits .f32 0x3F000000#32 < x (ix4 b h t ⟨j.val / 64, by omega⟩))) := by
  pointwise [picked]

theorem causal_apply (b h : Fin 2) (t j : Fin 8192) : causal (ix5 b t h 0 j) = BitVec.ofBool (decide (j.val ≤ t.val)) := by
  pointwise [causal]
  word_omega

theorem masked_apply (x : FVec Ideal S2x2x8192x128 .f32) (s : FVec Ideal S2x8192x2x8x8192 .f32) (b h : Fin 2) (g : Fin 8) (t j : Fin 8192) :
    masked x s (ix5 b t h g j)
      = if Ideal.ofBits .f32 0x3F000000#32 < x (ix4 b h t ⟨j.val / 64, by omega⟩) ∧ j.val ≤ t.val then s (ix5 b t h g j) else ⊥ := by
  pointwise [masked]
  have hb : (id (constant (F := Ideal) S_ .f32 4286578688#32) ix0 : EReal) = ⊥ := Consts.neg_inf
  rw [hb, picked_apply, causal_apply]
  by_cases h1 : Ideal.ofBits .f32 0x3F000000#32 < x (ix4 b h t ⟨j.val / 64, by omega⟩) <;> by_cases h2 : j.val ≤ t.val <;>
    simp [h1, h2, Scalar.select, IntOp.andi]

theorem rowMax_apply (s : FVec Ideal S2x8192x2x8x8192 .f32) (b h : Fin 2) (g : Fin 8) (t : Fin 8192) :
    rowMax s (ix5 b t h g 0) = Finset.univ.fold max ⊥ fun k : Fin 8192 => s (ix5 b t h g k) := by
  pointwise [rowMax]
  rw [Consts.neg_inf]

theorem guarded_apply (x : FVec Ideal S2x8192x2x8x1 .f32) (b h : Fin 2) (g : Fin 8) (t : Fin 8192) :
    guarded x (ix5 b t h g 0) = if max (x (ix5 b t h g 0)) (-x (ix5 b t h g 0)) < ⊤ then x (ix5 b t h g 0) else 0 := by
  pointwise [guarded]
  have h0 : (id (constant (F := Ideal) S_ .f32 0#32) ix0 : EReal) = 0 := by
    show Ideal.ofBits .f32 0#32 = 0
    simp [Ideal.ofBits, Ideal.ieee]
  rw [Consts.pos_inf, h0]
  rfl

theorem expo_apply (s : FVec Ideal S2x8192x2x8x8192 .f32) (x : FVec Ideal S2x8192x2x8x1 .f32) (b h : Fin 2) (g : Fin 8) (t j : Fin 8192) :
    expo s x (ix5 b t h g j) = Ideal.exp (s (ix5 b t h g j) - x (ix5 b t h g 0)) := by
  pointwise [expo]

theorem normed_apply (e : FVec Ideal S2x8192x2x8x8192 .f32) (b h : Fin 2) (g : Fin 8) (t j : Fin 8192) :
    normed e (ix5 b t h g j) = Ideal.div (e (ix5 b t h g j)) (max (∑ k : Fin 8192, e (ix5 b t h g k)) (Ideal.ofBits .f32 0x0DA24260#32)) := by
  pointwise [normed]

theorem summed_apply (v : FVec Ideal S16384x256 .f32) (a : FVec Ideal S2x8192x2x8x8192 .f32) (b h : Fin 2) (g : Fin 8) (t : Fin 8192) (d : Fin 128) :
    summed v a (ix2 ⟨b.val * 8192 + t.val, by omega⟩ ⟨(h.val * 8 + g.val) * 128 + d.val, by omega⟩)
      = ∑ j : Fin 8192, v (ix2 ⟨b.val * 8192 + j.val, by omega⟩ ⟨h.val * 128 + d.val, by omega⟩) * a (ix5 b t h g j) := by
  pointwise [summed]

/-- The reference's result at a position, as the guarded softmax over a row of masked scores. -/
theorem result_apply (q : FVec Ideal S16384x2048 .f32) (k v : FVec Ideal S16384x256 .f32) (x : FVec Ideal S2x2x8192x128 .f32) (b h : Fin 2) (g : Fin 8) (t : Fin 8192) (d : Fin 128) :
    ∃ G M : EReal, M = Finset.univ.fold max ⊥ (fun j : Fin 8192 => masked x (scores q k) (ix5 b t h g j)) ∧ G = (if max M (-M) < ⊤ then M else 0) ∧
    result q k v x (ix2 ⟨b.val * 8192 + t.val, by omega⟩ ⟨(h.val * 8 + g.val) * 128 + d.val, by omega⟩)
      = Masked.whole (fun j : Fin 8192 => masked x (scores q k) (ix5 b t h g j))
        (fun j : Fin 8192 => v (ix2 ⟨b.val * 8192 + j.val, by omega⟩ ⟨h.val * 128 + d.val, by omega⟩)) G (Ideal.ofBits .f32 0x0DA24260#32) := by
  refine ⟨_, _, rfl, rfl, ?_⟩
  unfold result Masked.whole
  rw [summed_apply]
  simp only [normed_apply, expo_apply, guarded_apply, rowMax_apply]

end Cert.Reference7Ideal.Sel

end
-- ==== Proof.SelectedArray.lean ====
/- The selected branch's whole result: the blocks staged at a grid point as entries of the arguments, what it writes against
   the reference's value there, and the blocks together covering the array. -/
module

public import proofs.«01_k».proof.Proof.SelectedBlock
public import proofs.«01_k».proof.Proof.SelectedRef
public import Idealize.ShloMosaic.Lib.Pipeline.ValueKit
public import Idealize.ShloMosaic.Lib.StableHlo.ReadAt

@[expose] public section

set_option maxRecDepth 16384
set_option maxHeartbeats 1000000

noncomputable section

namespace Cert.Kernel7Ideal.Sel

open Cert.Kernel7Ideal Cert.Kernel7Ideal.Gen Idealize.ShloMosaic Idealize.ShloMosaic.TcCoe Idealize.SL.Sem
open Idealize.ShloMosaic.Pipeline (Dat)

theorem idx0 : ∀ t : Fin grid0.N, win0_0.index t = ![64 * (grid0.coords t 0).val + (grid0.coords t 2).val, (grid0.coords t 1).val] := by decide +kernel
theorem idx1 : ∀ t : Fin grid0.N, win0_1.index t = ![(grid0.coords t 0).val, (grid0.coords t 1).val] := by decide +kernel
theorem idx2 : ∀ t : Fin grid0.N, win0_2.index t = ![(grid0.coords t 0).val, (grid0.coords t 1).val] := by decide +kernel
theorem idx3 : ∀ t : Fin grid0.N, win0_3.index t = ![(grid0.coords t 0).val, (grid0.coords t 1).val, (grid0.coords t 2).val, 0] := by decide +kernel
theorem idx4 : ∀ t : Fin grid0.N, win0_4.index t = ![64 * (grid0.coords t 0).val + (grid0.coords t 2).val, (grid0.coords t 1).val] := by decide +kernel

variable (m : (ℓ : Loc nD τ sig) → Buf (Elt Ideal) ℓ) (c : Dev nD)

/-- The four arguments: queries, keys, values, and the indicator of the selected blocks. -/
abbrev argQ : FVec Ideal S16384x2048 .f32 := m ((c : Thread nD τ).loc main_arg0)
abbrev argK : FVec Ideal S16384x256 .f32 := m ((c : Thread nD τ).loc main_arg1)
abbrev argV : FVec Ideal S16384x256 .f32 := m ((c : Thread nD τ).loc main_arg2)
abbrev argX : FVec Ideal S2x2x8192x128 .f32 := m ((c : Thread nD τ).loc main_arg3)

theorem v0_entry (t : Fin 16384) (x : Fin 2048) : V m c main_v0 (ix2 t x) = (argQ m c (ix2 t x) : EReal) := by
  unfold V
  after_reads_at

theorem v1_entry (t : Fin 16384) (x : Fin 256) : V m c main_v1 (ix2 t x) = (argK m c (ix2 t x) : EReal) := by
  unfold V
  after_reads_at

theorem v2_entry (t : Fin 16384) (x : Fin 256) : V m c main_v2 (ix2 t x) = (argV m c (ix2 t x) : EReal) := by
  unfold V
  after_reads_at

theorem v3_entry (b h : Fin 2) (t : Fin 8192) (x : Fin 128) : V m c main_v3 (ix4 b h t x) = (argX m c (ix4 b h t x) : EReal) := by
  unfold V
  after_reads_at

theorem coord0_lt (t : Fin cfg0.N) : (grid0.coords t 0).val < 2 := (grid0.coords t 0).isLt
theorem coord1_lt (t : Fin cfg0.N) : (grid0.coords t 1).val < 2 := (grid0.coords t 1).isLt

theorem iblk0 (t : Fin cfg0.N) (p : Fin 128) (l : Fin 1024) (h1) (h2) :
    iblk m c 0 t (ix2 p l) = V m c main_v0 (ix2 ⟨(grid0.coords t 0).val * 8192 + (128 * (grid0.coords t 2).val + p.val), h1⟩ ⟨(grid0.coords t 1).val * 1024 + l.val, h2⟩) := by
  blk_ext [iblk, idx0 t]

theorem iblk1 (t : Fin cfg0.N) (r : Fin 8192) (l : Fin 128) (h1) (h2) :
    iblk m c 1 t (ix2 r l) = V m c main_v1 (ix2 ⟨(grid0.coords t 0).val * 8192 + r.val, h1⟩ ⟨(grid0.coords t 1).val * 128 + l.val, h2⟩) := by
  blk_ext [iblk, idx1 t]

theorem iblk2 (t : Fin cfg0.N) (r : Fin 8192) (l : Fin 128) (h1) (h2) :
    iblk m c 2 t (ix2 r l) = V m c main_v2 (ix2 ⟨(grid0.coords t 0).val * 8192 + r.val, h1⟩ ⟨(grid0.coords t 1).val * 128 + l.val, h2⟩) := by
  blk_ext [iblk, idx2 t]

theorem iblk3 (t : Fin cfg0.N) (p s : Fin 128) (h0) (h1) (h2) :
    iblk m c 3 t (ix4 0 0 p s) = V m c main_v3 (ix4 ⟨(grid0.coords t 0).val, h0⟩ ⟨(grid0.coords t 1).val, h1⟩ ⟨128 * (grid0.coords t 2).val + p.val, h2⟩ s) := by
  blk_ext [iblk, idx3 t]

/-- The rounded scale of the scores. -/
theorem scale : Ideal.ofBits .f32 0x3DB504F3#32 = ((11863283 / 134217728 : ℝ) : EReal) := by
  simp [Ideal.ofBits, Ideal.ieee, -EReal.coe_mul]
  norm_num

/-- A grid point's masked scores, scaled, are the reference's. -/
theorem score_eq (t : Fin cfg0.N) (g : Fin 8) (p : Fin 128) (j : Fin 8192) (hb) (hh) (ht) :
    score (iblk m c 0 t) (iblk m c 1 t) (iblk m c 3 t) (grid0.coords t 2).val g p j.val * ((11863283 / 134217728 : ℝ) : EReal)
      = Cert.Reference7Ideal.Sel.masked (argX m c) (Cert.Reference7Ideal.Sel.scores (argQ m c) (argK m c))
          (ix5 ⟨(grid0.coords t 0).val, hb⟩ ⟨128 * (grid0.coords t 2).val + p.val, ht⟩ ⟨(grid0.coords t 1).val, hh⟩ g j) := by
  rw [Cert.Reference7Ideal.Sel.masked_apply, Cert.Reference7Ideal.Sel.scores_apply, scale]
  unfold score
  rw [dif_pos j.isLt, iblk3 m c t p _ hb hh ht, v3_entry]
  split
  · congr 1
    refine Finset.sum_congr rfl fun l _ => ?_
    rw [iblk0 m c t p _ (by omega) (by show _ + (128 * g.val + l.val) < 2048; omega), iblk1 m c t j l (by omega) (by omega), v0_entry, v1_entry, mul_comm]
    refine congrArg₂ (· * ·) rfl (congrArg (fun x => (argQ m c (ix2 _ x) : EReal)) (Fin.ext ?_))
    show (grid0.coords t 1).val * 1024 + (128 * g.val + l.val) = (grid0.coords t 1).val * 1024 + g.val * 128 + l.val
    omega
  · exact EReal.bot_mul_coe_of_pos (by norm_num)

/-- The kernel's result is the reference's. -/
theorem arr_eq : (dats m 0 c).arrAt 4 cfg0.N = Cert.Reference7Ideal.Sel.result (argQ m c) (argK m c) (argV m c) (argX m c) := by
  refine (dats m 0 c).arrAt_eq_of_covers 4 _ (by decide +kernel) fun t hf y => ?_
  blk_simp
  have h0 := coord0_lt t
  have h1 := coord1_lt t
  have h2 := coord2_lt (grid0.coords t)
  rw [after0_4]
  idx_vars y
  obtain ⟨g, d, rfl⟩ : ∃ (g : Fin 8) (d : Fin 128), y1 = ⟨128 * g.val + d.val, by omega⟩ :=
    ⟨⟨y1.val / 128, by omega⟩, ⟨y1.val % 128, by omega⟩, Fin.ext (by show y1.val = 128 * (y1.val / 128) + y1.val % 128; omega)⟩
  have he : ((View.whole main_v4).slice (win0_4.rect t)).emb (ix2 y0 ⟨128 * g.val + d.val, by omega⟩)
      = ix2 ⟨(⟨_, h0⟩ : Fin 2).val * 8192 + (⟨128 * (grid0.coords t 2).val + y0.val, by omega⟩ : Fin 8192).val, by omega⟩
          ⟨((⟨_, h1⟩ : Fin 2).val * 8 + g.val) * 128 + d.val, by omega⟩ := by
    blk_ext [idx4 t]
  rw [he]
  obtain ⟨G, M, hM, hG, hr⟩ := Cert.Reference7Ideal.Sel.result_apply (argQ m c) (argK m c) (argV m c) (argX m c) ⟨_, h0⟩ ⟨_, h1⟩ g
    ⟨128 * (grid0.coords t 2).val + y0.val, by omega⟩ d
  refine Eq.trans ?_ hr.symm
  unfold outsAt0
  have hs := fun j : Fin 8192 => score_eq m c t g y0 j h0 h1 (by omega)
  rw [out_apply c _ _ _ _ _ _ _ _ _ _ _ _ _ _ _ y0 d g G M (by simp only [hs]; exact hM) hG]
  simp only [hs]
  congr 1
  funext j
  rw [value, dif_pos j.isLt, iblk2 m c t j d (by omega) (by omega), v2_entry]

end Cert.Kernel7Ideal.Sel

end
-- ==== Proof.Selected.lean ====
/- The sparse attention's selected branch: the frames, and its result against the reference's. -/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.SelectedArray

@[expose] public section

noncomputable section

namespace Cert.Proof

open Idealize.ShloMosaic Idealize.SL.Sem

/-- The selected branch's reference runs, leaves its arguments and ends with every semaphore at zero. -/
theorem selected_reference_frame : Cert.quiescent_Reference7Ideal (hReference7Ideal := Cert.Reference7Ideal.Gen.facts) :=
  fun m ρ _ => (θ_run (Cert.Reference7Ideal.defs (F := Ideal)) _ _).mono
    (fun r h => ⟨fun c => (h c).2, sem_eq_zero_of_no_sems (by decide) r.2⟩) (Cert.Reference7Ideal.Value.run m ρ)

/-- The kernel's scale in powers of two is the reference's rounded scale over `log 2`. -/
theorem selected_scale : Cert.preserves_Kernel7_Kernel7Ideal :=
  IdealRules.named_const.statement Cert.Kernel7Ideal.κ "c" .f32 0x3E0293EE#32 (((11863283 / 134217728) * (Real.log 2)⁻¹ : ℝ) : EReal) rfl

/-- From equal arguments the selected branch and its reference end with the same array. -/
theorem selected : Cert.algebraic_Kernel7Ideal_Reference7Ideal (hKernel7Ideal := Cert.Kernel7Ideal.Gen.facts)
    (hReference7Ideal := Cert.Reference7Ideal.Gen.facts) := by
  intro m g m' g' _ hagree
  refine ⟨fun c => Cert.Reference7Ideal.Sel.result (Cert.Kernel7Ideal.Sel.argQ m c) (Cert.Kernel7Ideal.Sel.argK m c)
      (Cert.Kernel7Ideal.Sel.argV m c) (Cert.Kernel7Ideal.Sel.argX m c), ?_, ?_⟩
  · exact (θ_run (Cert.Kernel7Ideal.defs (F := Ideal)) _ _).mono (fun r h c => ⟨(h c).1.trans (Cert.Kernel7Ideal.Sel.arr_eq m c), (h c).2⟩)
      (Cert.Kernel7Ideal.Value.run_blocks m g)
  · refine (θ_run (Cert.Reference7Ideal.defs (F := Ideal)) _ _).mono (fun r h c => ⟨(h c).1.trans ?_, (h c).2⟩) (Cert.Reference7Ideal.Value.run m' g')
    obtain ⟨h0, h1, h2, h3⟩ := hagree c
    beta_reduce
    rw [show Cert.Kernel7Ideal.Sel.argQ m c = _ from h0.symm, show Cert.Kernel7Ideal.Sel.argK m c = _ from h1.symm,
      show Cert.Kernel7Ideal.Sel.argV m c = _ from h2.symm, show Cert.Kernel7Ideal.Sel.argX m c = _ from h3.symm]
    exact Cert.Reference7Ideal.Sel.res_eq m' c

end Cert.Proof

end
-- ==== Proof.WindowMath.lean ====
/- A softmax over a window of keys, taken at once with its largest score, against the softmax over all keys with the
   others masked. No program is mentioned here. -/
module

public import proofs.«01_k».proof.Proof.Masked

@[expose] public section

noncomputable section

namespace Cert.Masked

open Idealize.ShloMosaic

variable {σ : ℝ}

/-- Masked keys leave a running row as it began. -/
theorem run_skip (hσ : 0 < σ) (s v : ℕ → EReal) (k : ℕ) (hs : ∀ j, j < k → s j = ⊥) : Run s v k σ ⊥ 0 0 := by
  have hz : ∀ j ∈ Finset.range k, ex σ (s j - safe ⊥) = 0 := fun j hj => by rw [hs j (Finset.mem_range.1 hj), EReal.bot_sub, ex_bot hσ]
  refine ⟨?_, ?_, ?_⟩
  · symm
    rw [← le_bot_iff]
    exact Finset.sup_le fun j hj => (hs j (Finset.mem_range.1 hj)).le
  · exact (Finset.sum_eq_zero hz).symm
  · exact (Finset.sum_eq_zero fun j hj => by rw [hz j hj, zero_mul]).symm

/-- A window of `n` keys after `k` masked ones, with real scores among them and none infinite: the quotient of its weighted
    values by its weights is the guarded softmax of the whole row. -/
theorem window_end (hσ : 0 < σ) (s v : ℕ → EReal) (k n N : ℕ) (hn : k + n ≤ N) (hb : ∀ j, j < k → s j = ⊥) (ha : ∀ j, k + n ≤ j → s j = ⊥)
    (ht : ∀ j, s j ≠ ⊤) (hr : ∃ j : Fin n, s (k + j.val) ≠ ⊥) {m : EReal} (hm : m = Finset.univ.fold max ⊥ fun j : Fin n => s (k + j.val))
    {eps : EReal} (e : ℝ) (he : eps = (e : EReal)) (hpos : 0 < e) (hle : e ≤ 1) (g M : EReal)
    (hM : M = Finset.univ.fold max ⊥ fun j : Fin N => s j.val * (σ : EReal)) (hg : g = if max M (-M) < ⊤ then M else 0) :
    Ideal.div (∑ j : Fin n, ex σ (s (k + j.val) - m) * v (k + j.val)) (∑ j : Fin n, ex σ (s (k + j.val) - m))
      = whole (fun j : Fin N => s j.val * (σ : EReal)) (fun j => v j.val) g eps := by
  have hup : ∀ j : Fin n, s (k + j.val) ≤ m := fun j => hm ▸ (Finset.le_fold_max _ |>.2 (Or.inr ⟨j, Finset.mem_univ _, le_rfl⟩))
  have hbot : m ≠ ⊥ := by
    obtain ⟨j, hj⟩ := hr
    exact fun h => hj (le_bot_iff.1 (h ▸ hup j))
  have hsafe : safe m = m := if_neg hbot
  have run := run_step hσ s v k n (run_skip hσ s v k hb) (m' := m) (by rw [hm, max_eq_right bot_le])
  rw [hsafe, mul_zero, zero_add, zero_add] at run
  -- the largest score is one of them, so its weight is one
  obtain ⟨j₀, hj₀⟩ : ∃ j : Fin n, s (k + j.val) = m := by
    by_contra hne
    push Not at hne
    have : m < m := by
      conv_lhs => rw [hm]
      exact Finset.fold_max_lt _ |>.2 ⟨bot_lt_iff_ne_bot.2 hbot, fun j _ => lt_of_le_of_ne (hup j) (hne j)⟩
    exact lt_irrefl _ this
  have hone : ex σ (s (k + j₀.val) - m) = 1 := by
    have htop : m ≠ ⊤ := hj₀ ▸ ht _
    rw [hj₀]
    lift m to ℝ using ⟨htop, hbot⟩
    rw [← EReal.coe_sub, sub_self, ex_coe, zero_mul, Real.exp_zero]
    rfl
  have hsum : (1 : EReal) ≤ ∑ j : Fin n, ex σ (s (k + j.val) - m) := by
    rw [← hone]
    refine Finset.single_le_sum (f := fun j : Fin n => ex σ (s (k + j.val) - m)) (fun j _ => ?_) (Finset.mem_univ j₀)
    obtain ⟨r, hr0, hr⟩ := ex_real hσ (hup j)
    rw [hsafe] at hr
    simp only [hr]
    exact EReal.coe_nonneg.2 hr0
  have hmax : max (∑ j : Fin n, ex σ (s (k + j.val) - m)) eps = ∑ j : Fin n, ex σ (s (k + j.val) - m) := by
    refine max_eq_left (le_trans ?_ hsum)
    rw [he]
    exact_mod_cast hle
  rw [← run_end hσ s v (k + n) N hn ha run e he hpos g M hM hg, hmax]

end Cert.Masked

end
-- ==== Proof.WindowQueries.lean ====
/- The window branch's arithmetic at an index: the stacked queries, the scores with their mask, and the softmax over the
   span of keys. -/
module

public import proofs.«01_k».proof.Proof.Gen.Kernel8Ideal.Value
public import proofs.«01_k».proof.Proof.Consts
public import proofs.«01_k».proof.Proof.WindowMath
public import Idealize.ShloMosaic.Lib.Pipeline.ValueKit
public import Idealize.ShloMosaic.Lib.Pointwise
public import Idealize.ShloMosaic.Lib.Pipeline.Value

@[expose] public section

set_option maxRecDepth 16384

noncomputable section

namespace Cert.Kernel8Ideal.Win

open Cert.Kernel8Ideal Cert.Kernel8Ideal.Gen Idealize.ShloMosaic Idealize.ShloMosaic.TcCoe Idealize.SL.Sem Cert.Masked

theorem inb (g : Fin 8) : ∀ a, (![0, 128 * g.val] : Fin 2 → Nat) a + S256x128.size a ≤ S256x1024.size a
  | ⟨0, _⟩ => by show 0 + 256 ≤ 256; omega
  | ⟨1, _⟩ => by show 128 * g.val + 128 ≤ 1024; omega

/-- Head `g`'s lanes of a block of queries. -/
def piece (x : Vec Ideal S256x1024 .bf16) (g : Fin 8) : FVec Ideal S256x128 .bf16 :=
  shapeCast S256x128 (View.ld x (Rect.unit (s := S256x1024) ![0, 128 * g.val] S256x128.size (inb g))) shapeCasts_S256x128_S256x128

theorem piece_apply (x : Vec Ideal S256x1024 .bf16) (g : Fin 8) (p : Fin 256) (l : Fin 128) :
    piece x g (ix2 p l) = x (ix2 p ⟨128 * g.val + l.val, by omega⟩) := by
  pointwise [piece]

/-- The queries of a block, the heads one above the other. -/
def stacked (x : Vec Ideal S256x1024 .bf16) : FVec Ideal S2048x128 .bf16 :=
  concatenate S2048x128 0 (List.ofFn fun n : Fin 8 => (⟨S256x128, piece x n⟩ : (s : Shape) × FVec Ideal s .bf16))
    concatenates_S256x128_S256x128_S256x128_S256x128_S256x128_S256x128_S256x128_S256x128_S2048x128_d0

theorem stacked_apply (x : Vec Ideal S256x1024 .bf16) (g : Fin 8) (p : Fin 256) (l : Fin 128) :
    stacked x (ix2 ⟨g.val * 256 + p.val, by omega⟩ l) = x (ix2 p ⟨128 * g.val + l.val, by omega⟩) := by
  refine Eq.trans ?_ (piece_apply x g p l)
  refine concatenate_ofFn_apply (t := S2048x128) (s₁ := S256x128) 0 (piece x) _ rfl 256 rfl _ g ?_ (ix2 p l) ?_ ?_
  · show (g.val * 256 + p.val) / 256 = g.val
    omega
  · show p.val = (g.val * 256 + p.val) % 256
    omega
  · intro b hb
    match b with
    | ⟨0, _⟩ => exact absurd rfl hb
    | ⟨1, _⟩ => rfl

/-- The products of the stacked queries with a span of keys. -/
def products (q : FVec Ideal S2048x128 .bf16) (K : Vec Ideal S768x128 .bf16) : FVec Ideal S2048x768 .f32 :=
  matmul dot_S2048x128_S768x128_S2048x768_1_1_0_0_n_n none q (shapeCast S768x128 K shapeCasts_S768x128_S768x128 : FVec Ideal S768x128 .bf16) (constant S2048x768 .f32 0x00000000#32)

theorem pay7_eq (x : Vec Ideal S256x1024 .bf16) (K : Vec Ideal S768x128 .bf16) :
    k0_pay7 (View.ld x (Rect.unit (s := S256x1024) ![0, 0] S256x128.size inb_S256x1024_S256x128_0_0))
      (View.ld x (Rect.unit (s := S256x1024) ![0, 128] S256x128.size inb_S256x1024_S256x128_0_128))
      (View.ld x (Rect.unit (s := S256x1024) ![0, 256] S256x128.size inb_S256x1024_S256x128_0_256))
      (View.ld x (Rect.unit (s := S256x1024) ![0, 384] S256x128.size inb_S256x1024_S256x128_0_384))
      (View.ld x (Rect.unit (s := S256x1024) ![0, 512] S256x128.size inb_S256x1024_S256x128_0_512))
      (View.ld x (Rect.unit (s := S256x1024) ![0, 640] S256x128.size inb_S256x1024_S256x128_0_640))
      (View.ld x (Rect.unit (s := S256x1024) ![0, 768] S256x128.size inb_S256x1024_S256x128_0_768))
      (View.ld x (Rect.unit (s := S256x1024) ![0, 896] S256x128.size inb_S256x1024_S256x128_0_896)) K = products (stacked x) K := rfl

theorem products_apply (q : FVec Ideal S2048x128 .bf16) (K : Vec Ideal S768x128 .bf16) (r : Fin 2048) (j : Fin 768) :
    products q K (ix2 r j) = ∑ l : Fin 128, q (ix2 r l) * K (ix2 j l) := by
  pointwise [products]

theorem pay6_apply (V : Vec Ideal S768x128 .bf16) (j : Fin 768) (d : Fin 128) : k0_pay6 V (ix2 j d) = V (ix2 j d) := by
  pointwise [k0_pay6]

/-- A row's query within its block, by the remainder's text. -/
def rowWord (v30 : BitVec 32) : IVec S2048x768 32 :=
  have a := remsi (iota .tc S2048x768 32 [0] iota_S2048x768_d0_w32) k0_pay8
  select (andi (xori (cmpi .slt a (broadcast S2048x768 0#32))
      (broadcastTo S2048x768 (broadcast S2048x768 (Scalar.cmpi .slt v30 0#32)) broadcasts_S2048x768_S2048x768)) (cmpi .ne a (broadcast S2048x768 0#32)))
    (addi a (broadcast S2048x768 v30)) a

/-- How far a key lies before its query. -/
def rel (v0 v3 v30 : BitVec 32) : IVec S2048x768 32 :=
  subi (addi (broadcast S2048x768 (Scalar.subi v0 v3)) (rowWord v30)) (iota .tc S2048x768 32 [1] iota_S2048x768_d1_w32)

/-- The scores with the keys outside the window at `-∞`. -/
def masked (w : IVec S2048x768 32) (s : FVec Ideal S2048x768 .f32) : FVec Ideal S2048x768 .f32 :=
  select (andi (cmpi .sge w (broadcast S2048x768 0#32)) (cmpi .slt w (broadcast S2048x768 512#32))) s
    (broadcast S2048x768 (Scalar.ofBits .f32 0xFF800000#32))

/-- The largest score of each row. -/
def top (s : FVec Ideal S2048x768 .f32) : FVec Ideal S2048x1 .f32 :=
  shapeCast S2048x1 (multiReduction .maximumf [1] S2048 s 0xFF800000#32 reduces_S2048x768_S2048 (.inl rfl) rfl) shapeCasts_S2048_S2048x1

/-- The weights of each row. -/
def weights (s : FVec Ideal S2048x768 .f32) (m : FVec Ideal S2048x1 .f32) : FVec Ideal S2048x768 .f32 :=
  exp2 (mulf (subf s (broadcastTo S2048x768 m broadcasts_S2048x1_S2048x768)) (broadcast S2048x768 (Named.named κ "c" 0x3E0293EE#32)))

/-- The weighted values over the sum of the weights. -/
def quotient (V : FVec Ideal S768x128 .bf16) (p : FVec Ideal S2048x768 .f32) : FVec Ideal S2048x128 .f32 :=
  divf (matmul dot_S2048x768_S768x128_S2048x128_1_0_0_1_n_n none (truncf .bf16 p bitsLt_bf16_f32) V (constant S2048x128 .f32 0x00000000#32))
    (broadcastTo S2048x128 (shapeCast S2048x1 (multiReduction .add [1] S2048 p 0x00000000#32 reduces_S2048x768_S2048 (.inl rfl) rfl) shapeCasts_S2048_S2048x1)
      broadcasts_S2048x1_S2048x128)

theorem pay9_eq (v0 v3 v30 : BitVec 32) (V : FVec Ideal S768x128 .bf16) (s : FVec Ideal S2048x768 .f32) :
    k0_pay9 v0 v3 V s (iota .tc S2048x768 32 [0] iota_S2048x768_d0_w32) v30 k0_pay8
      = quotient V (weights (masked (rel v0 v3 v30) s) (top (masked (rel v0 v3 v30) s))) := rfl

/-- The remainder of a row number. -/
theorem row_word : ∀ r : Fin 2048, Scalar.select (IntOp.andi
      (IntOp.xori (IntOp.cmpi CmpIPredicate.slt (IntOp.remsi ArithUnit.vector (BitVec.ofNat 32 r.val) 256#32) 0#32) (Scalar.cmpi .slt 256#32 0#32))
      (IntOp.cmpi CmpIPredicate.ne (IntOp.remsi ArithUnit.vector (BitVec.ofNat 32 r.val) 256#32) 0#32))
    (IntOp.addi (IntOp.remsi ArithUnit.vector (BitVec.ofNat 32 r.val) 256#32) 256#32)
    (IntOp.remsi ArithUnit.vector (BitVec.ofNat 32 r.val) 256#32) = BitVec.ofNat 32 (r.val % 256) := by decide +kernel

theorem rowWord_apply (r : Fin 2048) (j : Fin 768) : rowWord 256#32 (ix2 r j) = BitVec.ofNat 32 (r.val % 256) := by
  rw [← row_word r]
  pointwise [rowWord, k0_pay8]
  rw [show Scalar.select (Scalar.cmpi CmpIPredicate.eq 256#32 0#32) 1#32 256#32 = 256#32 by decide]

theorem rel_apply (e : Nat) (he : e < 32) (g : Fin 8) (p : Fin 256) (j : Fin 768) :
    rel (BitVec.ofNat 32 (256 * e)) (BitVec.ofNat 32 (256 * (e - 2))) 256#32 (ix2 ⟨g.val * 256 + p.val, by omega⟩ j)
      = BitVec.ofNat 32 (256 * e - 256 * (e - 2)) + BitVec.ofNat 32 p.val - BitVec.ofNat 32 j.val := by
  have h : ∀ e : Fin 32, Scalar.subi (BitVec.ofNat 32 (256 * e.val)) (BitVec.ofNat 32 (256 * (e.val - 2))) = BitVec.ofNat 32 (256 * e.val - 256 * (e.val - 2)) := by
    decide +kernel
  have h' := h ⟨e, he⟩
  simp only [] at h'
  have hp : (g.val * 256 + p.val) % 256 = p.val := by omega
  pointwise [rel]
  rw [rowWord_apply, h', hp]
  rfl

theorem masked_apply (e : Nat) (he : e < 32) (s : FVec Ideal S2048x768 .f32) (g : Fin 8) (p : Fin 256) (j : Fin 768) :
    masked (rel (BitVec.ofNat 32 (256 * e)) (BitVec.ofNat 32 (256 * (e - 2))) 256#32) s (ix2 ⟨g.val * 256 + p.val, by omega⟩ j)
      = if 256 * (e - 2) + j.val ≤ 256 * e + p.val ∧ 256 * e + p.val < 256 * (e - 2) + j.val + 512 then s (ix2 ⟨g.val * 256 + p.val, by omega⟩ j) else ⊥ := by
  have hj := j.isLt
  have hp := p.isLt
  have hi : (BitVec.ofNat 32 (256 * e - 256 * (e - 2)) + BitVec.ofNat 32 p.val - BitVec.ofNat 32 j.val).toInt
      = ((256 * e - 256 * (e - 2) : Nat) : Int) + p.val - j.val := by
    generalize hL : 256 * e - 256 * (e - 2) = L
    have hL' : L ≤ 512 := by omega
    rw [← BitVec.ofNat_add, BitVec.toInt_sub, BitVec.toInt_ofNat', BitVec.toInt_ofNat']
    simp only [Int.bmod]
    omega
  have h1 : IntOp.cmpi CmpIPredicate.sge (BitVec.ofNat 32 (256 * e - 256 * (e - 2)) + BitVec.ofNat 32 p.val - BitVec.ofNat 32 j.val) 0#32
      = BitVec.ofBool (decide (256 * (e - 2) + j.val ≤ 256 * e + p.val)) := by
    show BitVec.ofBool (BitVec.sle _ _) = _
    rw [BitVec.sle_eq_decide, hi]
    exact congrArg BitVec.ofBool (decide_eq_decide.2 (by rw [show (0#32).toInt = 0 by decide]; omega))
  have h2 : IntOp.cmpi CmpIPredicate.slt (BitVec.ofNat 32 (256 * e - 256 * (e - 2)) + BitVec.ofNat 32 p.val - BitVec.ofNat 32 j.val) 512#32
      = BitVec.ofBool (decide (256 * e + p.val < 256 * (e - 2) + j.val + 512)) := by
    show BitVec.ofBool (BitVec.slt _ _) = _
    rw [BitVec.slt_eq_decide, hi]
    exact congrArg BitVec.ofBool (decide_eq_decide.2 (by rw [show (512#32).toInt = 512 by decide]; omega))
  pointwise [masked]
  rw [Cert.Consts.neg_inf, rel_apply e he, h1, h2]
  by_cases ha : 256 * (e - 2) + j.val ≤ 256 * e + p.val <;> by_cases hb : 256 * e + p.val < 256 * (e - 2) + j.val + 512 <;>
    simp [ha, hb, Scalar.select, IntOp.andi]

theorem top_apply (s : FVec Ideal S2048x768 .f32) (r : Fin 2048) : top s (ix2 r 0) = Finset.univ.fold max ⊥ fun j : Fin 768 => s (ix2 r j) := by
  pointwise [top]
  rw [Cert.Consts.neg_inf]

/-- The named scale. -/
theorem named_c : Named.named (F := Ideal) κ "c" (φ := .f32) 0x3E0293EE#32 = (((11863283 / 134217728) * (Real.log 2)⁻¹ : ℝ) : EReal) :=
  IdealRules.named_const.ideal_named_scalar κ "c" _ _ rfl

theorem weights_apply (s : FVec Ideal S2048x768 .f32) (m : FVec Ideal S2048x1 .f32) (r : Fin 2048) (j : Fin 768) :
    weights s m (ix2 r j) = ex (11863283 / 134217728) (s (ix2 r j) - m (ix2 r 0)) := by
  rw [← exp2_eq (by norm_num)]
  pointwise [weights]
  rw [named_c]
  rfl

theorem quotient_apply (V : FVec Ideal S768x128 .bf16) (p : FVec Ideal S2048x768 .f32) (r : Fin 2048) (d : Fin 128) :
    quotient V p (ix2 r d) = Ideal.div (∑ j : Fin 768, p (ix2 r j) * V (ix2 j d)) (∑ j : Fin 768, p (ix2 r j)) := by
  pointwise [quotient]

end Cert.Kernel8Ideal.Win

end
-- ==== Proof.WindowBlock.lean ====
/- What one grid point of the window branch writes. -/
module

public import proofs.«01_k».proof.Proof.WindowQueries
public import proofs.«01_k».proof.Proof.Gen.Kernel8Ideal.Value

@[expose] public section

set_option maxRecDepth 16384

noncomputable section

namespace Cert.Kernel8Ideal.Win

open Cert.Kernel8Ideal Cert.Kernel8Ideal.Gen Idealize.ShloMosaic Idealize.ShloMosaic.TcCoe Idealize.SL.Sem Cert.Masked

theorem coord2_lt (i : grid0.Coords) : (i 2).val < 32 := (i 2).isLt

/-- The span of keys begins two blocks before the queries' block, or at the first key. -/
theorem off1 (i : grid0.Coords) : k0_off1 i = ![256 * ((i 2).val - 2), 0] := by
  have h : ∀ a : Fin 32, (Scalar.indexCast (Scalar.maxsi (Scalar.subi (Scalar.muli (BitVec.ofNat 32 a.val) 256#32) 512#32) 0#32)).toNat = 256 * (a.val - 2) := by
    decide +kernel
  have h' := h (i 2)
  unfold k0_off1
  funext a
  match a with
  | ⟨0, _⟩ => exact h'
  | ⟨1, _⟩ => rfl

/-- The span read out of all keys or values. -/
theorem ld_apply (x : Vec Ideal S8192x128 .bf16) (off : Fin 2 → Nat) (k : Nat) (ho : off = ![256 * k, 0]) (hb : ∀ a, off a + S768x128.size a ≤ S8192x128.size a)
    (j : Fin 768) (l : Fin 128) (hj : 256 * k + j.val < 8192) :
    View.ld x (Rect.unit (s := S8192x128) off S768x128.size hb) (ix2 j l) = x (ix2 ⟨256 * k + j.val, hj⟩ l) := by
  subst ho
  pointwise

/-- The masked score, not yet scaled, that query `p` of block `e` has in head `g` with key `j`: `-∞` where the key comes
    after the query or lies 512 or more before it. -/
def score (x0 : Vec Ideal S256x1024 .bf16) (x1 : Vec Ideal S8192x128 .bf16) (e : Nat) (g : Fin 8) (p : Fin 256) (j : Nat) : EReal :=
  if h : j < 8192 then
    (if j ≤ 256 * e + p.val ∧ 256 * e + p.val < j + 512 then ∑ l : Fin 128, x0 (ix2 p ⟨128 * g.val + l.val, by omega⟩) * x1 (ix2 ⟨j, h⟩ l) else ⊥)
  else ⊥

/-- Coordinate `d` of the value of key `j`. -/
def value (x2 : Vec Ideal S8192x128 .bf16) (d : Fin 128) (j : Nat) : EReal := if h : j < 8192 then x2 (ix2 ⟨j, h⟩ d) else 0

/-- Stacked rows laid out again as one row per query, head beside head. -/
def unstacked (a : FVec Ideal S2048x128 .f32) (y : S256x1024.Idx) : EReal :=
  a (ix2 ⟨(y 1).val / 128 * 256 + (y 0).val, by have h1 : (y 1).val < 1024 := (y 1).isLt; have h0 : (y 0).val < 256 := (y 0).isLt; omega⟩
    ⟨(y 1).val % 128, by omega⟩)

/-- The eight stores together write the unstacked rows. -/
theorem canon_eq (v0 v3 : BitVec 32) (V : FVec Ideal S768x128 .bf16) (s : FVec Ideal S2048x768 .f32) (w : IVec S2048x768 32) (v30 : BitVec 32) (z : IVec S2048x768 32)
    (y : S256x1024.Idx) :
    View.canon (Val := Elt Ideal) (e := .f32)
      [⟨Rect.unit (s := S256x1024) ![0, 896] ![256, 128] inb_S256x1024_S256x128_0_896, k0_pay5 (k0_pay9 v0 v3 V s w v30 z)⟩,
        ⟨Rect.unit (s := S256x1024) ![0, 768] ![256, 128] inb_S256x1024_S256x128_0_768, k0_pay4 (k0_pay9 v0 v3 V s w v30 z)⟩,
        ⟨Rect.unit (s := S256x1024) ![0, 640] ![256, 128] inb_S256x1024_S256x128_0_640, k0_pay3 (k0_pay9 v0 v3 V s w v30 z)⟩,
        ⟨Rect.unit (s := S256x1024) ![0, 512] ![256, 128] inb_S256x1024_S256x128_0_512, k0_pay2 (k0_pay9 v0 v3 V s w v30 z)⟩,
        ⟨Rect.unit (s := S256x1024) ![0, 384] ![256, 128] inb_S256x1024_S256x128_0_384, k0_pay1 (k0_pay9 v0 v3 V s w v30 z)⟩,
        ⟨Rect.unit (s := S256x1024) ![0, 256] ![256, 128] inb_S256x1024_S256x128_0_256, k0_pay12 v0 v3 V s w v30 z⟩,
        ⟨Rect.unit (s := S256x1024) ![0, 128] ![256, 128] inb_S256x1024_S256x128_0_128, k0_pay11 v0 v3 V s w v30 z⟩,
        ⟨Rect.unit (s := S256x1024) ![0, 0] ![256, 128] inb_S256x1024_S256x128_0_0, k0_pay10 v0 v3 V s w v30 z⟩] y
      = unstacked (k0_pay9 v0 v3 V s w v30 z) y := by
  unfold k0_pay10 k0_pay11 k0_pay12
  generalize k0_pay9 v0 v3 V s w v30 z = a
  refine View.canon_apply_of_pieces (Val := Elt Ideal) (e := .f32) (S := S256x1024) (unstacked a) _ ?_ y (View.cover_of_tiled _ ![256, 128] rfl y)
  simp only [List.mem_cons, List.not_mem_nil, or_false, forall_eq_or_imp, forall_eq]
  have key : ∀ (o : Nat) (ho : o < 8) (off : Fin 2 → Nat) (hoff : off = ![0, 128 * o]) (hb : ∀ a, off a + (![256, 128] : Fin 2 → Nat) a ≤ S256x1024.size a)
      (x : (Rect.unit (s := S256x1024) off ![256, 128] hb).shape.Idx) (u : Fin 256) (v : Fin 128), x = ix2 u v →
      unstacked a ((Rect.unit (s := S256x1024) off ![256, 128] hb).emb x) = a (ix2 ⟨o * 256 + u.val, by omega⟩ v) := by
    intro o ho off hoff hb x u v hx
    subst hoff hx
    have e0 : ((Rect.unit (s := S256x1024) ![0, 128 * o] ![256, 128] hb).emb (ix2 u v) 0).val = u.val := by
      rw [Rect.emb_apply]; show 0 + 1 * u.val = u.val; omega
    have e1 : ((Rect.unit (s := S256x1024) ![0, 128 * o] ![256, 128] hb).emb (ix2 u v) 1).val = 128 * o + v.val := by
      rw [Rect.emb_apply]; show 128 * o + 1 * v.val = _; omega
    unfold unstacked
    congr 1
    congr 1
    · exact Fin.ext (by show _ / 128 * 256 + _ = o * 256 + u.val; rw [e0, e1]; have := v.isLt; omega)
    · exact Fin.ext (by show _ % 128 = v.val; rw [e1]; have := v.isLt; omega)
  refine ⟨?_, ?_, ?_, ?_, ?_, ?_, ?_, ?_⟩ <;> intro x <;> idx_vars x
  · rw [key 7 (by norm_num) _ rfl _ _ x0 x1 rfl]; pointwise [k0_pay5]
  · rw [key 6 (by norm_num) _ rfl _ _ x0 x1 rfl]; pointwise [k0_pay4]
  · rw [key 5 (by norm_num) _ rfl _ _ x0 x1 rfl]; pointwise [k0_pay3]
  · rw [key 4 (by norm_num) _ rfl _ _ x0 x1 rfl]; pointwise [k0_pay2]
  · rw [key 3 (by norm_num) _ rfl _ _ x0 x1 rfl]; pointwise [k0_pay1]
  · rw [key 2 (by norm_num) _ rfl _ _ x0 x1 rfl]; pointwise
  · rw [key 1 (by norm_num) _ rfl _ _ x0 x1 rfl]; pointwise
  · rw [key 0 (by norm_num) _ rfl _ _ x0 x1 rfl]; pointwise

variable (c : Dev nD) (i : grid0.Coords) (arg3 : Memref sig .tc .vmem S256x1024 .bf16) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S256x1024 .f32) (harg6 : arg6.IsWhole)

/-- The span of keys, or of values, that a grid point reads. -/
abbrev span (x : Vec Ideal S8192x128 .bf16) : Vec Ideal S768x128 .bf16 := View.ld x (Rect.unit (s := S8192x128) (k0_off1 i) S768x128.size (k0_off1_inb i))

/-- The masked scores of a grid point. -/
abbrev sc (x0 : Vec Ideal S256x1024 .bf16) (x1 : Vec Ideal S8192x128 .bf16) : FVec Ideal S2048x768 .f32 :=
  masked (rel (BitVec.ofNat 32 (256 * (i 2).val)) (BitVec.ofNat 32 (256 * ((i 2).val - 2))) 256#32) (products (stacked x0) (span i x1))

/-- The written block over the masked scores. -/
theorem out_eq (x0 : Vec Ideal S256x1024 .bf16) (x1 x2 : Vec Ideal S8192x128 .bf16) (y : S256x1024.Idx) :
    out0_A_3 (F := Ideal) c i arg3 harg3 arg4 harg4 arg5 harg5 arg6 harg6 x0 x1 x2 y
      = unstacked (quotient (k0_pay6 (span i x2)) (weights (sc i x0 x1) (top (sc i x0 x1)))) y := by
  have key : ∃ (v0 v3 v30 : BitVec 32), v0 = BitVec.ofNat 32 (256 * (i 2).val) ∧ v3 = BitVec.ofNat 32 (256 * ((i 2).val - 2)) ∧ v30 = 256#32 ∧
      out0_A_3 (F := Ideal) c i arg3 harg3 arg4 harg4 arg5 harg5 arg6 harg6 x0 x1 x2 y
        = unstacked (k0_pay9 v0 v3 (k0_pay6 (span i x2)) (products (stacked x0) (span i x1)) (iota .tc S2048x768 32 [0] iota_S2048x768_d0_w32) v30 k0_pay8) y := by
    frame_out
    rw [canon_eq]
    simp only [← pay7_eq]
    refine ⟨_, _, _, ?_, ?_, ?_, rfl⟩
    · clear x0 x1 x2
      generalize i 2 = a
      revert a
      change ∀ a : Fin 32, _
      decide +kernel
    · clear x0 x1 x2
      generalize i 2 = a
      revert a
      change ∀ a : Fin 32, _
      decide +kernel
    · decide
  obtain ⟨v0, v3, v30, rfl, rfl, rfl, h⟩ := key
  rw [h, pay9_eq]

/-- The masked scores entry by entry. -/
theorem sc_apply (x0 : Vec Ideal S256x1024 .bf16) (x1 : Vec Ideal S8192x128 .bf16) (g : Fin 8) (p : Fin 256) (j : Fin 768) :
    sc i x0 x1 (ix2 ⟨g.val * 256 + p.val, by omega⟩ j) = score x0 x1 (i 2).val g p (256 * ((i 2).val - 2) + j.val) := by
  have h32 := coord2_lt i
  unfold sc span
  rw [masked_apply _ h32, score, dif_pos (by omega), products_apply]
  congr 1
  refine Finset.sum_congr rfl fun l _ => ?_
  rw [stacked_apply, ld_apply x1 _ _ (off1 i) _ j l (by omega)]

/-- The floor under a row's sum is a positive number, at most one. -/
theorem floor_pos : ∃ e : ℝ, Ideal.ofBits .f32 0x0DA24260#32 = (e : EReal) ∧ 0 < e ∧ e ≤ 1 := by
  refine ⟨10633824 * 2 ^ (-123 : ℤ), ?_, by positivity, by norm_num⟩
  simp [Ideal.ofBits, Ideal.ieee, -EReal.coe_mul]

/-- What a grid point writes for head `g` of query `p`, where the scores are finite: the attention over the keys of the
    query's window. -/
theorem out_apply (x0 : Vec Ideal S256x1024 .bf16) (x1 x2 : Vec Ideal S8192x128 .bf16) (h0 : ∀ a, ∃ r : ℝ, x0 a = (r : EReal)) (h1 : ∀ a, ∃ r : ℝ, x1 a = (r : EReal))
    (p : Fin 256) (d : Fin 128) (g : Fin 8) (G M : EReal)
    (hM : M = Finset.univ.fold max ⊥ fun j : Fin 8192 => score x0 x1 (i 2).val g p j.val * ((11863283 / 134217728 : ℝ) : EReal))
    (hG : G = if max M (-M) < ⊤ then M else 0) :
    out0_A_3 (F := Ideal) c i arg3 harg3 arg4 harg4 arg5 harg5 arg6 harg6 x0 x1 x2 (ix2 p ⟨128 * g.val + d.val, by omega⟩)
      = Masked.whole (fun j : Fin 8192 => score x0 x1 (i 2).val g p j.val * ((11863283 / 134217728 : ℝ) : EReal)) (fun j => value x2 d j.val) G
          (Ideal.ofBits .f32 0x0DA24260#32) := by
  have h32 := coord2_lt i
  have hp := p.isLt
  rw [out_eq]
  unfold unstacked
  have e0 : (⟨(128 * g.val + d.val) / 128 * 256 + p.val, by omega⟩ : Fin 2048) = ⟨g.val * 256 + p.val, by omega⟩ := Fin.ext (by show _ / 128 * 256 + _ = g.val * 256 + p.val; omega)
  have e1 : (⟨(128 * g.val + d.val) % 128, by omega⟩ : Fin 128) = d := Fin.ext (by show _ % 128 = d.val; omega)
  show quotient _ _ (ix2 (⟨(128 * g.val + d.val) / 128 * 256 + p.val, _⟩ : Fin 2048) (⟨(128 * g.val + d.val) % 128, _⟩ : Fin 128)) = _
  rw [e0, e1, quotient_apply]
  obtain ⟨e, he, hpos, hle⟩ := floor_pos
  have hV : ∀ j : Fin 768, k0_pay6 (span i x2) (ix2 j d) = value x2 d (256 * ((i 2).val - 2) + j.val) := fun j => by
    unfold span
    rw [pay6_apply, ld_apply x2 _ _ (off1 i) _ j d (by omega), value, dif_pos]
  have hreal : ∀ j : Fin 8192, ∃ r : ℝ, (∑ l : Fin 128, x0 (ix2 p ⟨128 * g.val + l.val, by omega⟩) * x1 (ix2 j l) : EReal) = (r : EReal) := fun j => by
    choose a ha using h0
    choose b hb using h1
    refine ⟨∑ l : Fin 128, a (ix2 p ⟨128 * g.val + l.val, by omega⟩) * b (ix2 j l), ?_⟩
    rw [← Cert.Softmax.coe_sum]
    refine Finset.sum_congr rfl fun l _ => ?_
    rw [ha, hb, EReal.coe_mul]
  simp only [weights_apply, top_apply, sc_apply, hV]
  refine window_end (by norm_num) (score x0 x1 (i 2).val g p) (value x2 d) _ 768 8192 (by omega) (fun j hj => ?_) (fun j hj => ?_) (fun j => ?_) ?_ rfl _ he hpos hle G M hM hG
  · rw [score, dif_pos (by omega), if_neg (by omega)]
  · unfold score
    split
    · rw [if_neg (by omega)]
    · rfl
  · unfold score
    split
    · split
      · obtain ⟨r, hr⟩ := hreal ⟨j, by assumption⟩
        rw [hr]
        exact EReal.coe_ne_top r
      · exact bot_ne_top
    · exact bot_ne_top
  · refine ⟨⟨256 * (i 2).val + p.val - 256 * ((i 2).val - 2), by omega⟩, ?_⟩
    have hk : 256 * ((i 2).val - 2) + (256 * (i 2).val + p.val - 256 * ((i 2).val - 2)) = 256 * (i 2).val + p.val := by omega
    show score x0 x1 (i 2).val g p (256 * ((i 2).val - 2) + (256 * (i 2).val + p.val - 256 * ((i 2).val - 2))) ≠ ⊥
    rw [hk, score, dif_pos (by omega), if_pos (by omega)]
    obtain ⟨r, hr⟩ := hreal ⟨256 * (i 2).val + p.val, by omega⟩
    rw [hr]
    exact EReal.coe_ne_bot r

end Cert.Kernel8Ideal.Win

end
-- ==== Proof.WindowRef.lean ====
/- The window branch's reference read off stage by stage: the scores, the mask, the softmax with its guards and the
   weighted sum of the values. Each stage is read at an index; `res_eq` says that the reference's result is the stages one
   after the other, and `result_apply` gives it at a position as the guarded masked softmax. -/
module

public import proofs.«01_k».proof.Proof.Gen.Reference8Ideal.Run
public import proofs.«01_k».proof.Proof.Consts
public import proofs.«01_k».proof.Proof.Masked
public import Idealize.ShloMosaic.Lib.Pointwise
public import Idealize.ShloMosaic.Lib.Tactic.CleanTypes
public import Idealize.ShloMosaic.Lib.Tactic.WordOmega

@[expose] public section

set_option maxRecDepth 16384

noncomputable section

namespace Cert.Reference8Ideal.Win

open Cert.Reference8Ideal Cert.Reference8Ideal.Gen Cert.Reference8Ideal.Value Idealize.ShloMosaic Idealize.ShloMosaic.TcCoe Idealize.SL.Sem

/-- Scaled scores `[batch, query, group, head, key]`. -/
def scores (q : FVec Ideal S16384x2048 .f32) (k : FVec Ideal S16384x256 .f32) : FVec Ideal S2x8192x2x8x8192 .f32 :=
  mulf (transpose S2x8192x2x8x8192 [0, 3, 1, 4, 2] (Host.dotGeneral dot_S2x8192x2x128_S2x8192x2x8x128_S2x2x8192x8192x8_3_4_1_13_02_02 none
      (shapeCast S2x8192x2x128 k shapeCasts_S16384x256_S2x8192x2x128) (shapeCast S2x8192x2x8x128 q shapeCasts_S16384x2048_S2x8192x2x8x128))
      transposes_S2x2x8192x8192x8_S2x8192x2x8x8192_0_3_1_4_2)
    (broadcastInDim S2x8192x2x8x8192 ![] bcast_S_S2x8192x2x8x8192 (constant S_ .f32 0x3DB504F3#32))

/-- How far each key lies before each query, as words. -/
def rel : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- Which keys lie in the window of each query. -/
def inside : IVec S8192x8192 1 :=
  andi (cmpi .sge rel (broadcastInDim S8192x8192 ![] bcast_S_S8192x8192 (constantI S_ 32 0#32)))
    (cmpi .slt rel (broadcastInDim S8192x8192 ![] bcast_S_S8192x8192 (constantI S_ 32 512#32)))

/-- Scores with every key outside the query's window at `-∞`. -/
def masked (s : FVec Ideal S2x8192x2x8x8192 .f32) : FVec Ideal S2x8192x2x8x8192 .f32 :=
  select (broadcastInDim S2x8192x2x8x8192 ![0, 1, 2, 3, 4] bcast_S1x8192x1x1x8192_S2x8192x2x8x8192_0_1_2_3_4
      (broadcastInDim S1x8192x1x1x8192 ![1, 4] bcast_S8192x8192_S1x8192x1x1x8192_1_4 inside)) s
    (broadcastInDim S2x8192x2x8x8192 ![] bcast_S_S2x8192x2x8x8192 (id (constant S_ .f32 0xFF800000#32)))

/-- Each row's largest score. -/
def rowMax (s : FVec Ideal S2x8192x2x8x8192 .f32) : FVec Ideal S2x8192x2x8x1 .f32 :=
  broadcastInDim S2x8192x2x8x1 ![0, 1, 2, 3] bcast_S2x8192x2x8_S2x8192x2x8x1_0_1_2_3
    (Host.reduce FloatOps.maximumf s (constant S_ .f32 0xFF800000#32) reducesTo_S2x8192x2x8x8192_S2x8192x2x8_d4 h_S_)

/-- The largest score where it is finite, zero elsewhere. -/
def guarded (x : FVec Ideal S2x8192x2x8x1 .f32) : FVec Ideal S2x8192x2x8x1 .f32 :=
  select (cmpf .olt (Host.absf x) (broadcastInDim S2x8192x2x8x1 ![] bcast_S_S2x8192x2x8x1 (constant S_ .f32 0x7F800000#32))) x
    (broadcastInDim S2x8192x2x8x1 ![] bcast_S_S2x8192x2x8x1 (id (constant S_ .f32 0x00000000#32)))

/-- The exponentials of the scores taken off the guarded maximum. -/
def expo (s : FVec Ideal S2x8192x2x8x8192 .f32) (x : FVec Ideal S2x8192x2x8x1 .f32) : FVec Ideal S2x8192x2x8x8192 .f32 :=
  Host.exp (subf s (broadcastInDim S2x8192x2x8x8192 ![0, 1, 2, 3, 4] bcast_S2x8192x2x8x1_S2x8192x2x8x8192_0_1_2_3_4 x))

/-- Each row divided by its sum, the sum kept above a small floor. -/
def normed (e : FVec Ideal S2x8192x2x8x8192 .f32) : FVec Ideal S2x8192x2x8x8192 .f32 :=
  Host.divf e (broadcastInDim S2x8192x2x8x8192 ![0, 1, 2, 3, 4] bcast_S2x8192x2x8x1_S2x8192x2x8x8192_0_1_2_3_4
    (maximumf (broadcastInDim S2x8192x2x8x1 ![0, 1, 2, 3] bcast_S2x8192x2x8_S2x8192x2x8x1_0_1_2_3
        (Host.reduceAdd e (constant S_ .f32 0x00000000#32) reducesTo_S2x8192x2x8x8192_S2x8192x2x8_d4 h_S_))
      (broadcastInDim S2x8192x2x8x1 ![] bcast_S_S2x8192x2x8x1 (constant S_ .f32 0x0DA24260#32))))

/-- The weighted sum of the values, one row per token. -/
def summed (v : FVec Ideal S16384x256 .f32) (a : FVec Ideal S2x8192x2x8x8192 .f32) : FVec Ideal S16384x2048 .f32 :=
  shapeCast S16384x2048 (transpose S2x8192x2x8x128 [0, 3, 1, 4, 2]
    (Host.dotGeneral dot_S2x8192x2x128_S2x8192x2x8x8192_S2x2x128x8192x8_1_4_3_13_02_02 none (shapeCast S2x8192x2x128 v shapeCasts_S16384x256_S2x8192x2x128) a)
    transposes_S2x2x128x8192x8_S2x8192x2x8x128_0_3_1_4_2) shapeCasts_S2x8192x2x8x128_S16384x2048

/-- The whole reference. -/
def result (q : FVec Ideal S16384x2048 .f32) (k v : FVec Ideal S16384x256 .f32) : FVec Ideal S16384x2048 .f32 :=
  summed v (normed (expo (masked (scores q k)) (guarded (rowMax (masked (scores q k))))))

theorem res_eq (m : (ℓ : Loc nD τ sig) → Buf (Elt Ideal) ℓ) (c : Dev nD) :
    res_out0 m c = result (m ((c.tc : Thread nD τ).loc main_arg0)) (m ((c.tc : Thread nD τ).loc main_arg1)) (m ((c.tc : Thread nD τ).loc main_arg2)) := by
  unfold res_out0 res_main_v38
  rfl

theorem scores_apply (q : FVec Ideal S16384x2048 .f32) (k : FVec Ideal S16384x256 .f32) (b h : Fin 2) (g : Fin 8) (t j : Fin 8192) :
    scores q k (ix5 b t h g j) = (∑ l : Fin 128, k (ix2 ⟨b.val * 8192 + j.val, by omega⟩ ⟨h.val * 128 + l.val, by omega⟩)
      * q (ix2 ⟨b.val * 8192 + t.val, by omega⟩ ⟨h.val * 1024 + g.val * 128 + l.val, by omega⟩)) * Ideal.ofBits .f32 0x3DB504F3#32 := by
  pointwise [scores]

theorem rel_apply (t j : Fin 8192) : rel (ix2 t j) = BitVec.ofNat 32 t.val - BitVec.ofNat 32 j.val := by
  pointwise [rel]
  rfl

theorem inside_apply (t j : Fin 8192) : inside (ix2 t j) = BitVec.ofBool (decide (j.val ≤ t.val ∧ t.val < j.val + 512)) := by
  have ht := t.isLt
  have hj := j.isLt
  have hi : (BitVec.ofNat 32 t.val - BitVec.ofNat 32 j.val).toInt = (t.val : Int) - j.val := by
    rw [BitVec.toInt_sub, BitVec.toInt_ofNat', BitVec.toInt_ofNat']
    simp only [Int.bmod]
    omega
  have h1 : IntOp.cmpi CmpIPredicate.sge (BitVec.ofNat 32 t.val - BitVec.ofNat 32 j.val) 0#32 = BitVec.ofBool (decide (j.val ≤ t.val)) := by
    show BitVec.ofBool (BitVec.sle _ _) = _
    rw [BitVec.sle_eq_decide, hi]
    exact congrArg BitVec.ofBool (decide_eq_decide.2 (by rw [show (0#32).toInt = 0 by decide]; omega))
  have h2 : IntOp.cmpi CmpIPredicate.slt (BitVec.ofNat 32 t.val - BitVec.ofNat 32 j.val) 512#32 = BitVec.ofBool (decide (t.val < j.val + 512)) := by
    show BitVec.ofBool (BitVec.slt _ _) = _
    rw [BitVec.slt_eq_decide, hi]
    exact congrArg BitVec.ofBool (decide_eq_decide.2 (by rw [show (512#32).toInt = 512 by decide]; omega))
  pointwise [inside]
  rw [rel_apply, h1, h2]
  by_cases ha : j.val ≤ t.val <;> by_cases hb : t.val < j.val + 512 <;> simp [ha, hb, IntOp.andi]

theorem masked_apply (s : FVec Ideal S2x8192x2x8x8192 .f32) (b h : Fin 2) (g : Fin 8) (t j : Fin 8192) :
    masked s (ix5 b t h g j) = if j.val ≤ t.val ∧ t.val < j.val + 512 then s (ix5 b t h g j) else ⊥ := by
  pointwise [masked]
  have hb : (id (constant (F := Ideal) S_ .f32 4286578688#32) ix0 : EReal) = ⊥ := Consts.neg_inf
  rw [hb, inside_apply]
  by_cases h1 : j.val ≤ t.val ∧ t.val < j.val + 512
  · rw [if_pos h1, decide_eq_true h1]; rfl
  · rw [if_neg h1, decide_eq_false h1]; rfl

theorem rowMax_apply (s : FVec Ideal S2x8192x2x8x8192 .f32) (b h : Fin 2) (g : Fin 8) (t : Fin 8192) :
    rowMax s (ix5 b t h g 0) = Finset.univ.fold max ⊥ fun k : Fin 8192 => s (ix5 b t h g k) := by
  pointwise [rowMax]
  rw [Consts.neg_inf]

theorem guarded_apply (x : FVec Ideal S2x8192x2x8x1 .f32) (b h : Fin 2) (g : Fin 8) (t : Fin 8192) :
    guarded x (ix5 b t h g 0) = if max (x (ix5 b t h g 0)) (-x (ix5 b t h g 0)) < ⊤ then x (ix5 b t h g 0) else 0 := by
  pointwise [guarded]
  have h0 : (id (constant (F := Ideal) S_ .f32 0#32) ix0 : EReal) = 0 := by
    show Ideal.ofBits .f32 0#32 = 0
    simp [Ideal.ofBits, Ideal.ieee]
  rw [Consts.pos_inf, h0]
  rfl

theorem expo_apply (s : FVec Ideal S2x8192x2x8x8192 .f32) (x : FVec Ideal S2x8192x2x8x1 .f32) (b h : Fin 2) (g : Fin 8) (t j : Fin 8192) :
    expo s x (ix5 b t h g j) = Ideal.exp (s (ix5 b t h g j) - x (ix5 b t h g 0)) := by
  pointwise [expo]

theorem normed_apply (e : FVec Ideal S2x8192x2x8x8192 .f32) (b h : Fin 2) (g : Fin 8) (t j : Fin 8192) :
    normed e (ix5 b t h g j) = Ideal.div (e (ix5 b t h g j)) (max (∑ k : Fin 8192, e (ix5 b t h g k)) (Ideal.ofBits .f32 0x0DA24260#32)) := by
  pointwise [normed]

theorem summed_apply (v : FVec Ideal S16384x256 .f32) (a : FVec Ideal S2x8192x2x8x8192 .f32) (b h : Fin 2) (g : Fin 8) (t : Fin 8192) (d : Fin 128) :
    summed v a (ix2 ⟨b.val * 8192 + t.val, by omega⟩ ⟨(h.val * 8 + g.val) * 128 + d.val, by omega⟩)
      = ∑ j : Fin 8192, v (ix2 ⟨b.val * 8192 + j.val, by omega⟩ ⟨h.val * 128 + d.val, by omega⟩) * a (ix5 b t h g j) := by
  pointwise [summed]

/-- The reference's result at a position, as the guarded softmax over a row of masked scores. -/
theorem result_apply (q : FVec Ideal S16384x2048 .f32) (k v : FVec Ideal S16384x256 .f32) (b h : Fin 2) (g : Fin 8) (t : Fin 8192) (d : Fin 128) :
    ∃ G M : EReal, M = Finset.univ.fold max ⊥ (fun j : Fin 8192 => masked (scores q k) (ix5 b t h g j)) ∧ G = (if max M (-M) < ⊤ then M else 0) ∧
    result q k v (ix2 ⟨b.val * 8192 + t.val, by omega⟩ ⟨(h.val * 8 + g.val) * 128 + d.val, by omega⟩)
      = Masked.whole (fun j : Fin 8192 => masked (scores q k) (ix5 b t h g j))
        (fun j : Fin 8192 => v (ix2 ⟨b.val * 8192 + j.val, by omega⟩ ⟨h.val * 128 + d.val, by omega⟩)) G (Ideal.ofBits .f32 0x0DA24260#32) := by
  refine ⟨_, _, rfl, rfl, ?_⟩
  unfold result Masked.whole
  rw [summed_apply]
  simp only [normed_apply, expo_apply, guarded_apply, rowMax_apply]

end Cert.Reference8Ideal.Win

end
-- ==== Proof.WindowArray.lean ====
/- The window branch's whole result: the blocks staged at a grid point as entries of the arguments, what it writes against
   the reference's value there, and the blocks together covering the array. -/
module

public import proofs.«01_k».proof.Proof.WindowBlock
public import proofs.«01_k».proof.Proof.WindowRef
public import proofs.«01_k».proof.Proof.Finite
public import Idealize.ShloMosaic.Lib.Pipeline.ValueKit
public import Idealize.ShloMosaic.Lib.StableHlo.ReadAt

@[expose] public section

set_option maxRecDepth 16384
set_option maxHeartbeats 1000000

noncomputable section

namespace Cert.Kernel8Ideal.Win

open Cert.Kernel8Ideal Cert.Kernel8Ideal.Gen Idealize.ShloMosaic Idealize.ShloMosaic.TcCoe Idealize.SL.Sem
open Idealize.ShloMosaic.Pipeline (Dat)

theorem idx0 : ∀ t : Fin grid0.N, win0_0.index t = ![32 * (grid0.coords t 0).val + (grid0.coords t 2).val, (grid0.coords t 1).val] := by decide +kernel
theorem idx1 : ∀ t : Fin grid0.N, win0_1.index t = ![(grid0.coords t 0).val, (grid0.coords t 1).val] := by decide +kernel
theorem idx2 : ∀ t : Fin grid0.N, win0_2.index t = ![(grid0.coords t 0).val, (grid0.coords t 1).val] := by decide +kernel
theorem idx3 : ∀ t : Fin grid0.N, win0_3.index t = ![32 * (grid0.coords t 0).val + (grid0.coords t 2).val, (grid0.coords t 1).val] := by decide +kernel

variable (m : (ℓ : Loc nD τ sig) → Buf (Elt Ideal) ℓ) (c : Dev nD)

/-- The three arguments: queries, keys and values. -/
abbrev argQ : FVec Ideal S16384x2048 .f32 := m ((c : Thread nD τ).loc main_arg0)
abbrev argK : FVec Ideal S16384x256 .f32 := m ((c : Thread nD τ).loc main_arg1)
abbrev argV : FVec Ideal S16384x256 .f32 := m ((c : Thread nD τ).loc main_arg2)

theorem v0_entry (t : Fin 16384) (x : Fin 2048) : V m c main_v0 (ix2 t x) = (argQ m c (ix2 t x) : EReal) := by
  unfold V
  after_reads_at

theorem v1_entry (t : Fin 16384) (x : Fin 256) : V m c main_v1 (ix2 t x) = (argK m c (ix2 t x) : EReal) := by
  unfold V
  after_reads_at

theorem v2_entry (t : Fin 16384) (x : Fin 256) : V m c main_v2 (ix2 t x) = (argV m c (ix2 t x) : EReal) := by
  unfold V
  after_reads_at

theorem coord0_lt (t : Fin cfg0.N) : (grid0.coords t 0).val < 2 := (grid0.coords t 0).isLt
theorem coord1_lt (t : Fin cfg0.N) : (grid0.coords t 1).val < 2 := (grid0.coords t 1).isLt

theorem iblk0 (t : Fin cfg0.N) (p : Fin 256) (l : Fin 1024) (h1) (h2) :
    iblk m c 0 t (ix2 p l) = V m c main_v0 (ix2 ⟨(grid0.coords t 0).val * 8192 + (256 * (grid0.coords t 2).val + p.val), h1⟩ ⟨(grid0.coords t 1).val * 1024 + l.val, h2⟩) := by
  blk_ext [iblk, idx0 t]

theorem iblk1 (t : Fin cfg0.N) (r : Fin 8192) (l : Fin 128) (h1) (h2) :
    iblk m c 1 t (ix2 r l) = V m c main_v1 (ix2 ⟨(grid0.coords t 0).val * 8192 + r.val, h1⟩ ⟨(grid0.coords t 1).val * 128 + l.val, h2⟩) := by
  blk_ext [iblk, idx1 t]

theorem iblk2 (t : Fin cfg0.N) (r : Fin 8192) (l : Fin 128) (h1) (h2) :
    iblk m c 2 t (ix2 r l) = V m c main_v2 (ix2 ⟨(grid0.coords t 0).val * 8192 + r.val, h1⟩ ⟨(grid0.coords t 1).val * 128 + l.val, h2⟩) := by
  blk_ext [iblk, idx2 t]

/-- The rounded scale of the scores. -/
theorem scale : Ideal.ofBits .f32 0x3DB504F3#32 = ((11863283 / 134217728 : ℝ) : EReal) := by
  simp [Ideal.ofBits, Ideal.ieee, -EReal.coe_mul]
  norm_num

/-- A grid point's masked scores, scaled, are the reference's. -/
theorem score_eq (t : Fin cfg0.N) (g : Fin 8) (p : Fin 256) (j : Fin 8192) (hb) (hh) (ht) :
    score (iblk m c 0 t) (iblk m c 1 t) (grid0.coords t 2).val g p j.val * ((11863283 / 134217728 : ℝ) : EReal)
      = Cert.Reference8Ideal.Win.masked (Cert.Reference8Ideal.Win.scores (argQ m c) (argK m c))
          (ix5 ⟨(grid0.coords t 0).val, hb⟩ ⟨256 * (grid0.coords t 2).val + p.val, ht⟩ ⟨(grid0.coords t 1).val, hh⟩ g j) := by
  rw [Cert.Reference8Ideal.Win.masked_apply, Cert.Reference8Ideal.Win.scores_apply, scale]
  unfold score
  rw [dif_pos j.isLt]
  split
  · congr 1
    refine Finset.sum_congr rfl fun l _ => ?_
    rw [iblk0 m c t p _ (by omega) (by show _ + (128 * g.val + l.val) < 2048; omega), iblk1 m c t j l (by omega) (by omega), v0_entry, v1_entry, mul_comm]
    refine congrArg₂ (· * ·) rfl (congrArg (fun x => (argQ m c (ix2 _ x) : EReal)) (Fin.ext ?_))
    show (grid0.coords t 1).val * 1024 + (128 * g.val + l.val) = (grid0.coords t 1).val * 1024 + g.val * 128 + l.val
    omega
  · exact EReal.bot_mul_coe_of_pos (by norm_num)

/-- Where the queries and keys are finite the kernel's result is the reference's. -/
theorem arr_eq (hq : ∀ i, ∃ r : ℝ, argQ m c i = (r : EReal)) (hk : ∀ i, ∃ r : ℝ, argK m c i = (r : EReal)) :
    (dats m 0 c).arrAt 3 cfg0.N = Cert.Reference8Ideal.Win.result (argQ m c) (argK m c) (argV m c) := by
  refine (dats m 0 c).arrAt_eq_of_covers 3 _ (by decide +kernel) fun t hf y => ?_
  blk_simp
  have h0 := coord0_lt t
  have h1 := coord1_lt t
  have h2 := coord2_lt (grid0.coords t)
  rw [after0_3]
  idx_vars y
  obtain ⟨g, d, rfl⟩ : ∃ (g : Fin 8) (d : Fin 128), y1 = ⟨128 * g.val + d.val, by omega⟩ :=
    ⟨⟨y1.val / 128, by omega⟩, ⟨y1.val % 128, by omega⟩, Fin.ext (by show y1.val = 128 * (y1.val / 128) + y1.val % 128; omega)⟩
  have he : ((View.whole main_v3).slice (win0_3.rect t)).emb (ix2 y0 ⟨128 * g.val + d.val, by omega⟩)
      = ix2 ⟨(⟨_, h0⟩ : Fin 2).val * 8192 + (⟨256 * (grid0.coords t 2).val + y0.val, by omega⟩ : Fin 8192).val, by omega⟩
          ⟨((⟨_, h1⟩ : Fin 2).val * 8 + g.val) * 128 + d.val, by omega⟩ := by
    blk_ext [idx3 t]
  rw [he]
  obtain ⟨G, M, hM, hG, hr⟩ := Cert.Reference8Ideal.Win.result_apply (argQ m c) (argK m c) (argV m c) ⟨_, h0⟩ ⟨_, h1⟩ g
    ⟨256 * (grid0.coords t 2).val + y0.val, by omega⟩ d
  refine Eq.trans ?_ hr.symm
  unfold outsAt0
  have hs := fun j : Fin 8192 => score_eq m c t g y0 j h0 h1 (by omega)
  have hx0 : ∀ a, ∃ r : ℝ, iblk m c 0 t a = (r : EReal) := fun a => by
    idx_vars a
    rw [iblk0 m c t a0 a1 (by omega) (by omega), v0_entry]
    exact hq _
  have hx1 : ∀ a, ∃ r : ℝ, iblk m c 1 t a = (r : EReal) := fun a => by
    idx_vars a
    rw [iblk1 m c t a0 a1 (by omega) (by omega), v1_entry]
    exact hk _
  rw [out_apply c _ _ _ _ _ _ _ _ _ _ _ _ hx0 hx1 y0 d g G M (by simp only [hs]; exact hM) hG]
  simp only [hs]
  congr 1
  funext j
  rw [value, dif_pos j.isLt, iblk2 m c t j d (by omega) (by omega), v2_entry]

end Cert.Kernel8Ideal.Win

end
-- ==== Proof.Window.lean ====
/- The sparse attention's window branch: the frames, and its result against the reference's where the queries and keys are
   finite. -/
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.WindowArray
public import proofs.«01_k».proof.Pre_finite_qk

@[expose] public section

noncomputable section

namespace Cert.Window

open Cert.Pre_finite_qk Idealize.ShloMosaic

theorem facts : Cert.Pre_finite_qk.Facts where
  bcast_S_S16384x2048 := by decide
  reducesTo_S16384x2048_S_d0_1 := by decide
  h_S_ := by decide
  bcast_S_S16384x256 := by decide
  reducesTo_S16384x256_S_d0_1 := by decide

/-- The precondition, entry by entry: the queries and the keys are real numbers. -/
theorem of_pre [Cert.Pre_finite_qk.Facts] (q : FVec Ideal S16384x2048 .f32) (k v : FVec Ideal S16384x256 .f32) (h : fn (F := Ideal) q k v = fun _ => 1#1) :
    (∀ i, ∃ r : ℝ, q i = (r : EReal)) ∧ ∀ i, ∃ r : ℝ, k i = (r : EReal) := by
  have h0 := congrFun h ix0
  dsimp only [fn] at h0
  have split : ∀ c d : BitVec 1, IntOp.andi c d = 1#1 → c = 1#1 ∧ d = 1#1 := by decide
  obtain ⟨h1, h2⟩ := split _ _ h0
  exact ⟨fun i => ⟨_, Cert.Finite.real_of_olt q _ i (Host.reduce_andi_all _ _ _ _ _ h1 i)⟩,
    fun i => ⟨_, Cert.Finite.real_of_olt k _ i (Host.reduce_andi_all _ _ _ _ _ h2 i)⟩⟩

end Cert.Window

namespace Cert.Proof

open Idealize.ShloMosaic Idealize.SL.Sem

/-- The window branch's reference runs, leaves its arguments and ends with every semaphore at zero. -/
theorem window_reference_frame : Cert.quiescent_Reference8Ideal (hReference8Ideal := Cert.Reference8Ideal.Gen.facts) :=
  fun m ρ _ => (θ_run (Cert.Reference8Ideal.defs (F := Ideal)) _ _).mono
    (fun r h => ⟨fun c => (h c).2, sem_eq_zero_of_no_sems (by decide) r.2⟩) (Cert.Reference8Ideal.Value.run m ρ)

/-- The kernel's scale in powers of two is the reference's rounded scale over `log 2`. -/
theorem window_scale : Cert.preserves_Kernel8_Kernel8Ideal :=
  IdealRules.named_const.statement Cert.Kernel8Ideal.κ "c" .f32 0x3E0293EE#32 (((11863283 / 134217728) * (Real.log 2)⁻¹ : ℝ) : EReal) rfl

/-- From equal arguments with finite queries and keys the window branch and its reference end with the same array. -/
theorem window : Cert.algebraic_Kernel8Ideal_Reference8Ideal_pre_finite_qk (hKernel8Ideal := Cert.Kernel8Ideal.Gen.facts)
    (hReference8Ideal := Cert.Reference8Ideal.Gen.facts) (hPre_finite_qk := Cert.Window.facts) := by
  intro m g m' g' hpre hagree
  letI := Cert.Window.facts
  refine ⟨fun c => Cert.Reference8Ideal.Win.result (Cert.Kernel8Ideal.Win.argQ m c) (Cert.Kernel8Ideal.Win.argK m c)
      (Cert.Kernel8Ideal.Win.argV m c), ?_, ?_⟩
  · refine (θ_run (Cert.Kernel8Ideal.defs (F := Ideal)) _ _).mono (fun r h c => ⟨(h c).1.trans ?_, (h c).2⟩) (Cert.Kernel8Ideal.Value.run_blocks m g)
    obtain ⟨hq, hk⟩ := Cert.Window.of_pre _ _ _ (hpre c)
    exact Cert.Kernel8Ideal.Win.arr_eq m c hq hk
  · refine (θ_run (Cert.Reference8Ideal.defs (F := Ideal)) _ _).mono (fun r h c => ⟨(h c).1.trans ?_, (h c).2⟩) (Cert.Reference8Ideal.Value.run m' g')
    obtain ⟨h0, h1, h2⟩ := hagree c
    beta_reduce
    rw [show Cert.Kernel8Ideal.Win.argQ m c = _ from h0.symm, show Cert.Kernel8Ideal.Win.argK m c = _ from h1.symm,
      show Cert.Kernel8Ideal.Win.argV m c = _ from h2.symm]
    exact Cert.Reference8Ideal.Win.res_eq m' c

end Cert.Proof

end
-- ==== Proof.SinksMath.lean ====
/- A softmax over a window of keys with a sink beside them: a further score that takes weight and has no value. The quotient
   of the window's weighted values by the weights against the whole row of weights divided one by one. No program is
   mentioned here. -/
module

public import proofs.«01_k».proof.Proof.Masked

@[expose] public section

noncomputable section

namespace Cert.Sinks

open Idealize.ShloMosaic

/-- A sum whose terms vanish outside a window. -/
theorem sum_window (f : ℕ → EReal) (k n N : ℕ) (hn : k + n ≤ N) (hb : ∀ j, j < k → f j = 0) (ha : ∀ j, k + n ≤ j → f j = 0) :
    ∑ j : Fin N, f j.val = ∑ j : Fin n, f (k + j.val) := by
  obtain ⟨r, rfl⟩ := Nat.exists_eq_add_of_le hn
  rw [← Finset.sum_range f, Finset.sum_range_add, Finset.sum_range_add, Finset.sum_eq_zero fun j hj => hb j (Finset.mem_range.1 hj),
    Finset.sum_eq_zero fun j _ => ha _ (Nat.le_add_right _ j), zero_add, add_zero, Finset.sum_range (fun x => f (k + x))]

/-- A maximum whose entries are `-∞` outside a window. -/
theorem max_window (s : ℕ → EReal) (k n N : ℕ) (hn : k + n ≤ N) (hb : ∀ j, j < k → s j = ⊥) (ha : ∀ j, k + n ≤ j → s j = ⊥) :
    (Finset.univ.fold max ⊥ fun j : Fin N => s j.val) = Finset.univ.fold max ⊥ fun j : Fin n => s (k + j.val) := by
  apply le_antisymm
  · refine Finset.fold_max_le _ |>.2 ⟨bot_le, fun j _ => ?_⟩
    rcases Nat.lt_or_ge j.val k with h | h
    · rw [hb _ h]; exact bot_le
    rcases Nat.lt_or_ge j.val (k + n) with h' | h'
    · refine Finset.le_fold_max _ |>.2 (Or.inr ⟨⟨j.val - k, by omega⟩, Finset.mem_univ _, ?_⟩)
      show s j.val ≤ s (k + (j.val - k))
      rw [Nat.add_sub_cancel' h]
    · rw [ha _ h']; exact bot_le
  · exact Finset.fold_max_le _ |>.2 ⟨bot_le, fun j _ => Finset.le_fold_max _ |>.2 (Or.inr ⟨⟨k + j.val, by omega⟩, Finset.mem_univ _, le_rfl⟩)⟩

/-- The row with a sink taken at once: each key's exponential over the sum of them and the sink's, times its value. -/
def sinked {N : ℕ} (t v : Fin N → EReal) (z : EReal) : EReal :=
  ∑ j, v j * Ideal.div (Ideal.exp (t j - max (Finset.univ.fold max ⊥ t) z))
    (∑ i, Ideal.exp (t i - max (Finset.univ.fold max ⊥ t) z) + Ideal.exp (z - max (Finset.univ.fold max ⊥ t) z))

/-- No exponent is positive: the exponential is a real number that is not negative. -/
theorem exp_real {x : EReal} (hx : x ≠ ⊤) (m : ℝ) : ∃ r : ℝ, 0 ≤ r ∧ Ideal.exp (x - (m : EReal)) = (r : EReal) := by
  induction x with
  | bot => exact ⟨0, le_rfl, by rw [EReal.bot_sub]; simp⟩
  | top => exact absurd rfl hx
  | coe x => exact ⟨_, (Real.exp_pos _).le, by rw [← EReal.coe_sub, Ideal.exp_coe]⟩

/-- Scores outside the window are `-∞`, none is `+∞`, one in the window is real and the sink is not `+∞`: the window's
    quotient is the whole row with its sink. -/
theorem window_sink (s v : ℕ → EReal) (z : EReal) (k n N : ℕ) (hn : k + n ≤ N) (hb : ∀ j, j < k → s j = ⊥) (ha : ∀ j, k + n ≤ j → s j = ⊥)
    (ht : ∀ j, s j ≠ ⊤) (hr : ∃ j : Fin n, s (k + j.val) ≠ ⊥) (hz : z ≠ ⊤) {m : EReal}
    (hm : m = max (Finset.univ.fold max ⊥ fun j : Fin n => s (k + j.val)) z) :
    Ideal.div (∑ j : Fin n, Ideal.exp (s (k + j.val) - m) * v (k + j.val)) (∑ j : Fin n, Ideal.exp (s (k + j.val) - m) + Ideal.exp (z - m))
      = sinked (fun j : Fin N => s j.val) (fun j => v j.val) z := by
  obtain ⟨j₀, hj₀⟩ := hr
  have hbot : m ≠ ⊥ := fun h => by
    have : s (k + j₀.val) ≤ m := hm ▸ le_max_of_le_left (Finset.le_fold_max _ |>.2 (Or.inr ⟨j₀, Finset.mem_univ _, le_rfl⟩))
    exact hj₀ (le_bot_iff.1 (h ▸ this))
  have htop : m ≠ ⊤ := by
    rw [hm]
    exact (max_lt (Finset.fold_max_lt _ |>.2 ⟨bot_lt_top, fun j _ => lt_top_iff_ne_top.2 (ht _)⟩) (lt_top_iff_ne_top.2 hz)).ne
  have hM : max (Finset.univ.fold max ⊥ fun j : Fin N => s j.val) z = m := by rw [max_window s k n N hn hb ha, hm]
  unfold sinked
  rw [hM]
  clear hM hm
  lift m to ℝ using ⟨htop, hbot⟩
  have hzero : ∀ j, s j = ⊥ → Ideal.exp (s j - (m : EReal)) = 0 := fun j hj => by rw [hj, EReal.bot_sub]; simp
  rw [sum_window (fun j => Ideal.exp (s j - (m : EReal))) k n N hn (fun j hj => hzero j (hb j hj)) (fun j hj => hzero j (ha j hj))]
  choose r hr0 hr using fun j => exp_real (ht j) m
  obtain ⟨e, he0, he⟩ := exp_real hz m
  have hpos : 0 < r (k + j₀.val) := by
    have h := hr (k + j₀.val)
    have h1 := ht (k + j₀.val)
    generalize s (k + j₀.val) = x at h h1 hj₀
    lift x to ℝ using ⟨h1, hj₀⟩
    rw [← EReal.coe_sub, Ideal.exp_coe] at h
    rw [← EReal.coe_eq_coe_iff.1 h]
    exact Real.exp_pos _
  have hD : ∑ j : Fin n, Ideal.exp (s (k + j.val) - (m : EReal)) + Ideal.exp (z - (m : EReal)) = ((∑ j : Fin n, r (k + j.val) + e : ℝ) : EReal) := by
    simp only [hr, he]
    rw [Cert.Softmax.coe_sum, EReal.coe_add]
  have hDpos : 0 < ∑ j : Fin n, r (k + j.val) + e :=
    add_pos_of_pos_of_nonneg (lt_of_lt_of_le hpos (Finset.single_le_sum (f := fun j : Fin n => r (k + j.val)) (fun j _ => hr0 _) (Finset.mem_univ j₀))) he0
  have hout : ∀ j, s j = ⊥ → v j * Ideal.div (Ideal.exp (s j - (m : EReal))) ((∑ j : Fin n, r (k + j.val) + e : ℝ) : EReal) = 0 := fun j hj => by
    rw [hzero j hj, Ideal.div_coe hDpos.ne', zero_mul, mul_zero]
  rw [hD, sum_window (fun j => v j * Ideal.div (Ideal.exp (s j - (m : EReal))) ((∑ j : Fin n, r (k + j.val) + e : ℝ) : EReal)) k n N hn
    (fun j hj => hout j (hb j hj)) (fun j hj => hout j (ha j hj)), Ideal.div_coe hDpos.ne', mul_comm, Cert.Masked.mul_sum _ _ _ (one_div_nonneg.2 hDpos.le)]
  refine Finset.sum_congr rfl fun j _ => ?_
  rw [Ideal.div_coe hDpos.ne', mul_comm (v _), mul_comm _ ((Ideal.exp _) * _), mul_right_comm]

end Cert.Sinks

end
-- ==== Proof.SinksBlock.lean ====
/- The sliding-window attention with sinks at a grid point: the two heads' queries one above the other, the masked scores,
   the softmax with its sinks, and what the point writes. -/
module

public import proofs.«01_k».proof.Proof.Gen.Kernel9Ideal.Value
public import proofs.«01_k».proof.Proof.Consts
public import proofs.«01_k».proof.Proof.Payloads
public import proofs.«01_k».proof.Proof.SinksMath
public import Idealize.ShloMosaic.Lib.Pipeline.ValueKit
public import Idealize.ShloMosaic.Lib.Pointwise
public import Idealize.ShloMosaic.Lib.Pipeline.Value

@[expose] public section

set_option maxRecDepth 16384

noncomputable section

namespace Cert.Kernel9Ideal.Swa

open Cert.Kernel9Ideal Cert.Kernel9Ideal.Gen Idealize.ShloMosaic Idealize.ShloMosaic.TcCoe Idealize.SL.Sem Cert.Sinks
open Cert.KernelIdeal.Attn (lane_lt lane_ge select_ofBool)

/-- The stacked queries: rows 0 to 511 keep the first head's 64 lanes, rows 512 to 1023 the second head's. -/
def halves (x : Vec Ideal S512x128 .bf16) : FVec Ideal S1024x128 .bf16 :=
  have v5 : FVec Ideal S512x128 .bf16 := shapeCast S512x128 x shapeCasts_S512x128_S512x128
  have v6 : IVec S512x128 32 := iota .tc S512x128 32 [1] iota_S512x128_d1_w32
  have v7 : FVec Ideal S512x128 .bf16 := broadcast S512x128 (Scalar.ofBits .bf16 0x0000#16)
  concatenate S1024x128 0 [⟨S512x128, (select (cmpi .slt v6 (broadcast S512x128 64#32)) v5 v7 : FVec Ideal S512x128 .bf16)⟩,
    ⟨S512x128, (select (cmpi .sge v6 (broadcast S512x128 64#32)) v5 v7 : FVec Ideal S512x128 .bf16)⟩] concatenates_S512x128_S512x128_S1024x128_d0

theorem halves_lo (x : Vec Ideal S512x128 .bf16) (r : Fin 512) (d : Fin 128) :
    halves x (ix2 ⟨r.val, by omega⟩ d) = if d.val < 64 then x (ix2 r d) else (0 : EReal) := by
  pointwise [halves]
  rw [lane_lt, select_ofBool]

theorem halves_hi (x : Vec Ideal S512x128 .bf16) (r : Fin 512) (d : Fin 128) :
    halves x (ix2 ⟨512 + r.val, by omega⟩ d) = if 64 ≤ d.val then x (ix2 r d) else (0 : EReal) := by
  pointwise [halves]
  rw [lane_ge, select_ofBool]

/-- The products of the stacked queries with a span of keys. -/
def products (q : FVec Ideal S1024x128 .bf16) (K : Vec Ideal S640x128 .bf16) : FVec Ideal S1024x640 .f32 :=
  matmul dot_S1024x128_S640x128_S1024x640_1_1_0_0_n_n none q (shapeCast S640x128 K shapeCasts_S640x128_S640x128 : FVec Ideal S640x128 .bf16) (constant S1024x640 .f32 0x00000000#32)

theorem pay2_eq (x : Vec Ideal S512x128 .bf16) (K : Vec Ideal S640x128 .bf16) : k0_pay2 x K = products (halves x) K := rfl

theorem products_apply (q : FVec Ideal S1024x128 .bf16) (K : Vec Ideal S640x128 .bf16) (r : Fin 1024) (j : Fin 640) :
    products q K (ix2 r j) = ∑ l : Fin 128, q (ix2 r l) * K (ix2 j l) := by
  pointwise [products]

theorem pay1_apply (V : Vec Ideal S640x128 .bf16) (j : Fin 640) (d : Fin 128) : k0_pay1 V (ix2 j d) = V (ix2 j d) := by
  pointwise [k0_pay1]

/-- How far a key lies before its query. -/
def rel (v0 v3 : BitVec 32) : IVec S1024x640 32 :=
  subi (addi (broadcast S1024x640 (Scalar.subi v0 v3)) k0_pay3) (iota .tc S1024x640 32 [1] iota_S1024x640_d1_w32)

/-- The scores with the keys outside the window at `-∞`. -/
def masked (w : IVec S1024x640 32) (s : FVec Ideal S1024x640 .f32) : FVec Ideal S1024x640 .f32 :=
  select (andi (cmpi .sge w (broadcast S1024x640 0#32)) (cmpi .slt w (broadcast S1024x640 128#32))) s
    (broadcast S1024x640 (Scalar.ofBits .f32 0xFF800000#32))

/-- Each row's sink: the first head's for the rows 0 to 511, the second head's for the others. -/
def sink (a b : EReal) : FVec Ideal S1024x1 .f32 :=
  select (cmpi .slt (iota .tc S1024x1 32 [0] iota_S1024x1_d0_w32) (broadcast S1024x1 512#32))
    (broadcast S1024x1 (a : Elt Ideal .f32)) (broadcast S1024x1 (b : Elt Ideal .f32))

/-- The largest of each row's scores and its sink. -/
def top (s : FVec Ideal S1024x640 .f32) (z : FVec Ideal S1024x1 .f32) : FVec Ideal S1024x1 .f32 :=
  maximumf (shapeCast S1024x1 (multiReduction .maximumf [1] S1024 s 0xFF800000#32 reduces_S1024x640_S1024 (.inl rfl) rfl) shapeCasts_S1024_S1024x1) z

/-- The weights of each row. -/
def weights (s : FVec Ideal S1024x640 .f32) (m : FVec Ideal S1024x1 .f32) : FVec Ideal S1024x640 .f32 :=
  exp (subf s (broadcastTo S1024x640 m broadcasts_S1024x1_S1024x640))

/-- The weighted values over the sum of the weights, the sink's among them. -/
def quotient (V : FVec Ideal S640x128 .bf16) (p : FVec Ideal S1024x640 .f32) (z m : FVec Ideal S1024x1 .f32) : FVec Ideal S1024x128 .f32 :=
  divf (matmul dot_S1024x640_S640x128_S1024x128_1_0_0_1_n_n none (truncf .bf16 p bitsLt_bf16_f32) V (constant S1024x128 .f32 0x00000000#32))
    (broadcastTo S1024x128 (addf (shapeCast S1024x1 (multiReduction .add [1] S1024 p 0x00000000#32 reduces_S1024x640_S1024 (.inl rfl) rfl) shapeCasts_S1024_S1024x1)
      (exp (subf z m))) broadcasts_S1024x1_S1024x128)

/-- The first head's lanes from the upper rows, the second head's from the lower ones. -/
def merged (a : FVec Ideal S1024x128 .f32) : FVec Ideal S512x128 .bf16 :=
  truncf .bf16 (select (cmpi .slt (iota .tc S512x128 32 [1] iota_S512x128_d1_w32) (broadcast S512x128 64#32))
    (extractStridedSlice S512x128 ![0, 0] a slices_S1024x128_o0_0_S512x128)
    (extractStridedSlice S512x128 ![512, 0] a slices_S1024x128_o512_0_S512x128) : FVec Ideal S512x128 .f32) bitsLt_bf16_f32

theorem pay4_eq (v0 v3 : BitVec 32) (V : FVec Ideal S640x128 .bf16) (s : FVec Ideal S1024x640 .f32) (a b : EReal) :
    k0_pay4 v0 v3 V s k0_pay3 (iota .tc S1024x640 32 [1] iota_S1024x640_d1_w32) a b
      = merged (quotient V (weights (masked (rel v0 v3) s) (top (masked (rel v0 v3) s) (sink a b))) (sink a b) (top (masked (rel v0 v3) s) (sink a b))) := rfl

/-- The remainder of a row number. -/
theorem row_word : ∀ r : Fin 1024, Scalar.select (IntOp.andi
      (IntOp.xori (IntOp.cmpi CmpIPredicate.slt (IntOp.remsi ArithUnit.vector (BitVec.ofNat 32 r.val) 512#32) 0#32) (Scalar.cmpi .slt 512#32 0#32))
      (IntOp.cmpi CmpIPredicate.ne (IntOp.remsi ArithUnit.vector (BitVec.ofNat 32 r.val) 512#32) 0#32))
    (IntOp.addi (IntOp.remsi ArithUnit.vector (BitVec.ofNat 32 r.val) 512#32) 512#32)
    (IntOp.remsi ArithUnit.vector (BitVec.ofNat 32 r.val) 512#32) = BitVec.ofNat 32 (r.val % 512) := by decide +kernel

theorem pay3_apply (r : Fin 1024) (j : Fin 640) : k0_pay3 (ix2 r j) = BitVec.ofNat 32 (r.val % 512) := by
  rw [← row_word r]
  pointwise [k0_pay3]
  rw [show Scalar.select (Scalar.cmpi CmpIPredicate.eq 512#32 0#32) 1#32 512#32 = 512#32 by decide]

theorem rel_apply (e : Nat) (he : e < 16) (r : Fin 1024) (j : Fin 640) :
    rel (BitVec.ofNat 32 (512 * e)) (BitVec.ofNat 32 (512 * e - 128)) (ix2 r j)
      = BitVec.ofNat 32 (512 * e - (512 * e - 128)) + BitVec.ofNat 32 (r.val % 512) - BitVec.ofNat 32 j.val := by
  have h : ∀ e : Fin 16, Scalar.subi (BitVec.ofNat 32 (512 * e.val)) (BitVec.ofNat 32 (512 * e.val - 128)) = BitVec.ofNat 32 (512 * e.val - (512 * e.val - 128)) := by
    decide +kernel
  have h' := h ⟨e, he⟩
  simp only [] at h'
  pointwise [rel]
  rw [pay3_apply, h']
  rfl

theorem masked_apply (e : Nat) (he : e < 16) (s : FVec Ideal S1024x640 .f32) (r : Fin 1024) (j : Fin 640) :
    masked (rel (BitVec.ofNat 32 (512 * e)) (BitVec.ofNat 32 (512 * e - 128))) s (ix2 r j)
      = if 512 * e - 128 + j.val ≤ 512 * e + r.val % 512 ∧ 512 * e + r.val % 512 < 512 * e - 128 + j.val + 128 then s (ix2 r j) else ⊥ := by
  have hj := j.isLt
  have hp : r.val % 512 < 512 := Nat.mod_lt _ (by norm_num)
  have hr := rel_apply e he r j
  generalize r.val % 512 = p at hp hr
  have hi : (BitVec.ofNat 32 (512 * e - (512 * e - 128)) + BitVec.ofNat 32 p - BitVec.ofNat 32 j.val).toInt
      = ((512 * e - (512 * e - 128) : Nat) : Int) + p - j.val := by
    generalize hL : 512 * e - (512 * e - 128) = L
    have hL' : L ≤ 128 := by omega
    rw [← BitVec.ofNat_add, BitVec.toInt_sub, BitVec.toInt_ofNat', BitVec.toInt_ofNat']
    simp only [Int.bmod]
    omega
  have h1 : IntOp.cmpi CmpIPredicate.sge (BitVec.ofNat 32 (512 * e - (512 * e - 128)) + BitVec.ofNat 32 p - BitVec.ofNat 32 j.val) 0#32
      = BitVec.ofBool (decide (512 * e - 128 + j.val ≤ 512 * e + p)) := by
    show BitVec.ofBool (BitVec.sle _ _) = _
    rw [BitVec.sle_eq_decide, hi]
    exact congrArg BitVec.ofBool (decide_eq_decide.2 (by rw [show (0#32).toInt = 0 by decide]; omega))
  have h2 : IntOp.cmpi CmpIPredicate.slt (BitVec.ofNat 32 (512 * e - (512 * e - 128)) + BitVec.ofNat 32 p - BitVec.ofNat 32 j.val) 128#32
      = BitVec.ofBool (decide (512 * e + p < 512 * e - 128 + j.val + 128)) := by
    show BitVec.ofBool (BitVec.slt _ _) = _
    rw [BitVec.slt_eq_decide, hi]
    exact congrArg BitVec.ofBool (decide_eq_decide.2 (by rw [show (128#32).toInt = 128 by decide]; omega))
  pointwise [masked]
  rw [Cert.Consts.neg_inf, hr, h1, h2]
  by_cases ha : 512 * e - 128 + j.val ≤ 512 * e + p <;> by_cases hb : 512 * e + p < 512 * e - 128 + j.val + 128 <;>
    simp [ha, hb, Scalar.select, IntOp.andi]

/-- The upper rows, as a word comparison. -/
theorem row_lt : ∀ r : Fin 1024, IntOp.cmpi CmpIPredicate.slt (BitVec.ofNat 32 r.val) 512#32 = BitVec.ofBool (decide (r.val < 512)) := by decide +kernel

theorem sink_apply (a b : EReal) (r : Fin 1024) : sink a b (ix2 r 0) = if r.val < 512 then a else b := by
  pointwise [sink]
  rw [row_lt, select_ofBool]

theorem top_apply (s : FVec Ideal S1024x640 .f32) (z : FVec Ideal S1024x1 .f32) (r : Fin 1024) :
    top s z (ix2 r 0) = max (Finset.univ.fold max ⊥ fun j : Fin 640 => s (ix2 r j)) (z (ix2 r 0)) := by
  pointwise [top]
  rw [Cert.Consts.neg_inf]

theorem weights_apply (s : FVec Ideal S1024x640 .f32) (m : FVec Ideal S1024x1 .f32) (r : Fin 1024) (j : Fin 640) :
    weights s m (ix2 r j) = Ideal.exp (s (ix2 r j) - m (ix2 r 0)) := by
  pointwise [weights]

theorem quotient_apply (V : FVec Ideal S640x128 .bf16) (p : FVec Ideal S1024x640 .f32) (z m : FVec Ideal S1024x1 .f32) (r : Fin 1024) (d : Fin 128) :
    quotient V p z m (ix2 r d) = Ideal.div (∑ j : Fin 640, p (ix2 r j) * V (ix2 j d)) (∑ j : Fin 640, p (ix2 r j) + Ideal.exp (z (ix2 r 0) - m (ix2 r 0))) := by
  pointwise [quotient]

theorem merged_apply (a : FVec Ideal S1024x128 .f32) (p : Fin 512) (d : Fin 128) :
    merged a (ix2 p d) = a (ix2 ⟨d.val / 64 * 512 + p.val, by omega⟩ d) := by
  pointwise [merged]
  rw [lane_lt, select_ofBool]
  split
  · congr 2; exact Fin.ext (by show p.val = _ / 64 * 512 + p.val; omega)
  · congr 2; exact Fin.ext (by show 512 + p.val = _ / 64 * 512 + p.val; omega)

theorem coord1_lt' (i : grid0.Coords) : (i 1).val < 8 := (i 1).isLt
theorem coord2_lt (i : grid0.Coords) : (i 2).val < 16 := (i 2).isLt

/-- The span of keys begins one window before the queries' block, or at the first key. -/
theorem off1 (i : grid0.Coords) : k0_off1 i = ![512 * (i 2).val - 128, 0] := by
  have h : ∀ a : Fin 16, (Scalar.indexCast (Scalar.maxsi (Scalar.subi (Scalar.muli (BitVec.ofNat 32 a.val) 512#32) 128#32) 0#32)).toNat = 512 * a.val - 128 := by
    decide +kernel
  have h' := h (i 2)
  unfold k0_off1
  funext a
  match a with
  | ⟨0, _⟩ => exact h'
  | ⟨1, _⟩ => rfl

/-- The two sinks' positions. -/
theorem off2 (i : grid0.Coords) : k0_off2 i = ![2 * (i 1).val] := by
  have h : ∀ a : Fin 8, (Scalar.indexCast (Scalar.muli 2#32 (BitVec.ofNat 32 a.val))).toNat = 2 * a.val := by decide +kernel
  have h' := h (i 1)
  unfold k0_off2
  funext a
  match a with
  | ⟨0, _⟩ => exact h'

theorem off3 (i : grid0.Coords) : k0_off3 i = ![2 * (i 1).val + 1] := by
  have h : ∀ a : Fin 8, (Scalar.indexCast (Scalar.addi (Scalar.muli 2#32 (BitVec.ofNat 32 a.val)) 1#32)).toNat = 2 * a.val + 1 := by decide +kernel
  have h' := h (i 1)
  unfold k0_off3
  funext a
  match a with
  | ⟨0, _⟩ => exact h'

/-- The span read out of all keys or values. -/
theorem ld_apply (x : Vec Ideal S8192x128 .bf16) (off : Fin 2 → Nat) (k : Nat) (ho : off = ![k, 0]) (hb : ∀ a, off a + S640x128.size a ≤ S8192x128.size a)
    (j : Fin 640) (l : Fin 128) (hj : k + j.val < 8192) :
    View.ld x (Rect.unit (s := S8192x128) off S640x128.size hb) (ix2 j l) = x (ix2 ⟨k + j.val, hj⟩ l) := by
  subst ho
  pointwise

/-- A sink read out of all of them. -/
theorem ld_sink (x : Vec Ideal S16 .f32) (off : Fin 1 → Nat) (k : Nat) (ho : off = ![k]) (hb : ∀ a, off a + S1.size a ≤ S16.size a) (hk : k < 16) (y : S1.Idx) :
    View.ld x (Rect.unit (s := S16) off S1.size hb) y = x (ix1 ⟨k, hk⟩) := by
  subst ho
  have hy : y = ix1 0 := funext fun a => match a with | ⟨0, _⟩ => Fin.ext (Nat.lt_one_iff.1 (y 0).isLt)
  rw [hy]
  pointwise

variable (c : Dev nD) (i : grid0.Coords) (arg3 : Memref sig .tc .smem S16 .f32) (harg3 : arg3.IsWhole) (arg4 : Memref sig .tc .vmem S512x128 .bf16) (harg4 : arg4.IsWhole)
  (arg5 : Memref sig .tc .vmem S8192x128 .bf16) (harg5 : arg5.IsWhole) (arg6 : Memref sig .tc .vmem S8192x128 .bf16) (harg6 : arg6.IsWhole)
  (arg7 : Memref sig .tc .vmem S512x128 .bf16) (harg7 : arg7.IsWhole)

/-- The span of keys, or of values, that a grid point reads. -/
abbrev span (x : Vec Ideal S8192x128 .bf16) : Vec Ideal S640x128 .bf16 := View.ld x (Rect.unit (s := S8192x128) (k0_off1 i) S640x128.size (k0_off1_inb i))

/-- The masked scores of a grid point. -/
abbrev sc (x1 : Vec Ideal S512x128 .bf16) (x2 : Vec Ideal S8192x128 .bf16) : FVec Ideal S1024x640 .f32 :=
  masked (rel (BitVec.ofNat 32 (512 * (i 2).val)) (BitVec.ofNat 32 (512 * (i 2).val - 128))) (products (halves x1) (span i x2))

/-- The sinks of a grid point's rows. -/
abbrev sk (x0 : Vec Ideal S16 .f32) : FVec Ideal S1024x1 .f32 :=
  sink (x0 (ix1 ⟨2 * (i 1).val, by have := coord1_lt' i; omega⟩)) (x0 (ix1 ⟨2 * (i 1).val + 1, by have := coord1_lt' i; omega⟩))

/-- The written block over the masked scores. -/
theorem out_eq (x0 : Vec Ideal S16 .f32) (x1 : Vec Ideal S512x128 .bf16) (x2 x3 : Vec Ideal S8192x128 .bf16) (y : S512x128.Idx) :
    out0_A_4 (F := Ideal) c i arg3 harg3 arg4 harg4 arg5 harg5 arg6 harg6 arg7 harg7 x0 x1 x2 x3 y
      = merged (quotient (k0_pay1 (span i x3)) (weights (sc i x1 x2) (top (sc i x1 x2) (sk i x0))) (sk i x0) (top (sc i x1 x2) (sk i x0))) y := by
  have key : ∃ (v0 v3 : BitVec 32) (a b : EReal), v0 = BitVec.ofNat 32 (512 * (i 2).val) ∧ v3 = BitVec.ofNat 32 (512 * (i 2).val - 128) ∧
      a = x0 (ix1 ⟨2 * (i 1).val, by have := coord1_lt' i; omega⟩) ∧ b = x0 (ix1 ⟨2 * (i 1).val + 1, by have := coord1_lt' i; omega⟩) ∧
      out0_A_4 (F := Ideal) c i arg3 harg3 arg4 harg4 arg5 harg5 arg6 harg6 arg7 harg7 x0 x1 x2 x3 y
        = k0_pay4 v0 v3 (k0_pay1 (span i x3)) (products (halves x1) (span i x2)) k0_pay3 (iota .tc S1024x640 32 [1] iota_S1024x640_d1_w32) a b y := by
    frame_out
    have h1 : ∀ a : Fin 16, Scalar.muli (BitVec.ofNat 32 a.val) 512#32 = BitVec.ofNat 32 (512 * a.val) := by decide +kernel
    have h2 : ∀ a : Fin 16, Scalar.maxsi (Scalar.subi (Scalar.muli (BitVec.ofNat 32 a.val) 512#32) 128#32) 0#32 = BitVec.ofNat 32 (512 * a.val - 128) := by
      decide +kernel
    exact ⟨_, _, _, _, h1 (i 2), h2 (i 2), ld_sink x0 _ _ (off2 i) _ _ _, ld_sink x0 _ _ (off3 i) _ _ _, rfl⟩
  obtain ⟨v0, v3, a, b, rfl, rfl, rfl, rfl, h⟩ := key
  rw [h, pay4_eq]

/-- What a grid point writes for lane `d` of query `p`, where the scores are real: the row with its sink. `S r` are the
    scores of stacked row `r`. -/
theorem out_apply (x0 : Vec Ideal S16 .f32) (x1 : Vec Ideal S512x128 .bf16) (x2 x3 : Vec Ideal S8192x128 .bf16) (S : Nat → Nat → ℝ)
    (hS : ∀ (r : Fin 1024) (j : Fin 8192), (∑ l : Fin 128, halves x1 (ix2 r l) * x2 (ix2 j l) : EReal) = ((S r.val j.val : ℝ) : EReal))
    (p : Fin 512) (d : Fin 128) (z : EReal) (hz : z = x0 (ix1 ⟨2 * (i 1).val + d.val / 64, by have := coord1_lt' i; omega⟩)) (hz' : z ≠ ⊤) :
    out0_A_4 (F := Ideal) c i arg3 harg3 arg4 harg4 arg5 harg5 arg6 harg6 arg7 harg7 x0 x1 x2 x3 (ix2 p d)
      = sinked (fun j : Fin 8192 => if j.val ≤ 512 * (i 2).val + p.val ∧ 512 * (i 2).val + p.val < j.val + 128
          then ((S (d.val / 64 * 512 + p.val) j.val : ℝ) : EReal) else ⊥) (fun j => x3 (ix2 j d)) z := by
  have h16 := coord2_lt i
  have h8 := coord1_lt' i
  have hp := p.isLt
  have hd := d.isLt
  rw [out_eq, merged_apply, quotient_apply]
  have hmod : (d.val / 64 * 512 + p.val) % 512 = p.val := by omega
  have hsk : sk i x0 (ix2 ⟨d.val / 64 * 512 + p.val, by omega⟩ 0) = z := by
    unfold sk
    rw [sink_apply, hz]
    split
    · congr 2; exact Fin.ext (by show 2 * (i 1).val = 2 * (i 1).val + d.val / 64; rename_i h; change d.val / 64 * 512 + p.val < 512 at h; omega)
    · congr 2; exact Fin.ext (by show 2 * (i 1).val + 1 = 2 * (i 1).val + d.val / 64; rename_i h; change ¬ d.val / 64 * 512 + p.val < 512 at h; omega)
  let s : ℕ → EReal := fun j => if j ≤ 512 * (i 2).val + p.val ∧ 512 * (i 2).val + p.val < j + 128 then ((S (d.val / 64 * 512 + p.val) j : ℝ) : EReal) else ⊥
  let v : ℕ → EReal := fun j => if h : j < 8192 then x3 (ix2 ⟨j, h⟩ d) else 0
  have hsc : ∀ j : Fin 640, sc i x1 x2 (ix2 ⟨d.val / 64 * 512 + p.val, by omega⟩ j) = s (512 * (i 2).val - 128 + j.val) := fun j => by
    unfold sc span
    rw [masked_apply _ h16]
    show (if _ ≤ 512 * (i 2).val + (d.val / 64 * 512 + p.val) % 512 ∧ 512 * (i 2).val + (d.val / 64 * 512 + p.val) % 512 < _ then _ else _) = _
    rw [hmod, products_apply]
    refine if_congr Iff.rfl ?_ rfl
    rw [← hS ⟨d.val / 64 * 512 + p.val, by omega⟩ ⟨512 * (i 2).val - 128 + j.val, by omega⟩]
    exact Finset.sum_congr rfl fun l _ => by rw [ld_apply x2 _ _ (off1 i) _ j l (by omega)]
  have hV : ∀ j : Fin 640, k0_pay1 (span i x3) (ix2 j d) = v (512 * (i 2).val - 128 + j.val) := fun j => by
    unfold span
    rw [pay1_apply, ld_apply x3 _ _ (off1 i) _ j d (by omega)]
    show _ = dite _ _ _
    rw [dif_pos (by omega)]
  have hv : (fun j : Fin 8192 => x3 (ix2 j d)) = fun j : Fin 8192 => v j.val := funext fun j => by
    show _ = dite _ _ _
    rw [dif_pos j.isLt]
  simp only [weights_apply, top_apply, hsc, hV, hsk]
  rw [hv]
  refine window_sink s v z (512 * (i 2).val - 128) 640 8192 (by omega) (fun j hj => if_neg (by omega)) (fun j hj => if_neg (by omega)) (fun j => ?_) ?_ hz' rfl
  · show (if _ then _ else _ : EReal) ≠ ⊤
    split
    · exact EReal.coe_ne_top _
    · exact bot_ne_top
  · refine ⟨⟨512 * (i 2).val + p.val - (512 * (i 2).val - 128), by omega⟩, ?_⟩
    show (if _ then _ else _ : EReal) ≠ ⊥
    rw [if_pos (by show 512 * (i 2).val - 128 + (512 * (i 2).val + p.val - (512 * (i 2).val - 128)) ≤ _ ∧ _ < 512 * (i 2).val - 128 + (512 * (i 2).val + p.val - (512 * (i 2).val - 128)) + 128; omega)]
    exact EReal.coe_ne_bot _

end Cert.Kernel9Ideal.Swa

end
-- ==== Proof.SinksRef.lean ====
/- The reference of the sliding-window attention with sinks read off stage by stage: the scores, the mask, the softmax with
   its sinks and the weighted sum of the values. `res_eq` says that the reference's result is the stages one after the
   other, and `result_apply` gives it at a position as the row with its sink. -/
module

public import proofs.«01_k».proof.Proof.Gen.Reference9Ideal.Run
public import proofs.«01_k».proof.Proof.Consts
public import proofs.«01_k».proof.Proof.SinksMath
public import Idealize.ShloMosaic.Lib.Pointwise
public import Idealize.ShloMosaic.Lib.Tactic.CleanTypes
public import Idealize.ShloMosaic.Lib.Tactic.WordOmega

@[expose] public section

set_option maxRecDepth 16384

noncomputable section

namespace Cert.Reference9Ideal.Swa

open Cert.Reference9Ideal Cert.Reference9Ideal.Gen Cert.Reference9Ideal.Value Idealize.ShloMosaic Idealize.ShloMosaic.TcCoe Idealize.SL.Sem

/-- Scaled scores `[batch, query, group, head, key]`. -/
def scores (y : FVec Ideal S16384x4608 .f32) : FVec Ideal S2x8192x4x4x8192 .f32 :=
  mulf (transpose S2x8192x4x4x8192 [0, 3, 1, 4, 2] (Host.dotGeneral dot_S2x8192x4x64_S2x8192x4x4x64_S2x4x8192x8192x4_3_4_1_13_02_02 none
      (shapeCast S2x8192x4x64 (extractStridedSlice S16384x256 ![0, 4096] y slices_S16384x4608_S16384x256_0_4096) shapeCasts_S16384x256_S2x8192x4x64)
      (shapeCast S2x8192x4x4x64 (extractStridedSlice S16384x1024 ![0, 3072] y slices_S16384x4608_S16384x1024_0_3072) shapeCasts_S16384x1024_S2x8192x4x4x64))
      transposes_S2x4x8192x8192x4_S2x8192x4x4x8192_0_3_1_4_2)
    (broadcastInDim S2x8192x4x4x8192 ![] bcast_S_S2x8192x4x4x8192 (constant S_ .f32 0x3E000000#32))

/-- How far each key lies before each query, as words. -/
def rel : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- Which keys lie in the window of each query. -/
def inside : IVec S8192x8192 1 :=
  andi (cmpi .sge rel (broadcastInDim S8192x8192 ![] bcast_S_S8192x8192 (constantI S_ 32 0#32)))
    (cmpi .slt rel (broadcastInDim S8192x8192 ![] bcast_S_S8192x8192 (constantI S_ 32 128#32)))

/-- Scores with every key outside the query's window at `-∞`. -/
def masked (s : FVec Ideal S2x8192x4x4x8192 .f32) : FVec Ideal S2x8192x4x4x8192 .f32 :=
  select (broadcastInDim S2x8192x4x4x8192 ![0, 1, 2, 3, 4] bcast_S1x8192x1x1x8192_S2x8192x4x4x8192_0_1_2_3_4
      (broadcastInDim S1x8192x1x1x8192 ![1, 4] bcast_S8192x8192_S1x8192x1x1x8192_1_4 inside)) s
    (broadcastInDim S2x8192x4x4x8192 ![] bcast_S_S2x8192x4x4x8192 (id (constant S_ .f32 0xFF800000#32)))

/-- Each head's sink beside its rows. -/
def sink (z : FVec Ideal S16 .f32) : FVec Ideal S2x8192x4x4x1 .f32 :=
  broadcastInDim S2x8192x4x4x1 ![0, 1, 2, 3, 4] bcast_S1x1x4x4x1_S2x8192x4x4x1_0_1_2_3_4
    (broadcastInDim S1x1x4x4x1 ![2, 3] bcast_S4x4_S1x1x4x4x1_2_3 (shapeCast S4x4 z shapeCasts_S16_S4x4))

/-- The largest of each row's scores. -/
def rowMax (s : FVec Ideal S2x8192x4x4x8192 .f32) : FVec Ideal S2x8192x4x4x1 .f32 :=
  broadcastInDim S2x8192x4x4x1 ![0, 1, 2, 3] bcast_S2x8192x4x4_S2x8192x4x4x1_0_1_2_3
    (Host.reduce FloatOps.maximumf s (constant S_ .f32 0xFF800000#32) reducesTo_S2x8192x4x4x8192_S2x8192x4x4_d4 h_S_)

/-- The largest of each row's scores and its sink. -/
def top (s : FVec Ideal S2x8192x4x4x8192 .f32) (z : FVec Ideal S2x8192x4x4x1 .f32) : FVec Ideal S2x8192x4x4x1 .f32 :=
  maximumf (rowMax s) z

/-- The exponentials of the scores taken off the maximum. -/
def expo (s : FVec Ideal S2x8192x4x4x8192 .f32) (x : FVec Ideal S2x8192x4x4x1 .f32) : FVec Ideal S2x8192x4x4x8192 .f32 :=
  Host.exp (subf s (broadcastInDim S2x8192x4x4x8192 ![0, 1, 2, 3, 4] bcast_S2x8192x4x4x1_S2x8192x4x4x8192_0_1_2_3_4 x))

/-- Each row divided by its sum and its sink's exponential. -/
def normed (e : FVec Ideal S2x8192x4x4x8192 .f32) (z x : FVec Ideal S2x8192x4x4x1 .f32) : FVec Ideal S2x8192x4x4x8192 .f32 :=
  Host.divf e (broadcastInDim S2x8192x4x4x8192 ![0, 1, 2, 3, 4] bcast_S2x8192x4x4x1_S2x8192x4x4x8192_0_1_2_3_4
    (addf (broadcastInDim S2x8192x4x4x1 ![0, 1, 2, 3] bcast_S2x8192x4x4_S2x8192x4x4x1_0_1_2_3
        (Host.reduceAdd e (constant S_ .f32 0x00000000#32) reducesTo_S2x8192x4x4x8192_S2x8192x4x4_d4 h_S_)) (Host.exp (subf z x))))

/-- The weighted sum of the values, one row per token. -/
def summed (y : FVec Ideal S16384x4608 .f32) (a : FVec Ideal S2x8192x4x4x8192 .f32) : FVec Ideal S16384x1024 .bf16 :=
  truncf .bf16 (shapeCast S16384x1024 (transpose S2x8192x4x4x64 [0, 3, 1, 4, 2]
    (Host.dotGeneral dot_S2x8192x4x64_S2x8192x4x4x8192_S2x4x64x8192x4_1_4_3_13_02_02 none
      (shapeCast S2x8192x4x64 (extractStridedSlice S16384x256 ![0, 4352] y slices_S16384x4608_S16384x256_0_4352) shapeCasts_S16384x256_S2x8192x4x64) a)
    transposes_S2x4x64x8192x4_S2x8192x4x4x64_0_3_1_4_2) shapeCasts_S2x8192x4x4x64_S16384x1024) bitsLt_bf16_f32

/-- The whole reference. -/
def result (y : FVec Ideal S16384x4608 .f32) (z : FVec Ideal S16 .f32) : FVec Ideal S16384x1024 .bf16 :=
  summed y (normed (expo (masked (scores y)) (top (masked (scores y)) (sink z))) (sink z) (top (masked (scores y)) (sink z)))

theorem res_eq (m : (ℓ : Loc nD τ sig) → Buf (Elt Ideal) ℓ) (c : Dev nD) :
    res_out0 m c = result (m ((c.tc : Thread nD τ).loc main_arg0)) (m ((c.tc : Thread nD τ).loc main_arg1)) := by
  unfold res_out0 res_main_v44
  rfl

theorem scores_apply (y : FVec Ideal S16384x4608 .f32) (b : Fin 2) (h g : Fin 4) (t j : Fin 8192) :
    scores y (ix5 b t h g j) = (∑ l : Fin 64, y (ix2 ⟨b.val * 8192 + j.val, by omega⟩ ⟨4096 + (h.val * 64 + l.val), by omega⟩)
      * y (ix2 ⟨b.val * 8192 + t.val, by omega⟩ ⟨3072 + (h.val * 256 + g.val * 64 + l.val), by omega⟩)) * Ideal.ofBits .f32 0x3E000000#32 := by
  pointwise [scores]

theorem rel_apply (t j : Fin 8192) : rel (ix2 t j) = BitVec.ofNat 32 t.val - BitVec.ofNat 32 j.val := by
  pointwise [rel]
  rfl

theorem inside_apply (t j : Fin 8192) : inside (ix2 t j) = BitVec.ofBool (decide (j.val ≤ t.val ∧ t.val < j.val + 128)) := by
  have ht := t.isLt
  have hj := j.isLt
  have hi : (BitVec.ofNat 32 t.val - BitVec.ofNat 32 j.val).toInt = (t.val : Int) - j.val := by
    rw [BitVec.toInt_sub, BitVec.toInt_ofNat', BitVec.toInt_ofNat']
    simp only [Int.bmod]
    omega
  have h1 : IntOp.cmpi CmpIPredicate.sge (BitVec.ofNat 32 t.val - BitVec.ofNat 32 j.val) 0#32 = BitVec.ofBool (decide (j.val ≤ t.val)) := by
    show BitVec.ofBool (BitVec.sle _ _) = _
    rw [BitVec.sle_eq_decide, hi]
    exact congrArg BitVec.ofBool (decide_eq_decide.2 (by rw [show (0#32).toInt = 0 by decide]; omega))
  have h2 : IntOp.cmpi CmpIPredicate.slt (BitVec.ofNat 32 t.val - BitVec.ofNat 32 j.val) 128#32 = BitVec.ofBool (decide (t.val < j.val + 128)) := by
    show BitVec.ofBool (BitVec.slt _ _) = _
    rw [BitVec.slt_eq_decide, hi]
    exact congrArg BitVec.ofBool (decide_eq_decide.2 (by rw [show (128#32).toInt = 128 by decide]; omega))
  pointwise [inside]
  rw [rel_apply, h1, h2]
  by_cases ha : j.val ≤ t.val <;> by_cases hb : t.val < j.val + 128 <;> simp [ha, hb, IntOp.andi]

theorem masked_apply (s : FVec Ideal S2x8192x4x4x8192 .f32) (b : Fin 2) (h g : Fin 4) (t j : Fin 8192) :
    masked s (ix5 b t h g j) = if j.val ≤ t.val ∧ t.val < j.val + 128 then s (ix5 b t h g j) else ⊥ := by
  pointwise [masked]
  have hb : (id (constant (F := Ideal) S_ .f32 4286578688#32) ix0 : EReal) = ⊥ := Consts.neg_inf
  rw [hb, inside_apply]
  by_cases h1 : j.val ≤ t.val ∧ t.val < j.val + 128
  · rw [if_pos h1, decide_eq_true h1]; rfl
  · rw [if_neg h1, decide_eq_false h1]; rfl

theorem sink_apply (z : FVec Ideal S16 .f32) (b : Fin 2) (h g : Fin 4) (t : Fin 8192) :
    sink z (ix5 b t h g 0) = z (ix1 ⟨h.val * 4 + g.val, by omega⟩) := by
  pointwise [sink]

theorem rowMax_apply (s : FVec Ideal S2x8192x4x4x8192 .f32) (b : Fin 2) (h g : Fin 4) (t : Fin 8192) :
    rowMax s (ix5 b t h g 0) = Finset.univ.fold max ⊥ fun k : Fin 8192 => s (ix5 b t h g k) := by
  pointwise [rowMax]
  rw [Consts.neg_inf]

theorem max_at {S : Shape} (x y : FVec Ideal S .f32) (i : S.Idx) : maximumf x y i = max (x i : EReal) (y i) := rfl

theorem top_apply (s : FVec Ideal S2x8192x4x4x8192 .f32) (z : FVec Ideal S2x8192x4x4x1 .f32) (b : Fin 2) (h g : Fin 4) (t : Fin 8192) :
    top s z (ix5 b t h g 0) = max (Finset.univ.fold max ⊥ fun k : Fin 8192 => s (ix5 b t h g k)) (z (ix5 b t h g 0)) := by
  unfold top
  rw [max_at, rowMax_apply]

theorem expo_apply (s : FVec Ideal S2x8192x4x4x8192 .f32) (x : FVec Ideal S2x8192x4x4x1 .f32) (b : Fin 2) (h g : Fin 4) (t j : Fin 8192) :
    expo s x (ix5 b t h g j) = Ideal.exp (s (ix5 b t h g j) - x (ix5 b t h g 0)) := by
  pointwise [expo]

theorem normed_apply (e : FVec Ideal S2x8192x4x4x8192 .f32) (z x : FVec Ideal S2x8192x4x4x1 .f32) (b : Fin 2) (h g : Fin 4) (t j : Fin 8192) :
    normed e z x (ix5 b t h g j)
      = Ideal.div (e (ix5 b t h g j)) (∑ k : Fin 8192, e (ix5 b t h g k) + Ideal.exp (z (ix5 b t h g 0) - x (ix5 b t h g 0))) := by
  pointwise [normed]

theorem summed_apply (y : FVec Ideal S16384x4608 .f32) (a : FVec Ideal S2x8192x4x4x8192 .f32) (b : Fin 2) (h g : Fin 4) (t : Fin 8192) (d : Fin 64) :
    summed y a (ix2 ⟨b.val * 8192 + t.val, by omega⟩ ⟨(h.val * 4 + g.val) * 64 + d.val, by omega⟩)
      = ∑ j : Fin 8192, y (ix2 ⟨b.val * 8192 + j.val, by omega⟩ ⟨4352 + (h.val * 64 + d.val), by omega⟩) * a (ix5 b t h g j) := by
  pointwise [summed]

/-- The reference's result at a position: the row of masked scores with its sink. -/
theorem result_apply (y : FVec Ideal S16384x4608 .f32) (z : FVec Ideal S16 .f32) (b : Fin 2) (h g : Fin 4) (t : Fin 8192) (d : Fin 64) :
    result y z (ix2 ⟨b.val * 8192 + t.val, by omega⟩ ⟨(h.val * 4 + g.val) * 64 + d.val, by omega⟩)
      = Sinks.sinked (fun j : Fin 8192 => masked (scores y) (ix5 b t h g j))
        (fun j : Fin 8192 => y (ix2 ⟨b.val * 8192 + j.val, by omega⟩ ⟨4352 + (h.val * 64 + d.val), by omega⟩)) (z (ix1 ⟨h.val * 4 + g.val, by omega⟩)) := by
  unfold result Sinks.sinked
  rw [summed_apply]
  simp only [normed_apply, expo_apply, top_apply, sink_apply]

end Cert.Reference9Ideal.Swa

end
-- ==== Proof.SinksArray.lean ====
/- The sliding-window attention's whole result: the blocks staged at a grid point as entries of the arguments, what it
   writes against the reference's value there, and the blocks together covering the array. -/
module

public import proofs.«01_k».proof.Proof.SinksBlock
public import proofs.«01_k».proof.Proof.SinksRef
public import proofs.«01_k».proof.Proof.Array
public import Idealize.ShloMosaic.Lib.Pipeline.ValueKit
public import Idealize.ShloMosaic.Lib.StableHlo.ReadAt

@[expose] public section

set_option maxRecDepth 16384
set_option maxHeartbeats 1000000

noncomputable section

namespace Cert.Kernel9Ideal.Swa

open Cert.Kernel9Ideal Cert.Kernel9Ideal.Gen Idealize.ShloMosaic Idealize.ShloMosaic.TcCoe Idealize.SL.Sem
open Idealize.ShloMosaic.Pipeline (Dat)
open Cert.KernelIdeal.Attn (lanes_lo lanes_hi)

theorem idx0 : ∀ t : Fin grid0.N, win0_0.index t = ![0] := by decide +kernel
theorem idx1 : ∀ t : Fin grid0.N, win0_1.index t = ![16 * (grid0.coords t 0).val + (grid0.coords t 2).val, 16 + (grid0.coords t 1).val] := by decide +kernel
theorem idx2 : ∀ t : Fin grid0.N, win0_2.index t = ![(grid0.coords t 0).val, 24 + (grid0.coords t 1).val / 2] := by decide +kernel
theorem idx3 : ∀ t : Fin grid0.N, win0_3.index t = ![(grid0.coords t 0).val, 8 + (grid0.coords t 1).val / 2] := by decide +kernel
theorem idx4 : ∀ t : Fin grid0.N, win0_4.index t = ![16 * (grid0.coords t 0).val + (grid0.coords t 2).val, (grid0.coords t 1).val] := by decide +kernel

variable (m : (ℓ : Loc nD τ sig) → Buf (Elt Ideal) ℓ) (c : Dev nD)

/-- The two arguments: the activations and the sinks. -/
abbrev act : FVec Ideal S16384x4608 .f32 := m ((c : Thread nD τ).loc main_arg0)
abbrev sinks : FVec Ideal S16 .f32 := m ((c : Thread nD τ).loc main_arg1)

/-- The queries as laid out: two heads side by side, scaled. -/
theorem q_entry (t : Fin 16384) (h : Fin 8) (l : Fin 128) :
    V m c main_v24 (ix2 t ⟨(16 + h.val) * 128 + l.val, by omega⟩)
      = (act m c (ix2 t ⟨3072 + (h.val * 128 + l.val), by omega⟩) * Ideal.ofBits .f32 0x3E000000#32 : EReal) := by
  unfold V
  after_reads_at
  rw [dif_neg (by omega), dif_neg (by omega), dif_pos (by omega)]
  after_reads_at
  refine congrArg (fun x => (act m c (ix2 t x) * Ideal.ofBits .f32 0x3E000000#32 : EReal)) (Fin.ext ?_)
  show 3072 + ((16 + h.val) * 128 + l.val - 1024 - 1024) = 3072 + (h.val * 128 + l.val)
  omega

/-- The keys as laid out: each key head twice, side by side. -/
theorem k_entry (t : Fin 16384) (h : Fin 4) (l : Fin 128) :
    V m c main_v24 (ix2 t ⟨(24 + h.val) * 128 + l.val, by omega⟩) = (act m c (ix2 t ⟨4096 + (h.val * 64 + l.val % 64), by omega⟩) : EReal) := by
  unfold V
  after_reads_at
  rw [dif_neg (by omega), dif_neg (by omega), dif_neg (by omega), dif_pos (by omega)]
  after_reads_at
  refine congrArg (fun x => (act m c (ix2 t x) : EReal)) (Fin.ext ?_)
  show 4096 + (((24 + h.val) * 128 + l.val - 1024 - 1024 - 1024) / 128 * 64 + ((24 + h.val) * 128 + l.val - 1024 - 1024 - 1024) % 64)
    = 4096 + (h.val * 64 + l.val % 64)
  omega

/-- The values as laid out, likewise. -/
theorem v_entry (t : Fin 16384) (h : Fin 4) (l : Fin 128) :
    V m c main_v25 (ix2 t ⟨(8 + h.val) * 128 + l.val, by omega⟩) = (act m c (ix2 t ⟨4352 + (h.val * 64 + l.val % 64), by omega⟩) : EReal) := by
  unfold V
  after_reads_at
  rw [dif_neg (by omega), dif_neg (by omega), dif_neg (by omega), dif_neg (by omega), dif_neg (by omega)]
  simp only [show 3584 + ((8 + h.val) * 128 + l.val) - 1024 - 1024 - 1024 - 512 - 1024 = h.val * 128 + l.val by omega]
  after_reads_at
  refine congrArg (fun x => (act m c (ix2 t x) : EReal)) (Fin.ext ?_)
  show 4352 + (h.val * 64 + (h.val * 128 + l.val) % 64) = 4352 + (h.val * 64 + l.val % 64)
  omega

theorem coord0_lt (t : Fin cfg0.N) : (grid0.coords t 0).val < 2 := (grid0.coords t 0).isLt
theorem coord1_lt (t : Fin cfg0.N) : (grid0.coords t 1).val < 8 := (grid0.coords t 1).isLt

theorem iblk0 (t : Fin cfg0.N) : iblk m c 0 t = sinks m c := by
  funext y
  blk_ext [iblk, V_main_arg1, idx0 t]

theorem iblk1 (t : Fin cfg0.N) (p : Fin 512) (l : Fin 128) (h1) (h2) :
    iblk m c 1 t (ix2 p l) = V m c main_v24 (ix2 ⟨(grid0.coords t 0).val * 8192 + (512 * (grid0.coords t 2).val + p.val), h1⟩
      ⟨(16 + (grid0.coords t 1).val) * 128 + l.val, h2⟩) := by
  blk_ext [iblk, idx1 t]

theorem iblk2 (t : Fin cfg0.N) (r : Fin 8192) (l : Fin 128) (h1) (h2) :
    iblk m c 2 t (ix2 r l) = V m c main_v24 (ix2 ⟨(grid0.coords t 0).val * 8192 + r.val, h1⟩ ⟨(24 + (grid0.coords t 1).val / 2) * 128 + l.val, h2⟩) := by
  blk_ext [iblk, idx2 t]

theorem iblk3 (t : Fin cfg0.N) (r : Fin 8192) (l : Fin 128) (h1) (h2) :
    iblk m c 3 t (ix2 r l) = V m c main_v25 (ix2 ⟨(grid0.coords t 0).val * 8192 + r.val, h1⟩ ⟨(8 + (grid0.coords t 1).val / 2) * 128 + l.val, h2⟩) := by
  blk_ext [iblk, idx3 t]

/-- The scaled score of query `512 e + r % 512` and key `j`, for head `r / 512` of pair `n` in batch `b`. -/
def score (Y : Nat → Nat → ℝ) (b n e r j : Nat) : ℝ :=
  ∑ d : Fin 64, Y (b * 8192 + (512 * e + r % 512)) (3072 + (n * 128 + (r / 512 * 64 + d.val))) * (1 / 8) * Y (b * 8192 + j) (4096 + (n / 2 * 64 + d.val))

/-- The stacked queries times the keys are the scores. -/
theorem score_eq (Y : Nat → Nat → ℝ)
    (hY : ∀ (t : Fin 16384) (x : Nat) (h : 3072 + x < 4608), x < 1280 → act m c (ix2 t ⟨3072 + x, h⟩) = ((Y t.val (3072 + x) : ℝ) : EReal))
    (t : Fin cfg0.N) (r : Fin 1024) (j : Fin 8192) :
    (∑ l : Fin 128, halves (iblk m c 1 t) (ix2 r l) * iblk m c 2 t (ix2 j l) : EReal)
      = ((score Y (grid0.coords t 0).val (grid0.coords t 1).val (grid0.coords t 2).val r.val j.val : ℝ) : EReal) := by
  have h0 := coord0_lt t
  have h1 := coord1_lt t
  have h2 := coord2_lt (grid0.coords t)
  have hq : ∀ (p : Fin 512) (l : Fin 128), iblk m c 1 t (ix2 p l) = ((Y ((grid0.coords t 0).val * 8192 + (512 * (grid0.coords t 2).val + p.val))
      (3072 + ((grid0.coords t 1).val * 128 + l.val)) * (1 / 8) : ℝ) : EReal) := fun p l => by
    rw [iblk1 m c t p l (by omega) (by omega), q_entry m c _ ⟨_, h1⟩ l, hY _ _ _ (by show (grid0.coords t 1).val * 128 + l.val < 1280; omega), Consts.eighth, ← EReal.coe_mul]
  have hk : ∀ l : Fin 128, iblk m c 2 t (ix2 j l) = ((Y ((grid0.coords t 0).val * 8192 + j.val)
      (4096 + ((grid0.coords t 1).val / 2 * 64 + l.val % 64)) : ℝ) : EReal) := fun l => by
    have h := hY ⟨(grid0.coords t 0).val * 8192 + j.val, by omega⟩ (1024 + ((grid0.coords t 1).val / 2 * 64 + l.val % 64)) (by omega) (by omega)
    simp only [← Nat.add_assoc] at h
    rw [iblk2 m c t j l (by omega) (by omega), k_entry m c _ ⟨(grid0.coords t 1).val / 2, by omega⟩ l]
    simp only [← Nat.add_assoc]
    exact h
  unfold score
  rcases Nat.lt_or_ge r.val 512 with h | h
  · obtain ⟨p, rfl⟩ : ∃ p : Fin 512, r = ⟨p.val, Nat.lt_trans p.isLt (by norm_num)⟩ := ⟨⟨r.val, h⟩, rfl⟩
    have hp := p.isLt
    rw [lanes_lo _ _ (fun n => Y ((grid0.coords t 0).val * 8192 + (512 * (grid0.coords t 2).val + p.val)) (3072 + ((grid0.coords t 1).val * 128 + n)) * (1 / 8))
      (fun n => Y ((grid0.coords t 0).val * 8192 + j.val) (4096 + ((grid0.coords t 1).val / 2 * 64 + n % 64)))
      (fun l => (halves_lo _ p l).trans (by rw [hq])) hk]
    congr 1
    refine Finset.sum_congr rfl fun d _ => ?_
    have hd := d.isLt
    simp only [Nat.mod_eq_of_lt hd, Nat.div_eq_of_lt hp, Nat.mod_eq_of_lt hp, Nat.zero_mul, Nat.zero_add]
  · obtain ⟨p, rfl⟩ : ∃ p : Fin 512, r = ⟨512 + p.val, Nat.add_lt_add_left p.isLt 512⟩ :=
      ⟨⟨r.val - 512, by omega⟩, Fin.ext (by show r.val = 512 + (r.val - 512); omega)⟩
    have hp := p.isLt
    rw [lanes_hi _ _ (fun n => Y ((grid0.coords t 0).val * 8192 + (512 * (grid0.coords t 2).val + p.val)) (3072 + ((grid0.coords t 1).val * 128 + n)) * (1 / 8))
      (fun n => Y ((grid0.coords t 0).val * 8192 + j.val) (4096 + ((grid0.coords t 1).val / 2 * 64 + n % 64)))
      (fun l => (halves_hi _ p l).trans (by rw [hq])) hk]
    congr 1
    refine Finset.sum_congr rfl fun d _ => ?_
    have hd := d.isLt
    have e2 : (64 + d.val) % 64 = d.val := by omega
    have e3 : (512 + p.val) / 512 = 1 := by omega
    have e4 : (512 + p.val) % 512 = p.val := by omega
    simp only [e2, e3, e4, Nat.one_mul]

/-- The reference's score is the same sum. -/
theorem ref_score (Y : Nat → Nat → ℝ)
    (hY : ∀ (t : Fin 16384) (x : Nat) (h : 3072 + x < 4608), x < 1280 → act m c (ix2 t ⟨3072 + x, h⟩) = ((Y t.val (3072 + x) : ℝ) : EReal))
    (b : Fin 2) (n : Fin 8) (e : Fin 16) (a : Fin 2) (p : Fin 512) (j : Fin 8192) :
    Cert.Reference9Ideal.Swa.scores (act m c) (ix5 b ⟨512 * e.val + p.val, by omega⟩ ⟨n.val / 2, by omega⟩ ⟨n.val % 2 * 2 + a.val, by omega⟩ j)
      = ((score Y b.val n.val e.val (a.val * 512 + p.val) j.val : ℝ) : EReal) := by
  have hp := p.isLt
  rw [Cert.Reference9Ideal.Swa.scores_apply, Consts.eighth]
  have hq : ∀ l : Fin 64, act m c (ix2 ⟨b.val * 8192 + (512 * e.val + p.val), by omega⟩
      ⟨3072 + (n.val / 2 * 256 + (n.val % 2 * 2 + a.val) * 64 + l.val), by omega⟩)
        = ((Y (b.val * 8192 + (512 * e.val + p.val)) (3072 + (n.val * 128 + (a.val * 64 + l.val))) : ℝ) : EReal) := fun l => by
    rw [hY _ _ _ (by omega)]
    exact congrArg (fun x => ((Y _ (3072 + x) : ℝ) : EReal)) (by omega)
  have hk : ∀ l : Fin 64, act m c (ix2 ⟨b.val * 8192 + j.val, by omega⟩ ⟨4096 + (n.val / 2 * 64 + l.val), by omega⟩)
        = ((Y (b.val * 8192 + j.val) (4096 + (n.val / 2 * 64 + l.val)) : ℝ) : EReal) := fun l => by
    have h := hY ⟨b.val * 8192 + j.val, by omega⟩ (1024 + (n.val / 2 * 64 + l.val)) (by omega) (by omega)
    simp only [← Nat.add_assoc] at h ⊢
    exact h
  simp only [hq, hk, ← EReal.coe_mul]
  rw [Cert.Softmax.coe_sum, ← EReal.coe_mul]
  congr 1
  unfold score
  rw [Finset.sum_mul]
  have e3 : (a.val * 512 + p.val) / 512 = a.val := by omega
  have e4 : (a.val * 512 + p.val) % 512 = p.val := by omega
  simp only [e3, e4]
  exact Finset.sum_congr rfl fun l _ => by ring

/-- Where queries and keys are real numbers and no sink is `+∞` the kernel's result is the reference's. -/
theorem arr_eq (Y : Nat → Nat → ℝ)
    (hY : ∀ (t : Fin 16384) (x : Nat) (h : 3072 + x < 4608), x < 1280 → act m c (ix2 t ⟨3072 + x, h⟩) = ((Y t.val (3072 + x) : ℝ) : EReal))
    (hz : ∀ i, (sinks m c i : EReal) ≠ ⊤) :
    (dats m 0 c).arrAt 4 cfg0.N = Cert.Reference9Ideal.Swa.result (act m c) (sinks m c) := by
  refine (dats m 0 c).arrAt_eq_of_covers 4 _ (by decide +kernel) fun t hf y => ?_
  blk_simp
  have h0 := coord0_lt t
  have h1 := coord1_lt t
  have h2 := coord2_lt (grid0.coords t)
  rw [after0_4]
  idx_vars y
  have he : ((View.whole main_v26).slice (win0_4.rect t)).emb (ix2 y0 y1)
      = ix2 ⟨(⟨_, h0⟩ : Fin 2).val * 8192 + (⟨512 * (grid0.coords t 2).val + y0.val, by omega⟩ : Fin 8192).val, by omega⟩
          ⟨((⟨(grid0.coords t 1).val / 2, by omega⟩ : Fin 4).val * 4 + (⟨(grid0.coords t 1).val % 2 * 2 + y1.val / 64, by omega⟩ : Fin 4).val) * 64
            + (⟨y1.val % 64, by omega⟩ : Fin 64).val, by omega⟩ := by
    blk_ext [idx4 t]
  rw [he, Cert.Reference9Ideal.Swa.result_apply]
  unfold outsAt0
  have hi : 2 * (grid0.coords t 1).val + y1.val / 64 < 16 := by omega
  rw [out_apply c _ _ _ _ _ _ _ _ _ _ _ _ _ _ _ _ (score_eq m c Y hY t) y0 y1 (sinks m c (ix1 ⟨2 * (grid0.coords t 1).val + y1.val / 64, hi⟩))
    (by rw [iblk0]) (hz _)]
  have hs : ∀ j : Fin 8192, Cert.Reference9Ideal.Swa.masked (Cert.Reference9Ideal.Swa.scores (act m c)) (ix5 ⟨(grid0.coords t 0).val, h0⟩
        ⟨512 * (grid0.coords t 2).val + y0.val, by omega⟩ ⟨(grid0.coords t 1).val / 2, by omega⟩ ⟨(grid0.coords t 1).val % 2 * 2 + y1.val / 64, by omega⟩ j)
      = if j.val ≤ 512 * (grid0.coords t 2).val + y0.val ∧ 512 * (grid0.coords t 2).val + y0.val < j.val + 128
          then ((score Y (grid0.coords t 0).val (grid0.coords t 1).val (grid0.coords t 2).val (y1.val / 64 * 512 + y0.val) j.val : ℝ) : EReal) else ⊥ := fun j => by
    rw [Cert.Reference9Ideal.Swa.masked_apply,
      ref_score m c Y hY ⟨_, h0⟩ ⟨_, h1⟩ ⟨_, h2⟩ ⟨y1.val / 64, by omega⟩ y0 j]
  simp only [hs]
  have hv : ∀ j : Fin 8192, iblk m c 3 t (ix2 j y1) = act m c (ix2 ⟨(grid0.coords t 0).val * 8192 + j.val, by omega⟩
      ⟨4352 + ((grid0.coords t 1).val / 2 * 64 + y1.val % 64), by omega⟩) := fun j => by
    rw [iblk3 m c t j y1 (by omega) (by omega), v_entry m c _ ⟨(grid0.coords t 1).val / 2, by omega⟩ y1]
  simp only [hv]
  refine congrArg (Cert.Sinks.sinked _ _) (congrArg (fun x => (sinks m c (ix1 x) : EReal)) (Fin.ext ?_))
  show 2 * (grid0.coords t 1).val + y1.val / 64 = (grid0.coords t 1).val / 2 * 4 + ((grid0.coords t 1).val % 2 * 2 + y1.val / 64)
  omega

end Cert.Kernel9Ideal.Swa

end
-- ==== Proof.Sinks.lean ====
/- The sliding-window attention with sinks: the frames, and its result against the reference's where the queries, the keys
   and the sinks are finite. -/
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.SinksArray
public import proofs.«01_k».proof.Proof.Finite
public import proofs.«01_k».proof.Pre_finite_swa

@[expose] public section

noncomputable section

namespace Cert.Sinks

open Cert.Pre_finite_swa Idealize.ShloMosaic

theorem facts : Cert.Pre_finite_swa.Facts where
  slices_S16384x4608_S16384x1280_0_3072 := by decide
  bcast_S_S16384x1280 := by decide
  reducesTo_S16384x1280_S_d0_1 := by decide
  h_S_ := by decide
  bcast_S_S16 := by decide
  reducesTo_S16_S_d0 := by decide

/-- The precondition, entry by entry: the queries and keys are real numbers and every sink is below `+∞`. -/
theorem of_pre [Cert.Pre_finite_swa.Facts] (y : FVec Ideal S16384x4608 .f32) (z : FVec Ideal S16 .f32) (h : fn (F := Ideal) y z = fun _ => 1#1) :
    (∀ (t : Fin 16384) (x : Nat) (hx : 3072 + x < 4608), x < 1280 →
      y (ix2 t ⟨3072 + x, hx⟩) = (((y (ix2 t ⟨3072 + x, hx⟩) : EReal).toReal : ℝ) : EReal)) ∧ ∀ i, (z i : EReal) ≠ ⊤ := by
  have h0 := congrFun h ix0
  dsimp only [fn] at h0
  have split : ∀ c d : BitVec 1, IntOp.andi c d = 1#1 → c = 1#1 ∧ d = 1#1 := by decide
  obtain ⟨h1, h2⟩ := split _ _ h0
  refine ⟨fun t x hx hx' => ?_, fun i => ?_⟩
  · have h3 := Cert.Finite.real_of_olt (extractStridedSlice S16384x1280 ![0, 3072] y Facts.slices_S16384x4608_S16384x1280_0_3072) _ (ix2 t ⟨x, hx'⟩)
      (Host.reduce_andi_all _ _ _ _ _ h1 (ix2 t ⟨x, hx'⟩))
    have h4 : extractStridedSlice S16384x1280 ![0, 3072] y Facts.slices_S16384x4608_S16384x1280_0_3072 (ix2 t ⟨x, hx'⟩) = y (ix2 t ⟨3072 + x, hx⟩) := by
      pointwise
    rw [h4] at h3
    exact h3
  · have h3 := Host.reduce_andi_all _ _ _ _ _ h2 i
    intro h4
    have e : cmpf .olt z (broadcastInDim S16 ![] Facts.bcast_S_S16 (constant (F := Ideal) S_ .f32 0x7F800000#32)) i = 0#1 := by
      change BitVec.ofBool (decide ((z i : EReal) < _)) = 0#1
      exact congrArg BitVec.ofBool (decide_eq_false (by rw [h4]; exact not_top_lt))
    rw [e] at h3
    exact absurd h3 (by decide)

end Cert.Sinks

namespace Cert.Proof

open Idealize.ShloMosaic Idealize.SL.Sem

/-- The sliding-window attention's reference runs, leaves its arguments and ends with every semaphore at zero. -/
theorem sinks_reference_frame : Cert.quiescent_Reference9Ideal (hReference9Ideal := Cert.Reference9Ideal.Gen.facts) :=
  fun m ρ _ => (θ_run (Cert.Reference9Ideal.defs (F := Ideal)) _ _).mono
    (fun r h => ⟨fun c => (h c).2, sem_eq_zero_of_no_sems (by decide) r.2⟩) (Cert.Reference9Ideal.Value.run m ρ)

/-- From equal arguments with finite queries, keys and sinks the sliding-window attention and its reference end with the
    same array. -/
theorem sinks : Cert.algebraic_Kernel9Ideal_Reference9Ideal_pre_finite_swa (hKernel9Ideal := Cert.Kernel9Ideal.Gen.facts)
    (hReference9Ideal := Cert.Reference9Ideal.Gen.facts) (hPre_finite_swa := Cert.Sinks.facts) := by
  intro m g m' g' hpre hagree
  letI := Cert.Sinks.facts
  refine ⟨fun c => Cert.Reference9Ideal.Swa.result (Cert.Kernel9Ideal.Swa.act m c) (Cert.Kernel9Ideal.Swa.sinks m c), ?_, ?_⟩
  · refine (θ_run (Cert.Kernel9Ideal.defs (F := Ideal)) _ _).mono (fun r h c => ⟨(h c).1.trans ?_, (h c).2⟩) (Cert.Kernel9Ideal.Value.run_blocks m g)
    obtain ⟨hy, hz⟩ := Cert.Sinks.of_pre _ _ (hpre c)
    refine Cert.Kernel9Ideal.Swa.arr_eq m c
      (fun t x => if h : t < 16384 ∧ x < 4608 then (Cert.Kernel9Ideal.Swa.act m c (ix2 ⟨t, h.1⟩ ⟨x, h.2⟩) : EReal).toReal else 0) (fun t x hx hx' => ?_) hz
    rw [dif_pos ⟨t.isLt, hx⟩]
    exact hy t x hx hx'
  · refine (θ_run (Cert.Reference9Ideal.defs (F := Ideal)) _ _).mono (fun r h c => ⟨(h c).1.trans ?_, (h c).2⟩) (Cert.Reference9Ideal.Value.run m' g')
    obtain ⟨h0, h1⟩ := hagree c
    beta_reduce
    rw [show Cert.Kernel9Ideal.Swa.act m c = _ from h0.symm, show Cert.Kernel9Ideal.Swa.sinks m c = _ from h1.symm]
    exact Cert.Reference9Ideal.Swa.res_eq m' c

end Cert.Proof

end
-- ==== Proof.lean ====
/- The differential attention of version v08 is the model's wherever the activations and the lambda vectors are finite,
   its sliding-window attention wherever the queries, keys and sinks are finite, its sparse attention's window branch
   wherever the queries and keys are finite, and the sparse attention's selected branch, the input projections, the gated
   output projection and the final norm are the model's everywhere: the frames of every kernel and reference, and their
   equality over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Finite
public import proofs.«01_k».proof.Proof.Residual
public import proofs.«01_k».proof.Proof.FinalNorm
public import proofs.«01_k».proof.Proof.OddIn
public import proofs.«01_k».proof.Proof.EvenIn
public import proofs.«01_k».proof.Proof.PeerIn
public import proofs.«01_k».proof.Proof.Selected
public import proofs.«01_k».proof.Proof.Window
public import proofs.«01_k».proof.Proof.Sinks
public import Idealize.ShloMosaic.Adequacy
public import Idealize.ShloMosaic.Init

@[expose] public section

noncomputable section

namespace Cert.Proof

open Idealize.ShloMosaic Idealize.SL.Sem Cert.Kernel

/-- The reference runs, leaves its arguments and ends with every semaphore at zero. -/
theorem reference_frame : Cert.quiescent_ReferenceIdeal (hReferenceIdeal := Cert.ReferenceIdeal.Gen.facts) :=
  fun m ρ _ => (θ_run (Cert.ReferenceIdeal.defs (F := Ideal)) _ _).mono
    (fun r h => ⟨fun c => (h c).2, sem_eq_zero_of_no_sems (by decide) r.2⟩) (Cert.ReferenceIdeal.Value.run m ρ)

/-- From equal arguments with finite activations and lambda vectors, the kernel and the reference end with the same array. -/
theorem attention : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  letI := Cert.Finite.facts
  refine ⟨fun c => Cert.ReferenceIdeal.Attn.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run (Cert.KernelIdeal.defs (F := Ideal)) _ _).mono (fun r h c => ⟨(h c).1.trans ?_, (h c).2⟩) (Cert.KernelIdeal.Value.run_blocks m g)
    obtain ⟨hy, hl⟩ := Cert.Finite.of_pre _ _ _ (hpre c)
    obtain ⟨L, hL⟩ := Cert.KernelIdeal.Attn.lam_real _ hl
    refine Cert.KernelIdeal.Attn.arr_eq m c
      (fun t x => if h : t < 16384 ∧ x < 4608 then (Cert.KernelIdeal.Attn.act m c (ix2 ⟨t, h.1⟩ ⟨x, h.2⟩) : EReal).toReal else 0) (fun t x => ?_) L hL
    rw [dif_pos ⟨t.isLt, x.isLt⟩]
    exact hy _
  · refine (θ_run (Cert.ReferenceIdeal.defs (F := Ideal)) _ _).mono (fun r h c => ⟨(h c).1.trans ?_, (h c).2⟩) (Cert.ReferenceIdeal.Value.run m' g')
    obtain ⟨h0, h1, h2⟩ := hagree c
    show _ = Cert.ReferenceIdeal.Attn.whole _ _ _
    rw [← h0, ← h1, ← h2]
    exact Cert.ReferenceIdeal.Attn.res_eq m' c

theorem claim : Cert.Claim := by
  refine ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.Finite.facts, Cert.Window.facts, Cert.Sinks.facts,
    fun m ρ _ => Cert.Kernel.Gen.frame m ρ, fun m ρ _ => Cert.KernelIdeal.Gen.frame m ρ, fun m ρ _ => Cert.KernelIdeal.Gen.frame m ρ,
    fun m ρ _ => reference_frame m ρ trivial, fun m ρ _ => reference_frame m ρ trivial,
    fun m ρ _ => Cert.Kernel2.Gen.frame m ρ, fun m ρ _ => Cert.Kernel2Ideal.Gen.frame m ρ, residual_reference_frame,
    peer_frame, fun m ρ _ => Cert.Kernel3Ideal.Peer.frame m ρ, peer_reference_frame,
    fun m ρ _ => Cert.Kernel4.Gen.frame m ρ, fun m ρ _ => Cert.Kernel4Ideal.Gen.frame m ρ, norm_reference_frame,
    fun m ρ _ => Cert.Kernel5.Gen.frame m ρ, fun m ρ _ => Cert.Kernel5Ideal.Gen.frame m ρ, odd_reference_frame,
    fun m ρ _ => Cert.Kernel6.Gen.frame m ρ, fun m ρ _ => Cert.Kernel6Ideal.Gen.frame m ρ, even_reference_frame,
    fun m ρ _ => Cert.Kernel7.Gen.frame m ρ, fun m ρ _ => Cert.Kernel7Ideal.Gen.frame m ρ, selected_reference_frame,
    fun m ρ _ => Cert.Kernel8.Gen.frame m ρ, fun m ρ _ => Cert.Kernel8Ideal.Gen.frame m ρ, fun m ρ _ => Cert.Kernel8Ideal.Gen.frame m ρ,
    window_reference_frame, fun m ρ _ => window_reference_frame m ρ trivial,
    fun m ρ _ => Cert.Kernel9.Gen.frame m ρ, fun m ρ _ => Cert.Kernel9Ideal.Gen.frame m ρ, fun m ρ _ => Cert.Kernel9Ideal.Gen.frame m ρ,
    sinks_reference_frame, fun m ρ _ => sinks_reference_frame m ρ trivial,
    trivial, attention, trivial, residual, trivial, peer_in, trivial, final_norm, trivial, odd_in, trivial, even_in,
    selected_scale, selected, window_scale, window, trivial, sinks⟩

end Cert.Proof

end
